-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x256 : Shape := ⟨2, ![1024, 256]⟩
abbrev S256x64 : Shape := ⟨2, ![256, 64]⟩
abbrev S1024x1 : Shape := ⟨2, ![1024, 1]⟩
abbrev S4x256x512 : Shape := ⟨3, ![4, 256, 512]⟩
abbrev S256x512 : Shape := ⟨2, ![256, 512]⟩
abbrev S_ : Shape := ⟨0, ![]⟩

class Facts : Prop where
  bcast_S_S1024x256 : S_.BroadcastsInDim S1024x256 (![] : Fin 0 → Fin S1024x256.rank)
  bcast_S_S256x64 : S_.BroadcastsInDim S256x64 (![] : Fin 0 → Fin S256x64.rank)

variable [Facts]

def fn {F : FTy → Type} [FloatOps F] (main_arg0 : FVec F S1024x256 .f32) (main_arg1 : FVec F S256x64 .f32) (main_arg2 : IVec S1024x1 32) (main_arg3 : FVec F S4x256x512 .f32) (main_arg4 : FVec F S256x512 .f32) : IVec S1024x256 1 × IVec S256x64 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_v3 : FVec F S256x64 .f32 := Host.absf main_arg1
  let main_cst_0 : FVec F S_ .f32 := constant S_ .f32 0x7F800000#32
  let main_v4 : FVec F S256x64 .f32 := broadcastInDim S256x64 ![] bcast_S_S256x64 main_cst_0
  let main_v5 : IVec S256x64 1 := cmpf .olt main_v3 main_v4
  (main_v2, main_v5)
-- ==== Pre_finite_ReferenceIdeal.lean ====
abbrev S1024x256 : Shape := ⟨2, ![1024, 256]⟩
abbrev S256x64 : Shape := ⟨2, ![256, 64]⟩
abbrev S1024x1 : Shape := ⟨2, ![1024, 1]⟩
abbrev S64x256x512 : Shape := ⟨3, ![64, 256, 512]⟩
abbrev S256x512 : Shape := ⟨2, ![256, 512]⟩
abbrev S_ : Shape := ⟨0, ![]⟩

class Facts : Prop where
  bcast_S_S1024x256 : S_.BroadcastsInDim S1024x256 (![] : Fin 0 → Fin S1024x256.rank)
  bcast_S_S256x64 : S_.BroadcastsInDim S256x64 (![] : Fin 0 → Fin S256x64.rank)

variable [Facts]

def fn {F : FTy → Type} [FloatOps F] (main_arg0 : FVec F S1024x256 .f32) (main_arg1 : FVec F S256x64 .f32) (main_arg2 : IVec S1024x1 32) (main_arg3 : FVec F S64x256x512 .f32) (main_arg4 : FVec F S256x512 .f32) : IVec S1024x256 1 × IVec S256x64 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_v3 : FVec F S256x64 .f32 := Host.absf main_arg1
  let main_cst_0 : FVec F S_ .f32 := constant S_ .f32 0x7F800000#32
  let main_v4 : FVec F S256x64 .f32 := broadcastInDim S256x64 ![] bcast_S_S256x64 main_cst_0
  let main_v5 : IVec S256x64 1 := cmpf .olt main_v3 main_v4
  (main_v2, main_v5)
-- ==== Kernel.lean ====
abbrev S1024x256 : Shape := ⟨2, ![1024, 256]⟩
abbrev S256x64 : Shape := ⟨2, ![256, 64]⟩
abbrev S1024x1 : Shape := ⟨2, ![1024, 1]⟩
abbrev S4x256x512 : Shape := ⟨3, ![4, 256, 512]⟩
abbrev S256x512 : Shape := ⟨2, ![256, 512]⟩
abbrev S1024x512 : Shape := ⟨2, ![1024, 512]⟩
abbrev S2x1024x256 : Shape := ⟨3, ![2, 1024, 256]⟩
abbrev S2x2x3x3 : Shape := ⟨4, ![2, 2, 3, 3]⟩
abbrev S_ : Shape := ⟨0, ![]⟩
abbrev S1024x64 : Shape := ⟨2, ![1024, 64]⟩
abbrev S1024 : Shape := ⟨1, ![1024]⟩
abbrev S1x256x256 : Shape := ⟨3, ![1, 256, 256]⟩
abbrev S256x256 : Shape := ⟨2, ![256, 256]⟩
abbrev S1x1024x256 : Shape := ⟨3, ![1, 1024, 256]⟩
abbrev S1x1x1x1 : Shape := ⟨4, ![1, 1, 1, 1]⟩
abbrev S1x512x256 : Shape := ⟨3, ![1, 512, 256]⟩
abbrev S512x256 : Shape := ⟨2, ![512, 256]⟩
abbrev S1x128x256 : Shape := ⟨3, ![1, 128, 256]⟩
abbrev S128x256 : Shape := ⟨2, ![128, 256]⟩
abbrev S1x64x256 : Shape := ⟨3, ![1, 64, 256]⟩
abbrev S64x256 : Shape := ⟨2, ![64, 256]⟩

abbrev nBuf : Space → Nat
  | .hbm => 6
  | .vmem => 10
  | .smem => 0
  | _ => 0

abbrev bufTy : (tb : Table) → Fin (tcTables nBuf tb) → BufTy
  | .hbm, ⟨0, _⟩ => ⟨S1024x256, .f32⟩
  | .hbm, ⟨1, _⟩ => ⟨S256x64, .f32⟩
  | .hbm, ⟨2, _⟩ => ⟨S1024x1, .i32⟩
  | .hbm, ⟨3, _⟩ => ⟨S4x256x512, .f32⟩
  | .hbm, ⟨4, _⟩ => ⟨S256x512, .f32⟩
  | .hbm, ⟨5, _⟩ => ⟨S1024x512, .f32⟩
  | .local _ .vmem, ⟨0, _⟩ => ⟨S1024x256, .f32⟩
  | .local _ .vmem, ⟨1, _⟩ => ⟨S256x64, .f32⟩
  | .local _ .vmem, ⟨2, _⟩ => ⟨S1024x1, .i32⟩
  | .local _ .vmem, ⟨3, _⟩ => ⟨S4x256x512, .f32⟩
  | .local _ .vmem, ⟨4, _⟩ => ⟨S256x512, .f32⟩
  | .local _ .vmem, ⟨5, _⟩ => ⟨S1024x512, .f32⟩
  | .local _ .vmem, ⟨6, _⟩ => ⟨S2x1024x256, .f32⟩
  | .local _ .vmem, ⟨7, _⟩ => ⟨S2x1024x256, .f32⟩
  | .local _ .vmem, ⟨8, _⟩ => ⟨S2x1024x256, .f32⟩
  | .local _ .vmem, ⟨9, _⟩ => ⟨S1024x1, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => false
  | ⟨1, _⟩ => true
  | _ => false

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  (ofTc nBuf bufTy 2 78 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c1_i32_0 : BitVec 32 := 1#32
  let v6 : BitVec 32 := Scalar.addi v3 c1_i32_0
  let c3_i32_1 : BitVec 32 := 3#32
  let v7 : BitVec 32 := Scalar.andi v6 c3_i32_1
  let v8 : BitVec 32 := Scalar.addi v4 v7
  let c1_i32_6 : BitVec 32 := 1#32
  let v17 : BitVec 32 := Scalar.muli v8 c1_i32_6
  let v18 : BitVec 32 := Scalar.addi c0_i32 v17
  v18.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c2_i32 : BitVec 32 := 2#32
  let v9 : BitVec 32 := Scalar.addi v3 c2_i32
  let c3_i32_2 : BitVec 32 := 3#32
  let v10 : BitVec 32 := Scalar.andi v9 c3_i32_2
  let v11 : BitVec 32 := Scalar.addi v4 v10
  let c1_i32_8 : BitVec 32 := 1#32
  let v19 : BitVec 32 := Scalar.muli v11 c1_i32_8
  let v20 : BitVec 32 := Scalar.addi c0_i32_9 v19
  v20.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c3_i32_3 : BitVec 32 := 3#32
  let v12 : BitVec 32 := Scalar.addi v3 c3_i32_3
  let c3_i32_4 : BitVec 32 := 3#32
  let v13 : BitVec 32 := Scalar.andi v12 c3_i32_4
  let v14 : BitVec 32 := Scalar.addi v4 v13
  let c1_i32_11 : BitVec 32 := 1#32
  let v21 : BitVec 32 := Scalar.muli v14 c1_i32_11
  let v22 : BitVec 32 := Scalar.addi c0_i32_12 v21
  v22.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v15 : BitVec 32 := Scalar.xori v2 c4_i32
  let c1_i32_14 : BitVec 32 := 1#32
  let v23 : BitVec 32 := Scalar.muli v15 c1_i32_14
  let v24 : BitVec 32 := Scalar.addi c0_i32_15 v23
  v24.toNat
def k0_dev5 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.xori v2 c8_i32
  let c1_i32_17 : BitVec 32 := 1#32
  let v25 : BitVec 32 := Scalar.muli v16 c1_i32_17
  let v26 : BitVec 32 := Scalar.addi c0_i32_18 v25
  v26.toNat
def k0_off1 (d0 : Dev nD) (c1_i32_68 : BitVec 32) : Fin 3 → Nat :=
  let c0_i32_76 : BitVec 32 := 0#32
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v114 : BitVec 32 := Scalar.addi v3 c1_i32_68
  let c3_i32_69 : BitVec 32 := 3#32
  let v115 : BitVec 32 := Scalar.andi v114 c3_i32_69
  let v117 : BitVec 32 := Scalar.subi v3 v115
  let c1_i32_70 : BitVec 32 := 1#32
  let v118 : BitVec 32 := Scalar.subi v117 c1_i32_70
  let c3_i32_71 : BitVec 32 := 3#32
  let v119 : BitVec 32 := Scalar.andi v118 c3_i32_71
  let c256_i32_73 : BitVec 32 := 256#32
  let v122 : BitVec 32 := Scalar.muli v119 c256_i32_73
  let v123 : BitVec 32 := Scalar.addi c0_i32_74 v122
  let c0_i32_87 : BitVec 32 := 0#32
  ![0, v123.toNat, 0]
def k0_off2 (d0 : Dev nD) (c1_i32_68 : BitVec 32) : Fin 3 → Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_29 : BitVec 32 := 0#32
  let v54 : BitVec 32 := Scalar.muli v2 c0_i32_29
  let c3_i32 : BitVec 32 := 3#32
  let v3 : BitVec 32 := Scalar.andi v2 c3_i32
  let v114 : BitVec 32 := Scalar.addi v3 c1_i32_68
  let c3_i32_69 : BitVec 32 := 3#32
  let v115 : BitVec 32 := Scalar.andi v114 c3_i32_69
  let c256_i32_72 : BitVec 32 := 256#32
  let v120 : BitVec 32 := Scalar.muli v115 c256_i32_72
  let v121 : BitVec 32 := Scalar.addi v54 v120
  let c0_i32_88 : BitVec 32 := 0#32
  ![0, v121.toNat, 0]
def k0_dev6 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c1_i32_68 : BitVec 32 := 1#32
  let v114 : BitVec 32 := Scalar.addi v3 c1_i32_68
  let c3_i32_69 : BitVec 32 := 3#32
  let v115 : BitVec 32 := Scalar.andi v114 c3_i32_69
  let v116 : BitVec 32 := Scalar.addi v4 v115
  let c1_i32_85 : BitVec 32 := 1#32
  let v124 : BitVec 32 := Scalar.muli v116 c1_i32_85
  let v125 : BitVec 32 := Scalar.addi c0_i32_86 v124
  v125.toNat
def k0_dev7 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c2_i32_89 : BitVec 32 := 2#32
  let v134 : BitVec 32 := Scalar.addi v3 c2_i32_89
  let c3_i32_90 : BitVec 32 := 3#32
  let v135 : BitVec 32 := Scalar.andi v134 c3_i32_90
  let v136 : BitVec 32 := Scalar.addi v4 v135
  let c1_i32_106 : BitVec 32 := 1#32
  let v144 : BitVec 32 := Scalar.muli v136 c1_i32_106
  let v145 : BitVec 32 := Scalar.addi c0_i32_107 v144
  v145.toNat
def k0_dev8 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c3_i32_110 : BitVec 32 := 3#32
  let v154 : BitVec 32 := Scalar.addi v3 c3_i32_110
  let c3_i32_111 : BitVec 32 := 3#32
  let v155 : BitVec 32 := Scalar.andi v154 c3_i32_111
  let v156 : BitVec 32 := Scalar.addi v4 v155
  let c1_i32_127 : BitVec 32 := 1#32
  let v164 : BitVec 32 := Scalar.muli v156 c1_i32_127
  let v165 : BitVec 32 := Scalar.addi c0_i32_128 v164
  v165.toNat
def k0_off3 (d0 : Dev nD) : Fin 3 → Nat :=
  let c1_i32_175 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_30 : BitVec 32 := 0#32
  let v55 : BitVec 32 := Scalar.muli v2 c0_i32_30
  let c1_i32_172 : BitVec 32 := 1#32
  let c2_i32_170 : BitVec 32 := 2#32
  let v230 : BitVec 32 := Scalar.shrsi v2 c2_i32_170
  let c1_i32_171 : BitVec 32 := 1#32
  let v231 : BitVec 32 := Scalar.andi v230 c1_i32_171
  let v232 : BitVec 32 := Scalar.subi c1_i32_172 v231
  let c512_i32 : BitVec 32 := 512#32
  let v233 : BitVec 32 := Scalar.muli v232 c512_i32
  let v234 : BitVec 32 := Scalar.addi v55 v233
  let c0_i32_189 : BitVec 32 := 0#32
  ![1, v234.toNat, 0]
def k0_dev9 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_174 : BitVec 32 := 4#32
  let v237 : BitVec 32 := Scalar.xori v2 c4_i32_174
  let c1_i32_185 : BitVec 32 := 1#32
  let v238 : BitVec 32 := Scalar.muli v237 c1_i32_185
  let v239 : BitVec 32 := Scalar.addi c0_i32_186 v238
  v239.toNat
def k0_off4 (d0 : Dev nD) : Fin 3 → Nat :=
  let c0_271 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_29 : BitVec 32 := 0#32
  let v54 : BitVec 32 := Scalar.muli v2 c0_i32_29
  let c3_i32 : BitVec 32 := 3#32
  let v3 : BitVec 32 := Scalar.andi v2 c3_i32
  let c256_i32 : BitVec 32 := 256#32
  let v112 : BitVec 32 := Scalar.muli v3 c256_i32
  let v113 : BitVec 32 := Scalar.addi v54 v112
  let v290 : Index := Scalar.indexCast v113
  let c0_272 : Index := 0#32
  ![0, v290.toNat, 0]
def k0_off5 (d0 : Dev nD) : Fin 3 → Nat :=
  let c0_i32_288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_29 : BitVec 32 := 0#32
  let v54 : BitVec 32 := Scalar.muli v2 c0_i32_29
  let c3_i32 : BitVec 32 := 3#32
  let v3 : BitVec 32 := Scalar.andi v2 c3_i32
  let c256_i32 : BitVec 32 := 256#32
  let v112 : BitVec 32 := Scalar.muli v3 c256_i32
  let v113 : BitVec 32 := Scalar.addi v54 v112
  let c1_i32_285 : BitVec 32 := 1#32
  let c2_i32_283 : BitVec 32 := 2#32
  let v306 : BitVec 32 := Scalar.shrsi v2 c2_i32_283
  let c1_i32_284 : BitVec 32 := 1#32
  let v307 : BitVec 32 := Scalar.andi v306 c1_i32_284
  let v308 : BitVec 32 := Scalar.subi c1_i32_285 v307
  let c128_i32 : BitVec 32 := 128#32
  let v309 : BitVec 32 := Scalar.muli v308 c128_i32
  let v310 : BitVec 32 := Scalar.addi v113 v309
  let c0_i32_301 : BitVec 32 := 0#32
  ![0, v310.toNat, 0]
def k0_dev10 (d0 : Dev nD) : Nat :=
  let c0_i32_299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_287 : BitVec 32 := 4#32
  let v313 : BitVec 32 := Scalar.xori v2 c4_i32_287
  let c1_i32_298 : BitVec 32 := 1#32
  let v314 : BitVec 32 := Scalar.muli v313 c1_i32_298
  let v315 : BitVec 32 := Scalar.addi c0_i32_299 v314
  v315.toNat
def k0_off6 (d0 : Dev nD) : Fin 3 → Nat :=
  let c1_331 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_30 : BitVec 32 := 0#32
  let v55 : BitVec 32 := Scalar.muli v2 c0_i32_30
  let c2_i32_170 : BitVec 32 := 2#32
  let v230 : BitVec 32 := Scalar.shrsi v2 c2_i32_170
  let c1_i32_171 : BitVec 32 := 1#32
  let v231 : BitVec 32 := Scalar.andi v230 c1_i32_171
  let c512_i32_173 : BitVec 32 := 512#32
  let v235 : BitVec 32 := Scalar.muli v231 c512_i32_173
  let v236 : BitVec 32 := Scalar.addi v55 v235
  let v338 : Index := Scalar.indexCast v236
  let c0_332 : Index := 0#32
  ![1, v338.toNat, 0]
def k0_off7 (d0 : Dev nD) : Fin 3 → Nat :=
  let c1_i32_344 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_30 : BitVec 32 := 0#32
  let v55 : BitVec 32 := Scalar.muli v2 c0_i32_30
  let c2_i32_170 : BitVec 32 := 2#32
  let v230 : BitVec 32 := Scalar.shrsi v2 c2_i32_170
  let c1_i32_171 : BitVec 32 := 1#32
  let v231 : BitVec 32 := Scalar.andi v230 c1_i32_171
  let c512_i32_173 : BitVec 32 := 512#32
  let v235 : BitVec 32 := Scalar.muli v231 c512_i32_173
  let v236 : BitVec 32 := Scalar.addi v55 v235
  let c1_i32_340 : BitVec 32 := 1#32
  let c3_i32_338 : BitVec 32 := 3#32
  let v348 : BitVec 32 := Scalar.shrsi v2 c3_i32_338
  let c1_i32_339 : BitVec 32 := 1#32
  let v349 : BitVec 32 := Scalar.andi v348 c1_i32_339
  let v350 : BitVec 32 := Scalar.subi c1_i32_340 v349
  let c256_i32_341 : BitVec 32 := 256#32
  let v351 : BitVec 32 := Scalar.muli v350 c256_i32_341
  let v352 : BitVec 32 := Scalar.addi v236 v351
  let c0_i32_358 : BitVec 32 := 0#32
  ![1, v352.toNat, 0]
def k0_dev11 (d0 : Dev nD) : Nat :=
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_343 : BitVec 32 := 8#32
  let v355 : BitVec 32 := Scalar.xori v2 c8_i32_343
  let c1_i32_354 : BitVec 32 := 1#32
  let v356 : BitVec 32 := Scalar.muli v355 c1_i32_354
  let v357 : BitVec 32 := Scalar.addi c0_i32_355 v356
  v357.toNat
def k0_off8 (d0 : Dev nD) : Fin 3 → Nat :=
  let c0_388 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_29 : BitVec 32 := 0#32
  let v54 : BitVec 32 := Scalar.muli v2 c0_i32_29
  let c3_i32 : BitVec 32 := 3#32
  let v3 : BitVec 32 := Scalar.andi v2 c3_i32
  let c256_i32 : BitVec 32 := 256#32
  let v112 : BitVec 32 := Scalar.muli v3 c256_i32
  let v113 : BitVec 32 := Scalar.addi v54 v112
  let c2_i32_283 : BitVec 32 := 2#32
  let v306 : BitVec 32 := Scalar.shrsi v2 c2_i32_283
  let c1_i32_284 : BitVec 32 := 1#32
  let v307 : BitVec 32 := Scalar.andi v306 c1_i32_284
  let c128_i32_286 : BitVec 32 := 128#32
  let v311 : BitVec 32 := Scalar.muli v307 c128_i32_286
  let v312 : BitVec 32 := Scalar.addi v113 v311
  let v380 : Index := Scalar.indexCast v312
  let c0_389 : Index := 0#32
  ![0, v380.toNat, 0]
def k0_off9 (d0 : Dev nD) : Fin 3 → Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_29 : BitVec 32 := 0#32
  let v54 : BitVec 32 := Scalar.muli v2 c0_i32_29
  let c3_i32 : BitVec 32 := 3#32
  let v3 : BitVec 32 := Scalar.andi v2 c3_i32
  let c256_i32 : BitVec 32 := 256#32
  let v112 : BitVec 32 := Scalar.muli v3 c256_i32
  let v113 : BitVec 32 := Scalar.addi v54 v112
  let c2_i32_283 : BitVec 32 := 2#32
  let v306 : BitVec 32 := Scalar.shrsi v2 c2_i32_283
  let c1_i32_284 : BitVec 32 := 1#32
  let v307 : BitVec 32 := Scalar.andi v306 c1_i32_284
  let c128_i32_286 : BitVec 32 := 128#32
  let v311 : BitVec 32 := Scalar.muli v307 c128_i32_286
  let v312 : BitVec 32 := Scalar.addi v113 v311
  let c1_i32_396 : BitVec 32 := 1#32
  let c3_i32_394 : BitVec 32 := 3#32
  let v390 : BitVec 32 := Scalar.shrsi v2 c3_i32_394
  let c1_i32_395 : BitVec 32 := 1#32
  let v391 : BitVec 32 := Scalar.andi v390 c1_i32_395
  let v392 : BitVec 32 := Scalar.subi c1_i32_396 v391
  let c64_i32 : BitVec 32 := 64#32
  let v393 : BitVec 32 := Scalar.muli v392 c64_i32
  let v394 : BitVec 32 := Scalar.addi v312 v393
  let c0_i32_412 : BitVec 32 := 0#32
  ![0, v394.toNat, 0]
def k0_dev12 (d0 : Dev nD) : Nat :=
  let c0_i32_410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_398 : BitVec 32 := 8#32
  let v397 : BitVec 32 := Scalar.xori v2 c8_i32_398
  let c1_i32_409 : BitVec 32 := 1#32
  let v398 : BitVec 32 := Scalar.muli v397 c1_i32_409
  let v399 : BitVec 32 := Scalar.addi c0_i32_410 v398
  v399.toNat
def k0_off10 (d0 : Dev nD) : Fin 3 → Nat :=
  let c1_442 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_30 : BitVec 32 := 0#32
  let v55 : BitVec 32 := Scalar.muli v2 c0_i32_30
  let c2_i32_170 : BitVec 32 := 2#32
  let v230 : BitVec 32 := Scalar.shrsi v2 c2_i32_170
  let c1_i32_171 : BitVec 32 := 1#32
  let v231 : BitVec 32 := Scalar.andi v230 c1_i32_171
  let c512_i32_173 : BitVec 32 := 512#32
  let v235 : BitVec 32 := Scalar.muli v231 c512_i32_173
  let v236 : BitVec 32 := Scalar.addi v55 v235
  let c3_i32_338 : BitVec 32 := 3#32
  let v348 : BitVec 32 := Scalar.shrsi v2 c3_i32_338
  let c1_i32_339 : BitVec 32 := 1#32
  let v349 : BitVec 32 := Scalar.andi v348 c1_i32_339
  let c256_i32_342 : BitVec 32 := 256#32
  let v353 : BitVec 32 := Scalar.muli v349 c256_i32_342
  let v354 : BitVec 32 := Scalar.addi v236 v353
  let v422 : Index := Scalar.indexCast v354
  let c0_443 : Index := 0#32
  ![1, v422.toNat, 0]
def k0_off11 (d0 : Dev nD) (c1_i32_450 : BitVec 32) : Fin 3 → Nat :=
  let c1_i32_458 : BitVec 32 := 1#32
  let c768_i32_456 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v434 : BitVec 32 := Scalar.addi v3 c1_i32_450
  let c3_i32_451 : BitVec 32 := 3#32
  let v435 : BitVec 32 := Scalar.andi v434 c3_i32_451
  let v437 : BitVec 32 := Scalar.subi v3 v435
  let c1_i32_452 : BitVec 32 := 1#32
  let v438 : BitVec 32 := Scalar.subi v437 c1_i32_452
  let c3_i32_453 : BitVec 32 := 3#32
  let v439 : BitVec 32 := Scalar.andi v438 c3_i32_453
  let c64_i32_455 : BitVec 32 := 64#32
  let v442 : BitVec 32 := Scalar.muli v439 c64_i32_455
  let v443 : BitVec 32 := Scalar.addi c768_i32_456 v442
  let c0_i32_469 : BitVec 32 := 0#32
  ![1, v443.toNat, 0]
def k0_off12 (d0 : Dev nD) (c1_i32_450 : BitVec 32) : Fin 3 → Nat :=
  let c1_i32_457 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_30 : BitVec 32 := 0#32
  let v55 : BitVec 32 := Scalar.muli v2 c0_i32_30
  let c2_i32_170 : BitVec 32 := 2#32
  let v230 : BitVec 32 := Scalar.shrsi v2 c2_i32_170
  let c1_i32_171 : BitVec 32 := 1#32
  let v231 : BitVec 32 := Scalar.andi v230 c1_i32_171
  let c512_i32_173 : BitVec 32 := 512#32
  let v235 : BitVec 32 := Scalar.muli v231 c512_i32_173
  let v236 : BitVec 32 := Scalar.addi v55 v235
  let c3_i32_338 : BitVec 32 := 3#32
  let v348 : BitVec 32 := Scalar.shrsi v2 c3_i32_338
  let c1_i32_339 : BitVec 32 := 1#32
  let v349 : BitVec 32 := Scalar.andi v348 c1_i32_339
  let c256_i32_342 : BitVec 32 := 256#32
  let v353 : BitVec 32 := Scalar.muli v349 c256_i32_342
  let v354 : BitVec 32 := Scalar.addi v236 v353
  let c3_i32 : BitVec 32 := 3#32
  let v3 : BitVec 32 := Scalar.andi v2 c3_i32
  let v434 : BitVec 32 := Scalar.addi v3 c1_i32_450
  let c3_i32_451 : BitVec 32 := 3#32
  let v435 : BitVec 32 := Scalar.andi v434 c3_i32_451
  let c64_i32_454 : BitVec 32 := 64#32
  let v440 : BitVec 32 := Scalar.muli v435 c64_i32_454
  let v441 : BitVec 32 := Scalar.addi v354 v440
  let c0_i32_470 : BitVec 32 := 0#32
  ![1, v441.toNat, 0]
def k0_dev13 (d0 : Dev nD) : Nat :=
  let c0_i32_468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c1_i32_450 : BitVec 32 := 1#32
  let v434 : BitVec 32 := Scalar.addi v3 c1_i32_450
  let c3_i32_451 : BitVec 32 := 3#32
  let v435 : BitVec 32 := Scalar.andi v434 c3_i32_451
  let v436 : BitVec 32 := Scalar.addi v4 v435
  let c1_i32_467 : BitVec 32 := 1#32
  let v444 : BitVec 32 := Scalar.muli v436 c1_i32_467
  let v445 : BitVec 32 := Scalar.addi c0_i32_468 v444
  v445.toNat
def k0_dev14 (d0 : Dev nD) : Nat :=
  let c0_i32_489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c2_i32_471 : BitVec 32 := 2#32
  let v454 : BitVec 32 := Scalar.addi v3 c2_i32_471
  let c3_i32_472 : BitVec 32 := 3#32
  let v455 : BitVec 32 := Scalar.andi v454 c3_i32_472
  let v456 : BitVec 32 := Scalar.addi v4 v455
  let c1_i32_488 : BitVec 32 := 1#32
  let v464 : BitVec 32 := Scalar.muli v456 c1_i32_488
  let v465 : BitVec 32 := Scalar.addi c0_i32_489 v464
  v465.toNat
def k0_dev15 (d0 : Dev nD) : Nat :=
  let c0_i32_510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c3_i32_492 : BitVec 32 := 3#32
  let v474 : BitVec 32 := Scalar.addi v3 c3_i32_492
  let c3_i32_493 : BitVec 32 := 3#32
  let v475 : BitVec 32 := Scalar.andi v474 c3_i32_493
  let v476 : BitVec 32 := Scalar.addi v4 v475
  let c1_i32_509 : BitVec 32 := 1#32
  let v484 : BitVec 32 := Scalar.muli v476 c1_i32_509
  let v485 : BitVec 32 := Scalar.addi c0_i32_510 v484
  v485.toNat
def k0_off13 (d0 : Dev nD) : Fin 3 → Nat :=
  let c0_542 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_29 : BitVec 32 := 0#32
  let v54 : BitVec 32 := Scalar.muli v2 c0_i32_29
  let c3_i32 : BitVec 32 := 3#32
  let v3 : BitVec 32 := Scalar.andi v2 c3_i32
  let c256_i32 : BitVec 32 := 256#32
  let v112 : BitVec 32 := Scalar.muli v3 c256_i32
  let v113 : BitVec 32 := Scalar.addi v54 v112
  let c2_i32_283 : BitVec 32 := 2#32
  let v306 : BitVec 32 := Scalar.shrsi v2 c2_i32_283
  let c1_i32_284 : BitVec 32 := 1#32
  let v307 : BitVec 32 := Scalar.andi v306 c1_i32_284
  let c128_i32_286 : BitVec 32 := 128#32
  let v311 : BitVec 32 := Scalar.muli v307 c128_i32_286
  let v312 : BitVec 32 := Scalar.addi v113 v311
  let c3_i32_394 : BitVec 32 := 3#32
  let v390 : BitVec 32 := Scalar.shrsi v2 c3_i32_394
  let c1_i32_395 : BitVec 32 := 1#32
  let v391 : BitVec 32 := Scalar.andi v390 c1_i32_395
  let c64_i32_397 : BitVec 32 := 64#32
  let v395 : BitVec 32 := Scalar.muli v391 c64_i32_397
  let v396 : BitVec 32 := Scalar.addi v312 v395
  let v508 : Index := Scalar.indexCast v396
  let c0_543 : Index := 0#32
  ![0, v508.toNat, 0]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_29 : BitVec 32 := 0#32
  let v54 : BitVec 32 := Scalar.muli v2 c0_i32_29
  let c3_i32 : BitVec 32 := 3#32
  let v3 : BitVec 32 := Scalar.andi v2 c3_i32
  let c256_i32 : BitVec 32 := 256#32
  let v112 : BitVec 32 := Scalar.muli v3 c256_i32
  let v113 : BitVec 32 := Scalar.addi v54 v112
  let c2_i32_283 : BitVec 32 := 2#32
  let v306 : BitVec 32 := Scalar.shrsi v2 c2_i32_283
  let c1_i32_284 : BitVec 32 := 1#32
  let v307 : BitVec 32 := Scalar.andi v306 c1_i32_284
  let c128_i32_286 : BitVec 32 := 128#32
  let v311 : BitVec 32 := Scalar.muli v307 c128_i32_286
  let v312 : BitVec 32 := Scalar.addi v113 v311
  let c3_i32_394 : BitVec 32 := 3#32
  let v390 : BitVec 32 := Scalar.shrsi v2 c3_i32_394
  let c1_i32_395 : BitVec 32 := 1#32
  let v391 : BitVec 32 := Scalar.andi v390 c1_i32_395
  let c64_i32_397 : BitVec 32 := 64#32
  let v395 : BitVec 32 := Scalar.muli v391 c64_i32_397
  let v396 : BitVec 32 := Scalar.addi v312 v395
  let v521 : Index := Scalar.indexCast v396
  let c0_550 : Index := 0#32
  ![v521.toNat, 0]
def k0_off15 (d0 : Dev nD) : Fin 3 → Nat :=
  let c0_i32_560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_29 : BitVec 32 := 0#32
  let v54 : BitVec 32 := Scalar.muli v2 c0_i32_29
  let c3_i32 : BitVec 32 := 3#32
  let v3 : BitVec 32 := Scalar.andi v2 c3_i32
  let c256_i32 : BitVec 32 := 256#32
  let v112 : BitVec 32 := Scalar.muli v3 c256_i32
  let v113 : BitVec 32 := Scalar.addi v54 v112
  let c2_i32_283 : BitVec 32 := 2#32
  let v306 : BitVec 32 := Scalar.shrsi v2 c2_i32_283
  let c1_i32_284 : BitVec 32 := 1#32
  let v307 : BitVec 32 := Scalar.andi v306 c1_i32_284
  let c128_i32_286 : BitVec 32 := 128#32
  let v311 : BitVec 32 := Scalar.muli v307 c128_i32_286
  let v312 : BitVec 32 := Scalar.addi v113 v311
  let c3_i32_394 : BitVec 32 := 3#32
  let v390 : BitVec 32 := Scalar.shrsi v2 c3_i32_394
  let c1_i32_395 : BitVec 32 := 1#32
  let v391 : BitVec 32 := Scalar.andi v390 c1_i32_395
  let c64_i32_397 : BitVec 32 := 64#32
  let v395 : BitVec 32 := Scalar.muli v391 c64_i32_397
  let v396 : BitVec 32 := Scalar.addi v312 v395
  let c0_i32_571 : BitVec 32 := 0#32
  ![0, v396.toNat, 0]
def k0_dev16 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_558 : BitVec 32 := 8#32
  let v534 : BitVec 32 := Scalar.xori v2 c8_i32_558
  let c1_i32_569 : BitVec 32 := 1#32
  let v535 : BitVec 32 := Scalar.muli v534 c1_i32_569
  let v536 : BitVec 32 := Scalar.addi c0_i32_570 v535
  v536.toNat
def k0_off16 (d0 : Dev nD) : Fin 3 → Nat :=
  let c1_655 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_30 : BitVec 32 := 0#32
  let v55 : BitVec 32 := Scalar.muli v2 c0_i32_30
  let c2_i32_170 : BitVec 32 := 2#32
  let v230 : BitVec 32 := Scalar.shrsi v2 c2_i32_170
  let c1_i32_171 : BitVec 32 := 1#32
  let v231 : BitVec 32 := Scalar.andi v230 c1_i32_171
  let c512_i32_173 : BitVec 32 := 512#32
  let v235 : BitVec 32 := Scalar.muli v231 c512_i32_173
  let v236 : BitVec 32 := Scalar.addi v55 v235
  let c3_i32_338 : BitVec 32 := 3#32
  let v348 : BitVec 32 := Scalar.shrsi v2 c3_i32_338
  let c1_i32_339 : BitVec 32 := 1#32
  let v349 : BitVec 32 := Scalar.andi v348 c1_i32_339
  let c256_i32_342 : BitVec 32 := 256#32
  let v353 : BitVec 32 := Scalar.muli v349 c256_i32_342
  let v354 : BitVec 32 := Scalar.addi v236 v353
  let c3_i32 : BitVec 32 := 3#32
  let v3 : BitVec 32 := Scalar.andi v2 c3_i32
  let c64_i32_449 : BitVec 32 := 64#32
  let v432 : BitVec 32 := Scalar.muli v3 c64_i32_449
  let v433 : BitVec 32 := Scalar.addi v354 v432
  let v589 : Index := Scalar.indexCast v433
  let c0_656 : Index := 0#32
  ![1, v589.toNat, 0]
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_30 : BitVec 32 := 0#32
  let v55 : BitVec 32 := Scalar.muli v2 c0_i32_30
  let c2_i32_170 : BitVec 32 := 2#32
  let v230 : BitVec 32 := Scalar.shrsi v2 c2_i32_170
  let c1_i32_171 : BitVec 32 := 1#32
  let v231 : BitVec 32 := Scalar.andi v230 c1_i32_171
  let c512_i32_173 : BitVec 32 := 512#32
  let v235 : BitVec 32 := Scalar.muli v231 c512_i32_173
  let v236 : BitVec 32 := Scalar.addi v55 v235
  let c3_i32_338 : BitVec 32 := 3#32
  let v348 : BitVec 32 := Scalar.shrsi v2 c3_i32_338
  let c1_i32_339 : BitVec 32 := 1#32
  let v349 : BitVec 32 := Scalar.andi v348 c1_i32_339
  let c256_i32_342 : BitVec 32 := 256#32
  let v353 : BitVec 32 := Scalar.muli v349 c256_i32_342
  let v354 : BitVec 32 := Scalar.addi v236 v353
  let c3_i32 : BitVec 32 := 3#32
  let v3 : BitVec 32 := Scalar.andi v2 c3_i32
  let c64_i32_449 : BitVec 32 := 64#32
  let v432 : BitVec 32 := Scalar.muli v3 c64_i32_449
  let v433 : BitVec 32 := Scalar.addi v354 v432
  let v608 : Index := Scalar.indexCast v433
  let c0_669 : Index := 0#32
  ![v608.toNat, 0]
def k0_off18 (d0 : Dev nD) : Fin 3 → Nat :=
  let c1_i32_678 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_30 : BitVec 32 := 0#32
  let v55 : BitVec 32 := Scalar.muli v2 c0_i32_30
  let c2_i32_170 : BitVec 32 := 2#32
  let v230 : BitVec 32 := Scalar.shrsi v2 c2_i32_170
  let c1_i32_171 : BitVec 32 := 1#32
  let v231 : BitVec 32 := Scalar.andi v230 c1_i32_171
  let c512_i32_173 : BitVec 32 := 512#32
  let v235 : BitVec 32 := Scalar.muli v231 c512_i32_173
  let v236 : BitVec 32 := Scalar.addi v55 v235
  let c3_i32_338 : BitVec 32 := 3#32
  let v348 : BitVec 32 := Scalar.shrsi v2 c3_i32_338
  let c1_i32_339 : BitVec 32 := 1#32
  let v349 : BitVec 32 := Scalar.andi v348 c1_i32_339
  let c256_i32_342 : BitVec 32 := 256#32
  let v353 : BitVec 32 := Scalar.muli v349 c256_i32_342
  let v354 : BitVec 32 := Scalar.addi v236 v353
  let c3_i32 : BitVec 32 := 3#32
  let v3 : BitVec 32 := Scalar.andi v2 c3_i32
  let c64_i32_449 : BitVec 32 := 64#32
  let v432 : BitVec 32 := Scalar.muli v3 c64_i32_449
  let v433 : BitVec 32 := Scalar.addi v354 v432
  let c0_i32_689 : BitVec 32 := 0#32
  ![1, v433.toNat, 0]
def k0_dev17 (d0 : Dev nD) : Nat :=
  let c0_i32_688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c1_i32_675 : BitVec 32 := 1#32
  let v619 : BitVec 32 := Scalar.addi v3 c1_i32_675
  let c3_i32_676 : BitVec 32 := 3#32
  let v620 : BitVec 32 := Scalar.andi v619 c3_i32_676
  let v621 : BitVec 32 := Scalar.addi v4 v620
  let c1_i32_687 : BitVec 32 := 1#32
  let v622 : BitVec 32 := Scalar.muli v621 c1_i32_687
  let v623 : BitVec 32 := Scalar.addi c0_i32_688 v622
  v623.toNat
def k0_dev18 (d0 : Dev nD) : Nat :=
  let c0_i32_704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c2_i32_691 : BitVec 32 := 2#32
  let v632 : BitVec 32 := Scalar.addi v3 c2_i32_691
  let c3_i32_692 : BitVec 32 := 3#32
  let v633 : BitVec 32 := Scalar.andi v632 c3_i32_692
  let v634 : BitVec 32 := Scalar.addi v4 v633
  let c1_i32_703 : BitVec 32 := 1#32
  let v635 : BitVec 32 := Scalar.muli v634 c1_i32_703
  let v636 : BitVec 32 := Scalar.addi c0_i32_704 v635
  v636.toNat
def k0_dev19 (d0 : Dev nD) : Nat :=
  let c0_i32_720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c3_i32_707 : BitVec 32 := 3#32
  let v645 : BitVec 32 := Scalar.addi v3 c3_i32_707
  let c3_i32_708 : BitVec 32 := 3#32
  let v646 : BitVec 32 := Scalar.andi v645 c3_i32_708
  let v647 : BitVec 32 := Scalar.addi v4 v646
  let c1_i32_719 : BitVec 32 := 1#32
  let v648 : BitVec 32 := Scalar.muli v647 c1_i32_719
  let v649 : BitVec 32 := Scalar.addi c0_i32_720 v648
  v649.toNat
def k0_off19 (d0 : Dev nD) : Fin 3 → Nat :=
  let c0_i32_755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_29 : BitVec 32 := 0#32
  let v54 : BitVec 32 := Scalar.muli v2 c0_i32_29
  let c3_i32 : BitVec 32 := 3#32
  let v3 : BitVec 32 := Scalar.andi v2 c3_i32
  let c256_i32 : BitVec 32 := 256#32
  let v112 : BitVec 32 := Scalar.muli v3 c256_i32
  let v113 : BitVec 32 := Scalar.addi v54 v112
  let c2_i32_283 : BitVec 32 := 2#32
  let v306 : BitVec 32 := Scalar.shrsi v2 c2_i32_283
  let c1_i32_284 : BitVec 32 := 1#32
  let v307 : BitVec 32 := Scalar.andi v306 c1_i32_284
  let c128_i32_286 : BitVec 32 := 128#32
  let v311 : BitVec 32 := Scalar.muli v307 c128_i32_286
  let v312 : BitVec 32 := Scalar.addi v113 v311
  let c3_i32_394 : BitVec 32 := 3#32
  let v390 : BitVec 32 := Scalar.shrsi v2 c3_i32_394
  let c1_i32_395 : BitVec 32 := 1#32
  let v391 : BitVec 32 := Scalar.andi v390 c1_i32_395
  let c64_i32_397 : BitVec 32 := 64#32
  let v395 : BitVec 32 := Scalar.muli v391 c64_i32_397
  let v396 : BitVec 32 := Scalar.addi v312 v395
  let c3_i32_556 : BitVec 32 := 3#32
  let v532 : BitVec 32 := Scalar.shrsi v2 c3_i32_556
  let c1_i32_557 : BitVec 32 := 1#32
  let v533 : BitVec 32 := Scalar.andi v532 c1_i32_557
  let c64_i32_573 : BitVec 32 := 64#32
  let v545 : BitVec 32 := Scalar.muli v533 c64_i32_573
  let v546 : BitVec 32 := Scalar.subi v396 v545
  let c0_i32_766 : BitVec 32 := 0#32
  ![0, v546.toNat, 0]
def k0_dev20 (d0 : Dev nD) : Nat :=
  let c0_i32_765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_753 : BitVec 32 := 4#32
  let v676 : BitVec 32 := Scalar.xori v2 c4_i32_753
  let c1_i32_764 : BitVec 32 := 1#32
  let v677 : BitVec 32 := Scalar.muli v676 c1_i32_764
  let v678 : BitVec 32 := Scalar.addi c0_i32_765 v677
  v678.toNat
def k0_off20 (d0 : Dev nD) : Fin 3 → Nat :=
  let c1_i32_854 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_30 : BitVec 32 := 0#32
  let v55 : BitVec 32 := Scalar.muli v2 c0_i32_30
  let c2_i32_170 : BitVec 32 := 2#32
  let v230 : BitVec 32 := Scalar.shrsi v2 c2_i32_170
  let c1_i32_171 : BitVec 32 := 1#32
  let v231 : BitVec 32 := Scalar.andi v230 c1_i32_171
  let c512_i32_173 : BitVec 32 := 512#32
  let v235 : BitVec 32 := Scalar.muli v231 c512_i32_173
  let v236 : BitVec 32 := Scalar.addi v55 v235
  let c3_i32_338 : BitVec 32 := 3#32
  let v348 : BitVec 32 := Scalar.shrsi v2 c3_i32_338
  let c1_i32_339 : BitVec 32 := 1#32
  let v349 : BitVec 32 := Scalar.andi v348 c1_i32_339
  let c256_i32_342 : BitVec 32 := 256#32
  let v353 : BitVec 32 := Scalar.muli v349 c256_i32_342
  let v354 : BitVec 32 := Scalar.addi v236 v353
  let c3_i32 : BitVec 32 := 3#32
  let v3 : BitVec 32 := Scalar.andi v2 c3_i32
  let c64_i32_449 : BitVec 32 := 64#32
  let v432 : BitVec 32 := Scalar.muli v3 c64_i32_449
  let v433 : BitVec 32 := Scalar.addi v354 v432
  let c64_i32_723 : BitVec 32 := 64#32
  let v658 : BitVec 32 := Scalar.muli v3 c64_i32_723
  let v659 : BitVec 32 := Scalar.subi v433 v658
  let c0_i32_865 : BitVec 32 := 0#32
  ![1, v659.toNat, 0]
def k0_dev21 (d0 : Dev nD) : Nat :=
  let c0_i32_864 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_852 : BitVec 32 := 8#32
  let v733 : BitVec 32 := Scalar.xori v2 c8_i32_852
  let c1_i32_863 : BitVec 32 := 1#32
  let v734 : BitVec 32 := Scalar.muli v733 c1_i32_863
  let v735 : BitVec 32 := Scalar.addi c0_i32_864 v734
  v735.toNat
def k0_off21 (d0 : Dev nD) : Fin 3 → Nat :=
  let c0_i32_898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_29 : BitVec 32 := 0#32
  let v54 : BitVec 32 := Scalar.muli v2 c0_i32_29
  let c3_i32 : BitVec 32 := 3#32
  let v3 : BitVec 32 := Scalar.andi v2 c3_i32
  let c256_i32 : BitVec 32 := 256#32
  let v112 : BitVec 32 := Scalar.muli v3 c256_i32
  let v113 : BitVec 32 := Scalar.addi v54 v112
  let c2_i32_283 : BitVec 32 := 2#32
  let v306 : BitVec 32 := Scalar.shrsi v2 c2_i32_283
  let c1_i32_284 : BitVec 32 := 1#32
  let v307 : BitVec 32 := Scalar.andi v306 c1_i32_284
  let c128_i32_286 : BitVec 32 := 128#32
  let v311 : BitVec 32 := Scalar.muli v307 c128_i32_286
  let v312 : BitVec 32 := Scalar.addi v113 v311
  let c3_i32_394 : BitVec 32 := 3#32
  let v390 : BitVec 32 := Scalar.shrsi v2 c3_i32_394
  let c1_i32_395 : BitVec 32 := 1#32
  let v391 : BitVec 32 := Scalar.andi v390 c1_i32_395
  let c64_i32_397 : BitVec 32 := 64#32
  let v395 : BitVec 32 := Scalar.muli v391 c64_i32_397
  let v396 : BitVec 32 := Scalar.addi v312 v395
  let c3_i32_556 : BitVec 32 := 3#32
  let v532 : BitVec 32 := Scalar.shrsi v2 c3_i32_556
  let c1_i32_557 : BitVec 32 := 1#32
  let v533 : BitVec 32 := Scalar.andi v532 c1_i32_557
  let c64_i32_573 : BitVec 32 := 64#32
  let v545 : BitVec 32 := Scalar.muli v533 c64_i32_573
  let v546 : BitVec 32 := Scalar.subi v396 v545
  let c2_i32_751 : BitVec 32 := 2#32
  let v674 : BitVec 32 := Scalar.shrsi v2 c2_i32_751
  let c1_i32_752 : BitVec 32 := 1#32
  let v675 : BitVec 32 := Scalar.andi v674 c1_i32_752
  let c128_i32_768 : BitVec 32 := 128#32
  let v687 : BitVec 32 := Scalar.muli v675 c128_i32_768
  let v688 : BitVec 32 := Scalar.subi v546 v687
  let c0_i32_909 : BitVec 32 := 0#32
  ![0, v688.toNat, 0]
def k0_dev22 (d0 : Dev nD) : Nat :=
  let c0_i32_908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c1_i32_895 : BitVec 32 := 1#32
  let v760 : BitVec 32 := Scalar.addi v3 c1_i32_895
  let c3_i32_896 : BitVec 32 := 3#32
  let v761 : BitVec 32 := Scalar.andi v760 c3_i32_896
  let v762 : BitVec 32 := Scalar.addi v4 v761
  let c1_i32_907 : BitVec 32 := 1#32
  let v763 : BitVec 32 := Scalar.muli v762 c1_i32_907
  let v764 : BitVec 32 := Scalar.addi c0_i32_908 v763
  v764.toNat
def k0_dev23 (d0 : Dev nD) : Nat :=
  let c0_i32_924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c2_i32_911 : BitVec 32 := 2#32
  let v773 : BitVec 32 := Scalar.addi v3 c2_i32_911
  let c3_i32_912 : BitVec 32 := 3#32
  let v774 : BitVec 32 := Scalar.andi v773 c3_i32_912
  let v775 : BitVec 32 := Scalar.addi v4 v774
  let c1_i32_923 : BitVec 32 := 1#32
  let v776 : BitVec 32 := Scalar.muli v775 c1_i32_923
  let v777 : BitVec 32 := Scalar.addi c0_i32_924 v776
  v777.toNat
def k0_dev24 (d0 : Dev nD) : Nat :=
  let c0_i32_940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c3_i32_927 : BitVec 32 := 3#32
  let v786 : BitVec 32 := Scalar.addi v3 c3_i32_927
  let c3_i32_928 : BitVec 32 := 3#32
  let v787 : BitVec 32 := Scalar.andi v786 c3_i32_928
  let v788 : BitVec 32 := Scalar.addi v4 v787
  let c1_i32_939 : BitVec 32 := 1#32
  let v789 : BitVec 32 := Scalar.muli v788 c1_i32_939
  let v790 : BitVec 32 := Scalar.addi c0_i32_940 v789
  v790.toNat
def k0_off22 (d0 : Dev nD) : Fin 3 → Nat :=
  let c1_i32_972 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_30 : BitVec 32 := 0#32
  let v55 : BitVec 32 := Scalar.muli v2 c0_i32_30
  let c2_i32_170 : BitVec 32 := 2#32
  let v230 : BitVec 32 := Scalar.shrsi v2 c2_i32_170
  let c1_i32_171 : BitVec 32 := 1#32
  let v231 : BitVec 32 := Scalar.andi v230 c1_i32_171
  let c512_i32_173 : BitVec 32 := 512#32
  let v235 : BitVec 32 := Scalar.muli v231 c512_i32_173
  let v236 : BitVec 32 := Scalar.addi v55 v235
  let c3_i32_338 : BitVec 32 := 3#32
  let v348 : BitVec 32 := Scalar.shrsi v2 c3_i32_338
  let c1_i32_339 : BitVec 32 := 1#32
  let v349 : BitVec 32 := Scalar.andi v348 c1_i32_339
  let c256_i32_342 : BitVec 32 := 256#32
  let v353 : BitVec 32 := Scalar.muli v349 c256_i32_342
  let v354 : BitVec 32 := Scalar.addi v236 v353
  let c3_i32 : BitVec 32 := 3#32
  let v3 : BitVec 32 := Scalar.andi v2 c3_i32
  let c64_i32_449 : BitVec 32 := 64#32
  let v432 : BitVec 32 := Scalar.muli v3 c64_i32_449
  let v433 : BitVec 32 := Scalar.addi v354 v432
  let c64_i32_723 : BitVec 32 := 64#32
  let v658 : BitVec 32 := Scalar.muli v3 c64_i32_723
  let v659 : BitVec 32 := Scalar.subi v433 v658
  let c3_i32_850 : BitVec 32 := 3#32
  let v731 : BitVec 32 := Scalar.shrsi v2 c3_i32_850
  let c1_i32_851 : BitVec 32 := 1#32
  let v732 : BitVec 32 := Scalar.andi v731 c1_i32_851
  let c256_i32_867 : BitVec 32 := 256#32
  let v744 : BitVec 32 := Scalar.muli v732 c256_i32_867
  let v745 : BitVec 32 := Scalar.subi v659 v744
  let c0_i32_983 : BitVec 32 := 0#32
  ![1, v745.toNat, 0]
def k0_dev25 (d0 : Dev nD) : Nat :=
  let c0_i32_982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_970 : BitVec 32 := 4#32
  let v813 : BitVec 32 := Scalar.xori v2 c4_i32_970
  let c1_i32_981 : BitVec 32 := 1#32
  let v814 : BitVec 32 := Scalar.muli v813 c1_i32_981
  let v815 : BitVec 32 := Scalar.addi c0_i32_982 v814
  v815.toNat
def k0_dev26 (d0 : Dev nD) : Nat :=
  let c0_i32_1113_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c1_i32_1103_r0 : BitVec 32 := 1#32
  let v887_r0 : BitVec 32 := Scalar.addi v3 c1_i32_1103_r0
  let c3_i32_1104_r0 : BitVec 32 := 3#32
  let v888_r0 : BitVec 32 := Scalar.andi v887_r0 c3_i32_1104_r0
  let v889_r0 : BitVec 32 := Scalar.addi v4 v888_r0
  let c1_i32_1112_r0 : BitVec 32 := 1#32
  let v898_r0 : BitVec 32 := Scalar.muli v889_r0 c1_i32_1112_r0
  let v899_r0 : BitVec 32 := Scalar.addi c0_i32_1113_r0 v898_r0
  v899_r0.toNat
def k0_dev27 (d0 : Dev nD) : Nat :=
  let c0_i32_1116_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c2_i32_1105_r0 : BitVec 32 := 2#32
  let v890_r0 : BitVec 32 := Scalar.addi v3 c2_i32_1105_r0
  let c3_i32_1106_r0 : BitVec 32 := 3#32
  let v891_r0 : BitVec 32 := Scalar.andi v890_r0 c3_i32_1106_r0
  let v892_r0 : BitVec 32 := Scalar.addi v4 v891_r0
  let c1_i32_1115_r0 : BitVec 32 := 1#32
  let v900_r0 : BitVec 32 := Scalar.muli v892_r0 c1_i32_1115_r0
  let v901_r0 : BitVec 32 := Scalar.addi c0_i32_1116_r0 v900_r0
  v901_r0.toNat
def k0_dev28 (d0 : Dev nD) : Nat :=
  let c0_i32_1119_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v4 : BitVec 32 := Scalar.subi v2 v3
  let c3_i32_1107_r0 : BitVec 32 := 3#32
  let v893_r0 : BitVec 32 := Scalar.addi v3 c3_i32_1107_r0
  let c3_i32_1108_r0 : BitVec 32 := 3#32
  let v894_r0 : BitVec 32 := Scalar.andi v893_r0 c3_i32_1108_r0
  let v895_r0 : BitVec 32 := Scalar.addi v4 v894_r0
  let c1_i32_1118_r0 : BitVec 32 := 1#32
  let v902_r0 : BitVec 32 := Scalar.muli v895_r0 c1_i32_1118_r0
  let v903_r0 : BitVec 32 := Scalar.addi c0_i32_1119_r0 v902_r0
  v903_r0.toNat
def k0_dev29 (d0 : Dev nD) : Nat :=
  let c0_i32_1122_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1109_r0 : BitVec 32 := 4#32
  let v896_r0 : BitVec 32 := Scalar.xori v2 c4_i32_1109_r0
  let c1_i32_1121_r0 : BitVec 32 := 1#32
  let v904_r0 : BitVec 32 := Scalar.muli v896_r0 c1_i32_1121_r0
  let v905_r0 : BitVec 32 := Scalar.addi c0_i32_1122_r0 v904_r0
  v905_r0.toNat
def k0_dev30 (d0 : Dev nD) : Nat :=
  let c0_i32_1125_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1110_r0 : BitVec 32 := 8#32
  let v897_r0 : BitVec 32 := Scalar.xori v2 c8_i32_1110_r0
  let c1_i32_1124_r0 : BitVec 32 := 1#32
  let v906_r0 : BitVec 32 := Scalar.muli v897_r0 c1_i32_1124_r0
  let v907_r0 : BitVec 32 := Scalar.addi c0_i32_1125_r0 v906_r0
  v907_r0.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x256 : Shape := ⟨2, ![1024, 256]⟩
abbrev S256x64 : Shape := ⟨2, ![256, 64]⟩
abbrev S1024x1 : Shape := ⟨2, ![1024, 1]⟩
abbrev S64x256x512 : Shape := ⟨3, ![64, 256, 512]⟩
abbrev S256x512 : Shape := ⟨2, ![256, 512]⟩
abbrev S1024x64 : Shape := ⟨2, ![1024, 64]⟩
abbrev S_ : Shape := ⟨0, ![]⟩
abbrev S1024 : Shape := ⟨1, ![1024]⟩
abbrev S64 : Shape := ⟨1, ![64]⟩
abbrev S1x64 : Shape := ⟨2, ![1, 64]⟩
abbrev S64x512x1024 : Shape := ⟨3, ![64, 512, 1024]⟩
abbrev S64x1024x512 : Shape := ⟨3, ![64, 1024, 512]⟩
abbrev S1024x512 : Shape := ⟨2, ![1024, 512]⟩

abbrev nBuf : Space → Nat
  | .hbm => 31
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x64, .f32⟩
  | .hbm, ⟨2, _⟩ => ⟨S1024x1, .i32⟩
  | .hbm, ⟨3, _⟩ => ⟨S64x256x512, .f32⟩
  | .hbm, ⟨4, _⟩ => ⟨S256x512, .f32⟩
  | .hbm, ⟨5, _⟩ => ⟨S1024x64, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1024x64, .f32⟩
  | .hbm, ⟨10, _⟩ => ⟨S1024x64, .f32⟩
  | .hbm, ⟨11, _⟩ => ⟨S1024x64, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S1024x64, .f32⟩
  | .hbm, ⟨16, _⟩ => ⟨S1024x64, .f32⟩
  | .hbm, ⟨17, _⟩ => ⟨S64, .i32⟩
  | .hbm, ⟨18, _⟩ => ⟨S1x64, .i32⟩
  | .hbm, ⟨19, _⟩ => ⟨S1024x64, .i32⟩
  | .hbm, ⟨20, _⟩ => ⟨S1024x64, .i32⟩
  | .hbm, ⟨21, _⟩ => ⟨S1024x64, .i1⟩
  | .hbm, ⟨22, _⟩ => ⟨S_, .f32⟩
  | .hbm, ⟨23, _⟩ => ⟨S_, .f32⟩
  | .hbm, ⟨24, _⟩ => ⟨S1024x64, .f32⟩
  | .hbm, ⟨25, _⟩ => ⟨S1024x64, .f32⟩
  | .hbm, ⟨26, _⟩ => ⟨S64x512x1024, .f32⟩
  | .hbm, ⟨27, _⟩ => ⟨S64x1024x512, .f32⟩
  | .hbm, ⟨28, _⟩ => ⟨S1024x512, .f32⟩
  | .hbm, ⟨29, _⟩ => ⟨S1024x512, .f32⟩
  | .hbm, ⟨30, _⟩ => ⟨S1024x512, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Proof.Mesh.lean ====
/- The mesh of sixteen devices as the kernel uses it: a device's five partners, the twenty remote copies it issues in
   program order, and the kernel's own device numbers and offsets in closed form. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.Tactic

@[expose] public section

namespace Cert.Moe

open Cert.KernelIdeal Cert.KernelIdeal.Gen
open Idealize.ShloMosaic Idealize.ShloMosaic.TcCoe

/-! ## Partners -/

/-- The device number of partner `p` of device `c`: the three other devices of its plane of four, then the devices across the
    third and the fourth bit of the number. -/
def partnerNo (p : Fin 5) (c : ℕ) : ℕ :=
  match p with
  | 0 => c / 4 * 4 + (c + 1) % 4
  | 1 => c / 4 * 4 + (c + 2) % 4
  | 2 => c / 4 * 4 + (c + 3) % 4
  | 3 => c / 8 * 8 + (c + 4) % 8
  | 4 => (c + 8) % 16

theorem partnerNo_lt (p : Fin 5) (c : Dev nD) : partnerNo p c.val < nD := by revert c p; decide

/-- Partner `p` of device `c`. -/
def partner (p : Fin 5) (c : Dev nD) : Dev nD := ⟨partnerNo p c.val, partnerNo_lt p c⟩

/-- The partner index that undoes `p`. -/
def back (p : Fin 5) : Fin 5 := match p with | 0 => 2 | 1 => 1 | 2 => 0 | 3 => 3 | 4 => 4

theorem back_back (p : Fin 5) : back (back p) = p := by revert p; decide
theorem partner_back (p : Fin 5) (c : Dev nD) : partner p (partner (back p) c) = c := by revert c p; decide
theorem back_partner (p : Fin 5) (c : Dev nD) : partner (back p) (partner p c) = c := by revert c p; decide
theorem partner_ne (p : Fin 5) (c : Dev nD) : partner p c ≠ c := by revert c p; decide

/-- Partner `p` as a permutation of the devices. -/
def partnerEquiv (p : Fin 5) : Dev nD ≃ Dev nD := ⟨partner p, partner (back p), back_partner p, partner_back p⟩

theorem dev1_eq (c : Dev nD) : (⟨k0_dev1 c, k0_dev1_lt c⟩ : Dev nD) = partner 0 c := by revert c; decide
theorem dev2_eq (c : Dev nD) : (⟨k0_dev2 c, k0_dev2_lt c⟩ : Dev nD) = partner 1 c := by revert c; decide
theorem dev3_eq (c : Dev nD) : (⟨k0_dev3 c, k0_dev3_lt c⟩ : Dev nD) = partner 2 c := by revert c; decide
theorem dev4_eq (c : Dev nD) : (⟨k0_dev4 c, k0_dev4_lt c⟩ : Dev nD) = partner 3 c := by revert c; decide
theorem dev5_eq (c : Dev nD) : (⟨k0_dev5 c, k0_dev5_lt c⟩ : Dev nD) = partner 4 c := by revert c; decide
theorem dev6_eq (c : Dev nD) : (⟨k0_dev6 c, k0_dev6_lt c⟩ : Dev nD) = partner 0 c := by revert c; decide
theorem dev7_eq (c : Dev nD) : (⟨k0_dev7 c, k0_dev7_lt c⟩ : Dev nD) = partner 1 c := by revert c; decide
theorem dev8_eq (c : Dev nD) : (⟨k0_dev8 c, k0_dev8_lt c⟩ : Dev nD) = partner 2 c := by revert c; decide
theorem dev9_eq (c : Dev nD) : (⟨k0_dev9 c, k0_dev9_lt c⟩ : Dev nD) = partner 3 c := by revert c; decide
theorem dev10_eq (c : Dev nD) : (⟨k0_dev10 c, k0_dev10_lt c⟩ : Dev nD) = partner 3 c := by revert c; decide
theorem dev11_eq (c : Dev nD) : (⟨k0_dev11 c, k0_dev11_lt c⟩ : Dev nD) = partner 4 c := by revert c; decide
theorem dev12_eq (c : Dev nD) : (⟨k0_dev12 c, k0_dev12_lt c⟩ : Dev nD) = partner 4 c := by revert c; decide
theorem dev13_eq (c : Dev nD) : (⟨k0_dev13 c, k0_dev13_lt c⟩ : Dev nD) = partner 0 c := by revert c; decide
theorem dev14_eq (c : Dev nD) : (⟨k0_dev14 c, k0_dev14_lt c⟩ : Dev nD) = partner 1 c := by revert c; decide
theorem dev15_eq (c : Dev nD) : (⟨k0_dev15 c, k0_dev15_lt c⟩ : Dev nD) = partner 2 c := by revert c; decide
theorem dev16_eq (c : Dev nD) : (⟨k0_dev16 c, k0_dev16_lt c⟩ : Dev nD) = partner 4 c := by revert c; decide
theorem dev17_eq (c : Dev nD) : (⟨k0_dev17 c, k0_dev17_lt c⟩ : Dev nD) = partner 0 c := by revert c; decide
theorem dev18_eq (c : Dev nD) : (⟨k0_dev18 c, k0_dev18_lt c⟩ : Dev nD) = partner 1 c := by revert c; decide
theorem dev19_eq (c : Dev nD) : (⟨k0_dev19 c, k0_dev19_lt c⟩ : Dev nD) = partner 2 c := by revert c; decide
theorem dev20_eq (c : Dev nD) : (⟨k0_dev20 c, k0_dev20_lt c⟩ : Dev nD) = partner 3 c := by revert c; decide
theorem dev21_eq (c : Dev nD) : (⟨k0_dev21 c, k0_dev21_lt c⟩ : Dev nD) = partner 4 c := by revert c; decide
theorem dev22_eq (c : Dev nD) : (⟨k0_dev22 c, k0_dev22_lt c⟩ : Dev nD) = partner 0 c := by revert c; decide
theorem dev23_eq (c : Dev nD) : (⟨k0_dev23 c, k0_dev23_lt c⟩ : Dev nD) = partner 1 c := by revert c; decide
theorem dev24_eq (c : Dev nD) : (⟨k0_dev24 c, k0_dev24_lt c⟩ : Dev nD) = partner 2 c := by revert c; decide
theorem dev25_eq (c : Dev nD) : (⟨k0_dev25 c, k0_dev25_lt c⟩ : Dev nD) = partner 3 c := by revert c; decide
theorem dev26_eq (c : Dev nD) : (⟨k0_dev26 c, k0_dev26_lt c⟩ : Dev nD) = partner 0 c := by revert c; decide
theorem dev27_eq (c : Dev nD) : (⟨k0_dev27 c, k0_dev27_lt c⟩ : Dev nD) = partner 1 c := by revert c; decide
theorem dev28_eq (c : Dev nD) : (⟨k0_dev28 c, k0_dev28_lt c⟩ : Dev nD) = partner 2 c := by revert c; decide
theorem dev29_eq (c : Dev nD) : (⟨k0_dev29 c, k0_dev29_lt c⟩ : Dev nD) = partner 3 c := by revert c; decide
theorem dev30_eq (c : Dev nD) : (⟨k0_dev30 c, k0_dev30_lt c⟩ : Dev nD) = partner 4 c := by revert c; decide

/-! ## The copies

All offsets and lengths are counted in blocks of 64 rows; a chunk (half of the columns) has 16 blocks. -/

/-- Coordinates of a device: in its plane of four, and the third and the fourth bit. -/
abbrev cq (c : Dev nD) : ℕ := c.val % 4
abbrev c2 (c : Dev nD) : ℕ := c.val / 4 % 2
abbrev c3 (c : Dev nD) : ℕ := c.val / 8

/-- First block of the row ranges device `c` holds of chunk 0 after each reduce-scatter round, and the same of chunk 1. -/
abbrev lo0a (c : Dev nD) : ℕ := cq c * 4
abbrev lo0b (c : Dev nD) : ℕ := cq c * 4 + c2 c * 2
abbrev lo0 (c : Dev nD) : ℕ := cq c * 4 + c2 c * 2 + c3 c
abbrev lo1a (c : Dev nD) : ℕ := c2 c * 8
abbrev lo1b (c : Dev nD) : ℕ := c2 c * 8 + c3 c * 4
abbrev lo1 (c : Dev nD) : ℕ := c2 c * 8 + c3 c * 4 + cq c

/-- The partner copy `k` goes to. -/
def peerIx (k : Fin 20) : Fin 5 := ![0, 1, 2, 3, 3, 4, 4, 0, 1, 2, 4, 0, 1, 2, 3, 4, 0, 1, 2, 3] k
def peer (k : Fin 20) (c : Dev nD) : Dev nD := partner (peerIx k) c
/-- The device whose copy `k` goes to `c`. -/
def from' (k : Fin 20) (c : Dev nD) : Dev nD := partner (back (peerIx k)) c
/-- Copies of the gather phase. -/
abbrev isAG (k : Fin 20) : Bool := decide (10 ≤ k.val)
def chunk (k : Fin 20) : ℕ := ![0, 0, 0, 1, 0, 1, 0, 1, 1, 1, 0, 1, 1, 1, 0, 1, 0, 0, 0, 1] k
/-- Length in blocks. -/
def len (k : Fin 20) : ℕ := ![4, 4, 4, 8, 2, 4, 1, 1, 1, 1, 1, 1, 1, 1, 2, 4, 4, 4, 4, 8] k
/-- First block of the source range on `c`. -/
def srcLo (k : Fin 20) (c : Dev nD) : ℕ :=
  match k.val with
  | 0 => (cq c + 1) % 4 * 4 | 1 => (cq c + 2) % 4 * 4 | 2 => (cq c + 3) % 4 * 4
  | 3 => (1 - c2 c) * 8
  | 4 => cq c * 4 + (1 - c2 c) * 2
  | 5 => c2 c * 8 + (1 - c3 c) * 4
  | 6 => cq c * 4 + c2 c * 2 + (1 - c3 c)
  | 7 => lo1b c + (cq c + 1) % 4 | 8 => lo1b c + (cq c + 2) % 4 | 9 => lo1b c + (cq c + 3) % 4
  | 10 => lo0 c
  | 11 => lo1 c | 12 => lo1 c | 13 => lo1 c
  | 14 => lo0b c
  | 15 => lo1b c
  | 16 => lo0a c | 17 => lo0a c | 18 => lo0a c
  | _ => lo1a c
/-- First block of the landing range of the copy issued by `c`. -/
def dstLo (k : Fin 20) (c : Dev nD) : ℕ :=
  match k.val with
  | 0 => 8 | 1 => 4 | 2 => 0
  | 3 => 0 | 4 => 12 | 5 => 8 | 6 => 14
  | 7 => 14 | 8 => 13 | 9 => 12
  | _ => srcLo k c

/-- The blocks `[l, l + n)` of chunk `h`, among the 32 blocks of a buffer. -/
def iv (h l n : ℕ) : Finset (Fin 32) := Finset.univ.filter fun b => h * 16 + l ≤ b.val ∧ b.val < h * 16 + l + n
abbrev srcB (k : Fin 20) (c : Dev nD) : Finset (Fin 32) := iv (chunk k) (srcLo k c) (len k)
abbrev dstB (k : Fin 20) (c : Dev nD) : Finset (Fin 32) := iv (chunk k) (dstLo k c) (len k)

/-- The kernel's offset vector of block `l` of chunk `h`. -/
abbrev offv (h l : ℕ) : Fin 3 → ℕ := ![h, l * 64, 0]

theorem off1_1 (c : Dev nD) : k0_off1 c 1#32 = offv 0 8 := by revert c; decide
theorem off1_2 (c : Dev nD) : k0_off1 c 2#32 = offv 0 4 := by revert c; decide
theorem off1_3 (c : Dev nD) : k0_off1 c 3#32 = offv 0 0 := by revert c; decide
theorem off2_1 (c : Dev nD) : k0_off2 c 1#32 = offv 0 (srcLo 0 c) := by revert c; decide
theorem off2_2 (c : Dev nD) : k0_off2 c 2#32 = offv 0 (srcLo 1 c) := by revert c; decide
theorem off2_3 (c : Dev nD) : k0_off2 c 3#32 = offv 0 (srcLo 2 c) := by revert c; decide
theorem off3_eq (c : Dev nD) : k0_off3 c = offv 1 (srcLo 3 c) := by revert c; decide
theorem off4_eq (c : Dev nD) : k0_off4 c = offv 0 (lo0a c) := by revert c; decide
theorem off5_eq (c : Dev nD) : k0_off5 c = offv 0 (srcLo 4 c) := by revert c; decide
theorem off6_eq (c : Dev nD) : k0_off6 c = offv 1 (lo1a c) := by revert c; decide
theorem off7_eq (c : Dev nD) : k0_off7 c = offv 1 (srcLo 5 c) := by revert c; decide
theorem off8_eq (c : Dev nD) : k0_off8 c = offv 0 (lo0b c) := by revert c; decide
theorem off9_eq (c : Dev nD) : k0_off9 c = offv 0 (srcLo 6 c) := by revert c; decide
theorem off10_eq (c : Dev nD) : k0_off10 c = offv 1 (lo1b c) := by revert c; decide
theorem off11_1 (c : Dev nD) : k0_off11 c 1#32 = offv 1 14 := by revert c; decide
theorem off11_2 (c : Dev nD) : k0_off11 c 2#32 = offv 1 13 := by revert c; decide
theorem off11_3 (c : Dev nD) : k0_off11 c 3#32 = offv 1 12 := by revert c; decide
theorem off12_1 (c : Dev nD) : k0_off12 c 1#32 = offv 1 (srcLo 7 c) := by revert c; decide
theorem off12_2 (c : Dev nD) : k0_off12 c 2#32 = offv 1 (srcLo 8 c) := by revert c; decide
theorem off12_3 (c : Dev nD) : k0_off12 c 3#32 = offv 1 (srcLo 9 c) := by revert c; decide
theorem off13_eq (c : Dev nD) : k0_off13 c = offv 0 (lo0 c) := by revert c; decide
theorem off14_eq (c : Dev nD) : k0_off14 c = ![lo0 c * 64, 0] := by revert c; decide
theorem off15_eq (c : Dev nD) : k0_off15 c = offv 0 (lo0 c) := by revert c; decide
theorem off16_eq (c : Dev nD) : k0_off16 c = offv 1 (lo1 c) := by revert c; decide
theorem off17_eq (c : Dev nD) : k0_off17 c = ![lo1 c * 64, 0] := by revert c; decide
theorem off18_eq (c : Dev nD) : k0_off18 c = offv 1 (lo1 c) := by revert c; decide
theorem off19_eq (c : Dev nD) : k0_off19 c = offv 0 (lo0b c) := by revert c; decide
theorem off20_eq (c : Dev nD) : k0_off20 c = offv 1 (lo1b c) := by revert c; decide
theorem off21_eq (c : Dev nD) : k0_off21 c = offv 0 (lo0a c) := by revert c; decide
theorem off22_eq (c : Dev nD) : k0_off22 c = offv 1 (lo1a c) := by revert c; decide

end Cert.Moe

end
-- ==== Proof.Slabs.lean ====
/- The three scratch buffers seen in blocks of 64 rows: which elements a set of blocks holds, the element set of a slice, how
   a points-to splits along block sets, and what a slice reads and writes element by element. -/
module

public import proofs.«01_k».proof.Proof.Mesh
public import Idealize.ShloMosaic.Lib.ViewIndex

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- A position in a scratch buffer: chunk, row, column. -/
abbrev BIx : Type := (S2x1024x256 : Shape).Idx

theorem bix_lt0 (i : BIx) : (i 0).val < 2 := (i 0).isLt
theorem bix_lt1 (i : BIx) : (i 1).val < 1024 := (i 1).isLt
theorem bix_lt2 (i : BIx) : (i 2).val < 256 := (i 2).isLt

/-- The block of a position. -/
def blkOf (i : BIx) : Fin 32 := ⟨(i 0).val * 16 + (i 1).val / 64, by have := bix_lt0 i; have := bix_lt1 i; omega⟩

/-- The positions in a set of blocks. -/
def blk (B : Finset (Fin 32)) : Finset BIx := Finset.univ.filter fun i => blkOf i ∈ B

theorem mem_blk {B : Finset (Fin 32)} {i : BIx} : i ∈ blk B ↔ blkOf i ∈ B := by
  unfold blk; rw [Finset.mem_filter]; exact ⟨fun h => h.2, fun h => ⟨Finset.mem_univ _, h⟩⟩

theorem blk_disjoint {B C : Finset (Fin 32)} (h : Disjoint B C) : Disjoint (blk B) (blk C) :=
  Finset.disjoint_left.mpr fun _ hi hj => Finset.disjoint_left.mp h (mem_blk.mp hi) (mem_blk.mp hj)
theorem blk_union (B C : Finset (Fin 32)) : blk (B ∪ C) = blk B ∪ blk C := by
  ext i; rw [Finset.mem_union, mem_blk, mem_blk, mem_blk, Finset.mem_union]
theorem blk_univ : blk Finset.univ = Finset.univ := by
  ext i; rw [mem_blk]; exact ⟨fun _ => Finset.mem_univ _, fun _ => Finset.mem_univ _⟩
theorem blk_mono {B C : Finset (Fin 32)} (h : B ⊆ C) : blk B ⊆ blk C := fun _ hi => mem_blk.mpr (h (mem_blk.mp hi))
theorem blk_biUnion {T : Type} [DecidableEq T] (s : Finset T) (f : T → Finset (Fin 32)) : blk (s.biUnion f) = s.biUnion fun t => blk (f t) := by
  ext i; simp only [mem_blk, Finset.mem_biUnion]

theorem mem_iv {h l n : ℕ} {b : Fin 32} : b ∈ iv h l n ↔ h * 16 + l ≤ b.val ∧ b.val < h * 16 + l + n := by
  unfold iv; rw [Finset.mem_filter]; exact ⟨fun h => h.2, fun h => ⟨Finset.mem_univ _, h⟩⟩

/-- A position in a run of blocks, by its coordinates. -/
theorem mem_blk_iv {h l n : ℕ} (hn : l + n ≤ 16) {i : BIx} :
    i ∈ blk (iv h l n) ↔ (i 0).val = h ∧ l * 64 ≤ (i 1).val ∧ (i 1).val < (l + n) * 64 := by
  rw [mem_blk, mem_iv]
  have := bix_lt0 i; have := bix_lt1 i
  unfold blkOf
  constructor
  · rintro ⟨h1, h2⟩; dsimp only at h1 h2; omega
  · rintro ⟨h1, h2, h3⟩; dsimp only; omega

/-- A slice of `n` blocks from block `l` of chunk `h`. -/
theorem rect_set {h l n : ℕ} (hn : l + n ≤ 16) {off sz : Fin 3 → ℕ} (hoff : off = offv h l) (hsz : sz = ![1, n * 64, 256])
    (inb : ∀ a, off a + sz a ≤ (S2x1024x256 : Shape).size a) :
    ((Rect.unit (s := S2x1024x256) off sz inb).set : Finset BIx) = blk (iv h l n) := by
  subst hoff hsz
  ext i
  rw [Rect.mem_set_unit, mem_blk_iv hn]
  have := bix_lt2 i
  constructor
  · intro H
    have h0 := H 0; have h1 := H 1
    change (h ≤ (i 0).val ∧ (i 0).val < h + 1) at h0
    change (l * 64 ≤ (i 1).val ∧ (i 1).val < l * 64 + n * 64) at h1
    omega
  · rintro ⟨h1, h2, h3⟩ a
    match a with
    | ⟨0, _⟩ => change (h ≤ (i 0).val ∧ (i 0).val < h + 1); omega
    | ⟨1, _⟩ => change (l * 64 ≤ (i 1).val ∧ (i 1).val < l * 64 + n * 64); omega
    | ⟨2, _⟩ => change (0 ≤ (i 2).val ∧ (i 2).val < 0 + 256); omega

/-- The coordinates of the position under an index of a slice. -/
theorem rect_emb {off sz : Fin 3 → ℕ} (inb : ∀ a, off a + sz a ≤ (S2x1024x256 : Shape).size a)
    (j : (Rect.unit (s := S2x1024x256) off sz inb).shape.Idx) (a : Fin 3) :
    (((Rect.unit (s := S2x1024x256) off sz inb).emb j : BIx) a).val = off a + (j a).val := by
  show off a + 1 * (j a).val = _
  rw [Nat.one_mul]

/-- The buffer position `j` rows and columns into the run of blocks from `l` of chunk `h`. -/
theorem pos_lt (l r : ℕ) : (l * 64 + r) % 1024 < 1024 := Nat.mod_lt _ (by decide)
def pos (h : Fin 2) (r : Fin 1024) (x : Fin 256) : BIx := fun a => match a with | ⟨0, _⟩ => h | ⟨1, _⟩ => r | ⟨2, _⟩ => x

/-- Rows moved from a run of blocks at `d` to the run at `s`. -/
def shift (s d : ℕ) (i : BIx) : BIx := pos (i 0) ⟨((i 1).val + s * 64 + 1024 - d * 64) % 1024, Nat.mod_lt _ (by decide)⟩ (i 2)

theorem shift_self (d : ℕ) (hd : d ≤ 16) (i : BIx) : shift d d i = i := by
  have := bix_lt1 i
  refine Shape.idx3_ext rfl ?_ rfl
  show ((i 1).val + d * 64 + 1024 - d * 64) % 1024 = _
  omega

section Whole
variable {Val : EltTy → Type} (r : Ref sig .tc)

theorem whole_slice_set (R : Rect r.ty.shape) (hR : ∀ a, R.stride a = 1) :
    (((Memref.whole r).slice R hR).view.set : Finset r.ty.Idx) = R.set := View.set_slice_whole r R
theorem whole_squeeze_set (R : Rect r.ty.shape) (hR : ∀ a, R.stride a = 1) (s' : Shape) (sq : R.shape.Squeezes s') :
    ((((Memref.whole r).slice R hR).squeeze s' sq).view.set : Finset r.ty.Idx) = R.set := by
  refine Eq.trans ?_ (View.set_slice_whole r R)
  exact View.set_reshape _ _
theorem whole_access_set (R : Rect r.ty.shape) : (((Memref.whole r).access R).set : Finset r.ty.Idx) = R.set := View.set_slice_whole r R
end Whole

end Cert.Moe

end
-- ==== Proof.Contents.lean ====
/- What the buffers hold, for any float values: the inputs a device fetches, the products its experts give, the partial sums
   after each step of the reduction, and the finished rows every device gathers. Nothing here looks inside the float operations. -/
module

public import proofs.«01_k».proof.Proof.Slabs

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The position at row `r`, column `x` of the run of blocks from `l` of chunk `h`. -/
def seg (h l r x : ℕ) : BIx :=
  pos ⟨h % 2, Nat.mod_lt _ (by decide)⟩ ⟨(l * 64 + r) % 1024, Nat.mod_lt _ (by decide)⟩ ⟨x % 256, Nat.mod_lt _ (by decide)⟩

/-- An index of a slice lies at its run of blocks. -/
theorem rect_seg {h l n : ℕ} (hh : h < 2) (hn : l + n ≤ 16) {off sz : Fin 3 → ℕ} (hoff : off = offv h l) (hsz : sz = ![1, n * 64, 256])
    (inb : ∀ a, off a + sz a ≤ (S2x1024x256 : Shape).size a) (j : (Rect.unit (s := S2x1024x256) off sz inb).shape.Idx) :
    ((Rect.unit (s := S2x1024x256) off sz inb).emb j : BIx) = seg h l (j 1).val (j 2).val := by
  subst hoff hsz
  have h0 : (j 0).val < 1 := (j 0).isLt
  have h1 : (j 1).val < n * 64 := (j 1).isLt
  have h2 : (j 2).val < 256 := (j 2).isLt
  refine Shape.idx3_ext ?_ ?_ ?_
  · rw [rect_emb]; show h + (j 0).val = h % 2; omega
  · rw [rect_emb]; show l * 64 + (j 1).val = (l * 64 + (j 1).val) % 1024; omega
  · rw [rect_emb]; show 0 + (j 2).val = (j 2).val % 256; omega

/-- Moving rows from the run at `d` to the run at `s` moves the position `r` rows in. -/
theorem shift_seg {h s d n r x : ℕ} (hs : s + n ≤ 16) (hd : d + n ≤ 16) (hr : r < n * 64) : shift s d (seg h d r x) = seg h s r x := by
  refine Shape.idx3_ext rfl ?_ rfl
  show ((d * 64 + r) % 1024 + s * 64 + 1024 - d * 64) % 1024 = (s * 64 + r) % 1024
  omega

/-! ## The inputs -/

section Inputs
variable (m : (ℓ : Loc nD τ sig) → Buf (Elt F) ℓ)

def xin (c : Dev nD) : S1024x256.Idx → Elt F .f32 := (win0_0.blk (0 : Fin 1)).view.read (Elt F) (m ((c : Thread nD τ).loc main_arg0))
def rwin (c : Dev nD) : S256x64.Idx → Elt F .f32 := (win0_1.blk (0 : Fin 1)).view.read (Elt F) (m ((c : Thread nD τ).loc main_arg1))
def idxin (c : Dev nD) : S1024x1.Idx → Elt F .i32 := (win0_2.blk (0 : Fin 1)).view.read (Elt F) (m ((c : Thread nD τ).loc main_arg2))
def ewin (c : Dev nD) : S4x256x512.Idx → Elt F .f32 := (win0_3.blk (0 : Fin 1)).view.read (Elt F) (m ((c : Thread nD τ).loc main_arg3))
def swin (c : Dev nD) : S256x512.Idx → Elt F .f32 := (win0_4.blk (0 : Fin 1)).view.read (Elt F) (m ((c : Thread nD τ).loc main_arg4))

/-- The number of the device along the mesh, as the kernel computes it. -/
def meW (c : Dev nD) : BitVec 32 := Scalar.remsi (Scalar.divsi (Dev.word c) 1#32) 16#32

/-- One expert's half of the columns. -/
def ewCut (c : Dev nD) (e : Fin 4) (h : Fin 2) : Vec F S1x256x256 .f32 := fun j =>
  ewin m c fun a => match a with
    | ⟨0, _⟩ => e
    | ⟨1, _⟩ => ⟨(j 1).val, (j 1).isLt⟩
    | ⟨2, _⟩ => ⟨h.val * 256 + (j 2).val, by have : (j 2).val < 256 := (j 2).isLt; have := h.isLt; show _ < 512; omega⟩

/-- The shared weight's half of the columns. -/
def swCut (c : Dev nD) (h : Fin 2) : Vec F S256x256 .f32 := fun j =>
  swin m c fun a => match a with
    | ⟨0, _⟩ => ⟨(j 0).val, (j 0).isLt⟩
    | ⟨1, _⟩ => ⟨h.val * 256 + (j 1).val, by have : (j 1).val < 256 := (j 1).isLt; have := h.isLt; show _ < 512; omega⟩

/-- Sixty-four rows of `x` from block `l`. -/
def xCut (c : Dev nD) (l : ℕ) : Vec F S64x256 .f32 := fun j =>
  xin m c fun a => match a with
    | ⟨0, _⟩ => ⟨(l * 64 + (j 0).val) % 1024, Nat.mod_lt _ (by decide)⟩
    | ⟨1, _⟩ => ⟨(j 1).val, (j 1).isLt⟩

/-- The probability of the expert each row is sent to. -/
def prob (c : Dev nD) : FVec F S1024x1 .f32 := k0_pay3 (xin m c) (rwin m c) (idxin m c)

/-- The device's experts' products, the first half of the columns. -/
def prod0 (c : Dev nD) : FVec F S1x1024x256 .f32 :=
  k0_pay8 (k0_pay1 (xin m c))
    (k0_pay6 (meW c) (k0_pay1 (xin m c)) (k0_pay2 (F := F) (idxin m c)) (k0_pay4 (F := F)) (k0_pay5 (meW c) (idxin m c) (prob m c))
      (ewCut m c 0 0) (prob m c) (ewCut m c 1 0) (prob m c) (ewCut m c 2 0))
    (k0_pay7 (meW c) (k0_pay2 (F := F) (idxin m c))) (prob m c) (ewCut m c 3 0)

/-- The second half. -/
def prod1 (c : Dev nD) : FVec F S1x1024x256 .f32 :=
  k0_pay13
    (k0_pay10 (meW c) (k0_pay1 (xin m c)) (k0_pay2 (F := F) (idxin m c))
      (k0_pay9 (meW c) (k0_pay1 (xin m c)) (k0_pay2 (F := F) (idxin m c)) (prob m c) (ewCut m c 0 1))
      (Scalar.addi (Scalar.muli (meW c) 4#32) 1#32) (prob m c) (ewCut m c 1 1) (prob m c) (ewCut m c 2 1))
    (k0_pay11 (meW c) (k0_pay1 (xin m c)) (k0_pay2 (F := F) (idxin m c)) (prob m c))
    (k0_pay12 (ewCut m c 3 1)) (constant S1024x256 .f32 0x00000000#32)

/-! ## The partial sums -/

/-- The row and column of a position, as an index of one chunk. -/
def row3 (i : BIx) : S1x1024x256.Idx := fun a => match a with
  | ⟨0, _⟩ => (0 : Fin 1)
  | ⟨1, _⟩ => i 1
  | ⟨2, _⟩ => i 2

def fadd (a b : Elt F .f32) : Elt F .f32 := FloatOps.addf (F := F) (φ := .f32) a b

/-- A device's own products. -/
def A0 (c : Dev nD) (i : BIx) : Elt F .f32 := if (i 0).val = 0 then prod0 m c (row3 i) else prod1 m c (row3 i)
/-- The first chunk after each of its three rounds. -/
def A1 (c : Dev nD) (i : BIx) : Elt F .f32 :=
  fadd (fadd (fadd (A0 m c i) (A0 m (partner 0 c) i)) (A0 m (partner 1 c) i)) (A0 m (partner 2 c) i)
def A2 (c : Dev nD) (i : BIx) : Elt F .f32 := fadd (A1 m c i) (A1 m (partner 3 c) i)
def A3 (c : Dev nD) (i : BIx) : Elt F .f32 := fadd (A2 m c i) (A2 m (partner 4 c) i)
/-- The second chunk after each of its three rounds. -/
def B1 (c : Dev nD) (i : BIx) : Elt F .f32 := fadd (A0 m c i) (A0 m (partner 3 c) i)
def B2 (c : Dev nD) (i : BIx) : Elt F .f32 := fadd (B1 m c i) (B1 m (partner 4 c) i)
def B3 (c : Dev nD) (i : BIx) : Elt F .f32 :=
  fadd (fadd (fadd (B2 m c i) (B2 m (partner 0 c) i)) (B2 m (partner 1 c) i)) (B2 m (partner 2 c) i)

/-- The rows of a buffer from block `l` of chunk `h`, `n` rows of them. -/
def cut64 (h l : ℕ) (f : BIx → Elt F .f32) : Vec F S1x64x256 .f32 := fun j => f (seg h l (j 1).val (j 2).val)

/-- A device's finished rows: its own block of sums plus the shared expert's product. -/
def fin0 (c : Dev nD) : FVec F S1x64x256 .f32 :=
  k0_pay22 (k0_pay20 (cut64 0 (lo0 c) (A3 m c))) (k0_pay21 (xCut m c (lo0 c))) (swCut m c 0)
def fin1 (c : Dev nD) : FVec F S1x64x256 .f32 := k0_pay25 (cut64 1 (lo1 c) (B3 m c)) (xCut m c (lo1 c)) (swCut m c 1)

/-- The device that finishes a block of the first chunk, and of the second. -/
def own0 (b : ℕ) : Dev nD := ⟨(b / 4) % 4 + 4 * ((b / 2) % 2) + 8 * (b % 2), by show _ < 16; omega⟩

def own1 (b : ℕ) : Dev nD := ⟨b % 4 + 4 * ((b / 8) % 2) + 8 * ((b / 4) % 2), by show _ < 16; omega⟩

/-- A row of a block and a column, as an index of 64 rows. -/
def row64 (i : BIx) : S1x64x256.Idx := fun a => match a with
  | ⟨0, _⟩ => (0 : Fin 1)
  | ⟨1, _⟩ => ⟨(i 1).val % 64, Nat.mod_lt _ (by decide)⟩
  | ⟨2, _⟩ => i 2

/-- The finished rows, the same on every device. -/
def GF (i : BIx) : Elt F .f32 :=
  if (i 0).val = 0 then fin0 m (own0 ((i 1).val / 64)) (row64 i) else fin1 m (own1 ((i 1).val / 64)) (row64 i)

/-- The result: the first chunk gives the first 256 columns, the second the rest. -/
def outVal : S1024x512.Idx → Elt F .f32 := fun j =>
  if h : (j 1).val < 256 then GF m (pos 0 ⟨(j 0).val, (j 0).isLt⟩ ⟨(j 1).val, h⟩)
  else GF m (pos 1 ⟨(j 0).val, (j 0).isLt⟩ ⟨(j 1).val - 256, by have : (j 1).val < 512 := (j 1).isLt; omega⟩)

/-- What the source buffer of copy `k` holds on device `c`. -/
def phaseVal (k : Fin 20) (c : Dev nD) : BIx → Elt F .f32 := match k.val with
  | 0 => A0 m c | 1 => A0 m c | 2 => A0 m c | 3 => A0 m c
  | 4 => A1 m c | 5 => B1 m c | 6 => A2 m c
  | 7 => B2 m c | 8 => B2 m c | 9 => B2 m c
  | _ => GF m

/-- What copy `k` leaves on device `d`: its source's rows, moved. -/
def landVal (k : Fin 20) (d : Dev nD) (i : BIx) : Elt F .f32 :=
  phaseVal m k (from' k d) (shift (srcLo k (from' k d)) (dstLo k (from' k d)) i)

theorem srcLo_le (k : Fin 20) (c : Dev nD) : srcLo k c + len k ≤ 16 := by revert k c; decide
theorem dstLo_le (k : Fin 20) (c : Dev nD) : dstLo k c + len k ≤ 16 := by revert k c; decide
theorem chunk_lt (k : Fin 20) : chunk k < 2 := by revert k; decide

theorem landVal_seg (k : Fin 20) (d : Dev nD) {r x : ℕ} (hr : r < len k * 64) :
    landVal m k d (seg (chunk k) (dstLo k (from' k d)) r x) = phaseVal m k (from' k d) (seg (chunk k) (srcLo k (from' k d)) r x) := by
  unfold landVal; rw [shift_seg (srcLo_le k _) (dstLo_le k _) hr]

/-- A gathered copy lands in the rows it came from. -/
theorem landVal_gat {k : Fin 20} (hk : 10 ≤ k.val) (d : Dev nD) : landVal m k d = GF m := by
  have h1 : ∀ (k : Fin 20), 10 ≤ k.val → ∀ c : Dev nD, srcLo k c = dstLo k c ∧ dstLo k c ≤ 16 := by decide
  funext i
  unfold landVal
  rw [(h1 k hk _).1, shift_self _ (h1 k hk _).2]
  revert hk
  obtain ⟨k, hk⟩ := k
  intro h
  have : ∃ n, k = n + 10 := ⟨k - 10, by have : 10 ≤ k := h; omega⟩
  obtain ⟨n, rfl⟩ := this
  rfl

end Inputs

/-! ## Loads and stores of a run of blocks -/

section Access
variable {h l n : ℕ} (hh : h < 2) (hn : l + n ≤ 16) {off sz : Fin 3 → ℕ} (hoff : off = offv h l) (hsz : sz = ![1, n * 64, 256])
  (inb : ∀ a, off a + sz a ≤ (S2x1024x256 : Shape).size a)

abbrev acM : Memref sig .tc .vmem S2x1024x256 .f32 := Memref.whole cc0_scratch0
abbrev rcM : Memref sig .tc .vmem S2x1024x256 .f32 := Memref.whole cc0_scratch1
abbrev gtM : Memref sig .tc .vmem S2x1024x256 .f32 := Memref.whole cc0_scratch2

include hh hn hoff hsz in
theorem read_ac (f : BIx → Elt F .f32) : (acM : Memref sig .tc .vmem S2x1024x256 .f32).view.readAt (Elt F) (Rect.unit (s := S2x1024x256) off sz inb).toLoadRect f
    = fun j => f (seg h l (j 1).val (j 2).val) := funext fun j => congrArg f (rect_seg hh hn hoff hsz inb j)
include hh hn hoff hsz in
theorem read_rc (f : BIx → Elt F .f32) : (rcM : Memref sig .tc .vmem S2x1024x256 .f32).view.readAt (Elt F) (Rect.unit (s := S2x1024x256) off sz inb).toLoadRect f
    = fun j => f (seg h l (j 1).val (j 2).val) := funext fun j => congrArg f (rect_seg hh hn hoff hsz inb j)
include hh hn hoff hsz in
theorem read_gt (f : BIx → Elt F .f32) : (gtM : Memref sig .tc .vmem S2x1024x256 .f32).view.readAt (Elt F) (Rect.unit (s := S2x1024x256) off sz inb).toLoadRect f
    = fun j => f (seg h l (j 1).val (j 2).val) := funext fun j => congrArg f (rect_seg hh hn hoff hsz inb j)

include hh hn hoff hsz in
theorem write_ac (f g : BIx → Elt F .f32) (w : (Rect.unit (s := S2x1024x256) off sz inb).shape.Idx → Elt F .f32)
    (hw : ∀ j, w j = g (seg h l (j 1).val (j 2).val)) (i : BIx) (hi : i ∈ blk (iv h l n)) :
    ((acM : Memref sig .tc .vmem S2x1024x256 .f32).access (Rect.unit (s := S2x1024x256) off sz inb)).write (Elt F) f w Finset.univ i = g i := by
  rw [← rect_set hn hoff hsz inb, ← whole_access_set cc0_scratch0] at hi
  obtain ⟨j, _, rfl⟩ := Finset.mem_map.mp hi
  rw [View.write_emb_of_mem _ _ (Finset.mem_univ j)]
  exact (hw j).trans (congrArg g (rect_seg hh hn hoff hsz inb j).symm)
include hh hn hoff hsz in
theorem write_gt (f g : BIx → Elt F .f32) (w : (Rect.unit (s := S2x1024x256) off sz inb).shape.Idx → Elt F .f32)
    (hw : ∀ j, w j = g (seg h l (j 1).val (j 2).val)) (i : BIx) (hi : i ∈ blk (iv h l n)) :
    ((gtM : Memref sig .tc .vmem S2x1024x256 .f32).access (Rect.unit (s := S2x1024x256) off sz inb)).write (Elt F) f w Finset.univ i = g i := by
  rw [← rect_set hn hoff hsz inb, ← whole_access_set cc0_scratch2] at hi
  obtain ⟨j, _, rfl⟩ := Finset.mem_map.mp hi
  rw [View.write_emb_of_mem _ _ (Finset.mem_univ j)]
  exact (hw j).trans (congrArg g (rect_seg hh hn hoff hsz inb j).symm)

end Access

/-! ## The sums the kernel stores, one element -/

section Sums
theorem pay14_at (a b c d : Vec F S1x256x256 .f32) (j) : k0_pay14 a b c d j = fadd (fadd (fadd (a j) (b j)) (c j)) (d j) := by
  simp only [k0_pay14, shapeCast, addf, Shape.reshapeEquiv_reshapeEquiv, Shape.reshapeEquiv_self]; rfl
theorem pay16_at (a b : Vec F S1x512x256 .f32) (j) : k0_pay16 (k0_pay15 a) b j = fadd (a j) (b j) := by
  simp only [k0_pay15, k0_pay16, shapeCast, addf, Shape.reshapeEquiv_reshapeEquiv, Shape.reshapeEquiv_self]; rfl
theorem pay17_at (a b : Vec F S1x128x256 .f32) (j) : k0_pay17 a b j = fadd (a j) (b j) := by
  simp only [k0_pay17, shapeCast, addf, Shape.reshapeEquiv_reshapeEquiv, Shape.reshapeEquiv_self]; rfl
theorem pay18_at (a b : Vec F S1x256x256 .f32) (j) : k0_pay18 a b j = fadd (a j) (b j) := by
  simp only [k0_pay18, shapeCast, addf, Shape.reshapeEquiv_reshapeEquiv, Shape.reshapeEquiv_self]; rfl
theorem pay19_at (a b : Vec F S1x64x256 .f32) (j) : k0_pay19 a b j = fadd (a j) (b j) := by
  simp only [k0_pay19, shapeCast, addf, Shape.reshapeEquiv_reshapeEquiv, Shape.reshapeEquiv_self]; rfl
theorem pay24_at (a b c d : Vec F S1x64x256 .f32) (j) : k0_pay24 (k0_pay23 a) b c d j = fadd (fadd (fadd (a j) (b j)) (c j)) (d j) := by
  simp only [k0_pay23, k0_pay24, shapeCast, addf, Shape.reshapeEquiv_reshapeEquiv, Shape.reshapeEquiv_self]; rfl
end Sums

end Cert.Moe
end
-- ==== Proof.Schedule.lean ====
/- The semaphore cells and what their units stand for. A device's barrier counts its five partners' ready signals, each handing over the
   buffer regions that partner will be sent into; a copy's send cell returns the source region, its receive cell the landed region; the
   second barrier hands over nothing. -/
module

public import proofs.«01_k».proof.Proof.Contents

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- The place of copy `k`'s semaphores in the two arrays of 36. -/
def semNo (k : Fin 20) : Fin 36 := ![0, 1, 2, 9, 3, 12, 6, 15, 16, 17, 18, 27, 28, 29, 21, 30, 24, 25, 26, 33] k

def sendS (k : Fin 20) : DmaSem sig := ⟨6 + (semNo k).val, by have := (semNo k).isLt; show _ < 78; omega⟩
def recvS (k : Fin 20) : DmaSem sig := ⟨42 + (semNo k).val, by have := (semNo k).isLt; show _ < 78; omega⟩
abbrev barS : Sem sig := (SemArray.scalar (sig.barrier 0 rfl) : Sems sig S_).sem
abbrev barT : Sem sig := (cc0_scoped0 : Sems sig S_).sem

/-- What a semaphore is for. -/
inductive Role where
  | bar | done | send (k : Fin 20) | recv (k : Fin 20) | none
deriving DecidableEq

def dmaRole (n : ℕ) : Role :=
  match n with
  | 6 => .send 0 | 7 => .send 1 | 8 => .send 2 | 15 => .send 3 | 9 => .send 4 | 18 => .send 5 | 12 => .send 6
  | 21 => .send 7 | 22 => .send 8 | 23 => .send 9 | 24 => .send 10 | 33 => .send 11 | 34 => .send 12 | 35 => .send 13
  | 27 => .send 14 | 36 => .send 15 | 30 => .send 16 | 31 => .send 17 | 32 => .send 18 | 39 => .send 19
  | 42 => .recv 0 | 43 => .recv 1 | 44 => .recv 2 | 51 => .recv 3 | 45 => .recv 4 | 54 => .recv 5 | 48 => .recv 6
  | 57 => .recv 7 | 58 => .recv 8 | 59 => .recv 9 | 60 => .recv 10 | 69 => .recv 11 | 70 => .recv 12 | 71 => .recv 13
  | 63 => .recv 14 | 72 => .recv 15 | 66 => .recv 16 | 67 => .recv 17 | 68 => .recv 18 | 75 => .recv 19
  | _ => .none

def roleOf (s : SemLoc sig) : Role :=
  match s with
  | .reg s => if s.val = 0 then .bar else .done
  | .dma q => dmaRole q.val

theorem role_bar : roleOf (.reg barS) = .bar := by decide
theorem role_done : roleOf (.reg barT) = .done := by decide
theorem role_send (k : Fin 20) : roleOf (.dma (sendS k)) = .send k := by revert k; decide
theorem role_recv (k : Fin 20) : roleOf (.dma (recvS k)) = .recv k := by revert k; decide

abbrev barCell (c : Dev nD) : GSem nD τ sig := ((c : Thread nD τ), .reg barS)
abbrev doneCell (c : Dev nD) : GSem nD τ sig := ((c : Thread nD τ), .reg barT)
abbrev sendCell (c : Dev nD) (k : Fin 20) : GSem nD τ sig := ((c : Thread nD τ), .dma (sendS k))
abbrev recvCell (c : Dev nD) (k : Fin 20) : GSem nD τ sig := ((c : Thread nD τ), .dma (recvS k))

/-- The kernel's own semaphores: the two arrays and the second barrier's. -/
def osem (j : Fin 73) : SemLoc sig := if h : j.val < 72 then .dma ⟨6 + j.val, by show _ < 78; omega⟩ else .reg barT
/-- Those and the runtime's barrier. -/
def csem (j : Fin 74) : SemLoc sig := if h : j.val < 73 then osem ⟨j.val, h⟩ else .reg barS
abbrev kcell (ck : Dev nD × Fin 74) : GSem nD τ sig := ((ck.1 : Thread nD τ), csem ck.2)

def sIx (k : Fin 20) : Fin 74 := ⟨(semNo k).val, by have := (semNo k).isLt; omega⟩
def rIx (k : Fin 20) : Fin 74 := ⟨36 + (semNo k).val, by have := (semNo k).isLt; omega⟩
def dIx : Fin 74 := 72
def bIx : Fin 74 := 73
theorem csem_s (k : Fin 20) : csem (sIx k) = .dma (sendS k) := by revert k; decide
theorem csem_r (k : Fin 20) : csem (rIx k) = .dma (recvS k) := by revert k; decide
theorem csem_d : csem dIx = .reg barT := by decide
theorem csem_b : csem bIx = .reg barS := by decide
theorem csem_injective : Function.Injective csem := by
  have : ∀ a b : Fin 74, csem a = csem b → a = b := by decide
  exact fun a b h => this a b h

/-! ## Amounts -/

/-- What a transfer of a shape counts on its cells. -/
def crd (s : Shape) : ℕ := sig.dmaCredit .tc (Kind.tc.table .vmem) (rcM : Memref sig .tc .vmem S2x1024x256 .f32).view.buf s .f32
theorem credit_of {s : Shape} (v : View sig .tc .vmem s .f32) : v.dmaCredit = crd s := rfl
def shp (k : Fin 20) : Shape := ⟨2, ![len k * 64, 256]⟩
def amt (k : Fin 20) : ℕ := crd (shp k)
theorem shp_numel (k : Fin 20) : 0 < (shp k).numel := by revert k; decide
theorem amt_pos (k : Fin 20) : 0 < amt k := sig.dmaCredit_pos _ _ _ _ _ (shp_numel k)

/-! ## Regions -/

section Regions
variable (c : Dev nD)

/-- Blocks of the accumulator, the landing buffer and the gather buffer on `c`. -/
def acPts (B : Finset (Fin 32)) (f : BIx → Elt F .f32) : sProp 𝕄 :=
  ((c : Thread nD τ).loc cc0_scratch0) ↦[blk B]{fullShare} (f : Buf (Elt F) ((c : Thread nD τ).loc cc0_scratch0))
def rcPts (B : Finset (Fin 32)) (f : BIx → Elt F .f32) : sProp 𝕄 :=
  ((c : Thread nD τ).loc cc0_scratch1) ↦[blk B]{fullShare} (f : Buf (Elt F) ((c : Thread nD τ).loc cc0_scratch1))
def gtPts (q : PosShare TreeShare) (B : Finset (Fin 32)) (f : BIx → Elt F .f32) : sProp 𝕄 :=
  ((c : Thread nD τ).loc cc0_scratch2) ↦[blk B]{q} (f : Buf (Elt F) ((c : Thread nD τ).loc cc0_scratch2))

instance acPts_storable (B) (f) : BI.Storable (upEmb : UEmb _ 𝕄) (acPts (F := F) c B f) := by unfold acPts; infer_instance
instance rcPts_storable (B) (f) : BI.Storable (upEmb : UEmb _ 𝕄) (rcPts (F := F) c B f) := by unfold rcPts; infer_instance
instance gtPts_storable (q B) (f) : BI.Storable (upEmb : UEmb _ 𝕄) (gtPts (F := F) c q B f) := by unfold gtPts; infer_instance

/-- The blocks copy `k` into `c` lands on. -/
abbrev inB (k : Fin 20) : Finset (Fin 32) := dstB k (from' k c)

/-- Room on `c` for the copy `k` sent to it. -/
def room (k : Fin 20) : sProp 𝕄 :=
  if k.val < 10 then iprop(∃ f, rcPts (F := F) c (inB c k) f) else iprop(∃ f, gtPts (F := F) c fullShare (inB c k) f)

instance room_storable (k) : BI.Storable (upEmb : UEmb _ 𝕄) (room (F := F) c k) := by unfold room; split <;> infer_instance

/-- The share of its source region a copy takes along: three copies of one region split it. -/
def shr (k : Fin 20) : PosShare TreeShare :=
  match k.val with
  | 11 => fullShare.left | 12 => fullShare.right.left | 13 => fullShare.right.right
  | 16 => fullShare.left | 17 => fullShare.right.left | 18 => fullShare.right.right
  | _ => fullShare

variable (m : (ℓ : Loc nD τ sig) → Buf (Elt F) ℓ)

/-- What the receive cell of copy `k` hands `c`. -/
def recvPay (k : Fin 20) : sProp 𝕄 := if k.val < 10 then rcPts c (inB c k) (landVal m k c) else gtPts c fullShare (inB c k) (GF m)
/-- What the send cell of copy `k` hands back. -/
def sendPay (k : Fin 20) : sProp 𝕄 := if k.val < 10 then acPts c (srcB k c) (phaseVal m k c) else gtPts c (shr k) (srcB k c) (GF m)
/-- What partner `p`'s ready signal hands `c`: room for the copies `c` sends to it. -/
def barPay (p : Fin 5) : sProp 𝕄 := bigSep (Finset.univ.filter fun k : Fin 20 => back (peerIx k) = p) fun k => room (F := F) (peer k c) k

instance recvPay_storable (k) : BI.Storable (upEmb : UEmb _ 𝕄) (recvPay (F := F) c m k) := by unfold recvPay; split <;> infer_instance
instance sendPay_storable (k) : BI.Storable (upEmb : UEmb _ 𝕄) (sendPay (F := F) c m k) := by unfold sendPay; split <;> infer_instance
instance barPay_storable (p) : BI.Storable (upEmb : UEmb _ 𝕄) (barPay (F := F) c p) := by unfold barPay; infer_instance
end Regions

/-! ## The schedule -/

section Sched
variable (m : (ℓ : Loc nD τ sig) → Buf (Elt F) ℓ)

def roleDuties : Role → Finset (Fin 5)
  | .bar => Finset.univ | .done => Finset.univ | .send _ => {0} | .recv _ => {0} | .none => ∅
def roleAmount : Role → ℕ
  | .bar => 1 | .done => 1 | .send k => amt k | .recv k => amt k | .none => 1
def rolePay (c : Dev nD) (p : Fin 5) : Role → sProp 𝕄
  | .bar => barPay c p | .done => iprop(emp) | .send k => sendPay c m k | .recv k => recvPay c m k | .none => iprop(emp)

def sched : Rounds.Schedule (GSem nD τ sig) (Fin 5) 𝕄 where
  duties g r := if r = 0 ∧ g.1.2 = .tc then roleDuties (roleOf g.2) else ∅
  unitless _ := False
  amount g _ _ := roleAmount (roleOf g.2)
  payload g _ d := rolePay m g.1.1 d (roleOf g.2)
  amount_pos g _ _ _ := by
    cases roleOf g.2 with
    | bar => exact Nat.one_pos
    | done => exact Nat.one_pos
    | send k => exact amt_pos k
    | recv k => exact amt_pos k
    | none => exact Nat.one_pos

instance sched_storable (g : GSem nD τ sig) (r : ℕ) (d : Fin 5) : BI.Storable (upEmb : UEmb _ 𝕄) ((sched (F := F) m).payload g r d) := by
  show BI.Storable upEmb (rolePay m g.1.1 d (roleOf g.2))
  cases roleOf g.2 <;> (unfold rolePay; infer_instance)

variable (c : Dev nD) (k : Fin 20)

theorem duties_role (s : SemLoc sig) {R : Role} (h : roleOf s = R) : (sched (F := F) m).duties ((c : Thread nD τ), s) 0 = roleDuties R := by
  subst h; dsimp only [sched]; exact if_pos ⟨rfl, rfl⟩
theorem amount_role (s : SemLoc sig) {R : Role} (h : roleOf s = R) (d : Fin 5) : (sched (F := F) m).amount ((c : Thread nD τ), s) 0 d = roleAmount R := by
  subst h; rfl
theorem payload_role (s : SemLoc sig) {R : Role} (h : roleOf s = R) (d : Fin 5) : (sched (F := F) m).payload ((c : Thread nD τ), s) 0 d = rolePay m c d R := by
  subst h; rfl
theorem duties_later (g : GSem nD τ sig) : ∀ r, 1 ≤ r → (sched (F := F) m).duties g r = ∅ := fun r hr => if_neg fun h => by omega
theorem duties_none (s : SemLoc sig) (h : roleOf s = .none) : ∀ r, 0 ≤ r → (sched (F := F) m).duties ((c : Thread nD τ), s) r = ∅ := fun r _ => by
  dsimp only [sched]; rw [h]; split <;> rfl

theorem duties_bar : (sched (F := F) m).duties (barCell c) 0 = Finset.univ := duties_role m c _ role_bar
theorem duties_done : (sched (F := F) m).duties (doneCell c) 0 = Finset.univ := duties_role m c _ role_done
theorem duties_send : (sched (F := F) m).duties (sendCell c k) 0 = {0} := duties_role m c _ (role_send k)
theorem duties_recv : (sched (F := F) m).duties (recvCell c k) 0 = {0} := duties_role m c _ (role_recv k)
theorem amount_bar (d : Fin 5) : (sched (F := F) m).amount (barCell c) 0 d = 1 := amount_role m c _ role_bar d
theorem amount_done (d : Fin 5) : (sched (F := F) m).amount (doneCell c) 0 d = 1 := amount_role m c _ role_done d
theorem amount_send (d : Fin 5) : (sched (F := F) m).amount (sendCell c k) 0 d = amt k := amount_role m c _ (role_send k) d
theorem amount_recv (d : Fin 5) : (sched (F := F) m).amount (recvCell c k) 0 d = amt k := amount_role m c _ (role_recv k) d
theorem payload_bar (d : Fin 5) : (sched (F := F) m).payload (barCell c) 0 d = barPay c d := payload_role m c _ role_bar d
theorem payload_done (d : Fin 5) : (sched (F := F) m).payload (doneCell c) 0 d = iprop(emp) := payload_role m c _ role_done d
theorem payload_send (d : Fin 5) : (sched (F := F) m).payload (sendCell c k) 0 d = sendPay c m k := payload_role m c _ (role_send k) d
theorem payload_recv (d : Fin 5) : (sched (F := F) m).payload (recvCell c k) 0 d = recvPay c m k := payload_role m c _ (role_recv k) d

theorem expect_bar : (sched (F := F) m).expect (barCell c) 0 = 5 := by
  unfold Schedule.expect Schedule.amountOf
  rw [duties_bar, Finset.sum_congr rfl fun d _ => amount_bar m c d, Finset.sum_const, Finset.card_univ, Fintype.card_fin, smul_eq_mul]
theorem expect_done : (sched (F := F) m).expect (doneCell c) 0 = 5 := by
  unfold Schedule.expect Schedule.amountOf
  rw [duties_done, Finset.sum_congr rfl fun d _ => amount_done m c d, Finset.sum_const, Finset.card_univ, Fintype.card_fin, smul_eq_mul]
theorem expect_send : (sched (F := F) m).expect (sendCell c k) 0 = amt k := by
  unfold Schedule.expect Schedule.amountOf; rw [duties_send, Finset.sum_singleton, amount_send]
theorem expect_recv : (sched (F := F) m).expect (recvCell c k) 0 = amt k := by
  unfold Schedule.expect Schedule.amountOf; rw [duties_recv, Finset.sum_singleton, amount_recv]

/-- What a round hands over when no duty was taken from it before. -/
theorem rest_send : bigSep ((sched (F := F) m).duties (sendCell c k) 0 \ ∅) (fun d => (sched (F := F) m).payload (sendCell c k) 0 d) = sendPay c m k := by
  rw [Finset.sdiff_empty, duties_send, bigSep_singleton, payload_send]
theorem rest_recv : bigSep ((sched (F := F) m).duties (recvCell c k) 0 \ ∅) (fun d => (sched (F := F) m).payload (recvCell c k) 0 d) = recvPay c m k := by
  rw [Finset.sdiff_empty, duties_recv, bigSep_singleton, payload_recv]
/-- All five ready signals hand over room for all twenty copies. -/
theorem rest_bar : bigSep ((sched (F := F) m).duties (barCell c) 0 \ ∅) (fun d => (sched (F := F) m).payload (barCell c) 0 d)
    = bigSep Finset.univ fun k : Fin 20 => room (F := F) (peer k c) k := by
  rw [Finset.sdiff_empty, duties_bar, bigSep_congr fun d _ => payload_bar m c d]
  unfold barPay
  rw [bigSep_fiberwise Finset.univ (fun k : Fin 20 => back (peerIx k)) fun k => room (F := F) (peer k c) k,
    show (Finset.univ.image fun k : Fin 20 => back (peerIx k)) = Finset.univ by decide]
end Sched

/-! ## Levels and debts -/

/-- The copies, or partners, numbered from `a` up to `b`. -/
def rng {n : ℕ} (a b : ℕ) : Finset (Fin n) := Finset.univ.filter fun k => a ≤ k.val ∧ k.val < b
theorem mem_rng {n a b : ℕ} {k : Fin n} : k ∈ (rng a b : Finset (Fin n)) ↔ a ≤ k.val ∧ k.val < b := by
  unfold rng; rw [Finset.mem_filter]; exact ⟨fun h => h.2, fun h => ⟨Finset.mem_univ _, h⟩⟩
theorem rng_low {n a b : ℕ} (k : Fin n) (hk : k.val = a) (h : a < b) : (rng a b : Finset (Fin n)) = insert k (rng (a + 1) b) := by
  ext i; rw [Finset.mem_insert, mem_rng, mem_rng, Fin.ext_iff]; omega
theorem rng_low_not {n a b : ℕ} (k : Fin n) (hk : k.val = a) : k ∉ (rng (a + 1) b : Finset (Fin n)) := by rw [mem_rng]; omega
theorem rng_high {n a b : ℕ} (k : Fin n) (hk : k.val = b) (h : a ≤ b) : (rng a (b + 1) : Finset (Fin n)) = insert k (rng a b) := by
  ext i; rw [Finset.mem_insert, mem_rng, mem_rng, Fin.ext_iff]; omega
theorem rng_high_not {n a b : ℕ} (k : Fin n) (hk : k.val = b) : k ∉ (rng a b : Finset (Fin n)) := by rw [mem_rng]; omega
theorem rng_self {n a : ℕ} : (rng a a : Finset (Fin n)) = ∅ := by
  ext i; rw [mem_rng]; constructor
  · intro h; omega
  · intro h; exact absurd h (Finset.notMem_empty _)
theorem rng_univ {n : ℕ} : (rng 0 n : Finset (Fin n)) = Finset.univ := by
  ext i; rw [mem_rng]; exact ⟨fun _ => Finset.mem_univ _, fun _ => ⟨Nat.zero_le _, i.isLt⟩⟩

section Range
variable {n a b : ℕ}
theorem bigSep_low (Φ : Fin n → sProp 𝕄) (k : Fin n) (hk : k.val = a) (h : a < b) : bigSep (rng a b) Φ = iprop(Φ k ∗ bigSep (rng (a + 1) b) Φ) := by
  rw [rng_low k hk h]; exact bigSep_insert (rng_low_not k hk)
theorem bigSep_high (Φ : Fin n → sProp 𝕄) (k : Fin n) (hk : k.val = b) (h : a ≤ b) : bigSep (rng a (b + 1)) Φ = iprop(Φ k ∗ bigSep (rng a b) Φ) := by
  rw [rng_high k hk h]; exact bigSep_insert (rng_high_not k hk)
theorem bigSep_none (Φ : Fin n → sProp 𝕄) : bigSep (rng a a) Φ = iprop(emp) := by
  rw [rng_self]; exact bigSep_empty
end Range

/-- What device `c` still owes: ready signals from partner `s` on, copies from `a` on, done signals from partner `t` on. -/
def debt (c : Dev nD) (s a t : ℕ) : CellTallies nD τ sig Unit :=
  (∑ k ∈ (rng a 20 : Finset (Fin 20)), tallyAt (recvCell (peer k c) k) () (amt k))
    + (∑ p ∈ (rng t 5 : Finset (Fin 5)), tallyAt (doneCell (partner p c)) () 1)
    + ∑ p ∈ (rng s 5 : Finset (Fin 5)), tallyAt (barCell (partner p c)) () 1

theorem debt_shuffle₁ {M : Type} [AddCommMonoid M] (x y z w : M) : x + y + z + w = y + z + w + x := by
  rw [add_assoc x, add_assoc x, add_comm x]
theorem debt_shuffle₂ {M : Type} [AddCommMonoid M] (y x z w : M) : y + (x + z) + w = y + z + w + x := by
  rw [add_comm x z, ← add_assoc, add_assoc (y + z), add_comm x w, ← add_assoc]

theorem debt_bar (c : Dev nD) (p : Fin 5) (s a t : ℕ) (hp : p.val = s) : debt c s a t = debt c (s + 1) a t + tallyAt (barCell (partner p c)) () 1 := by
  have : s < 5 := by have := p.isLt; omega
  unfold debt; rw [rng_low p hp this, Finset.sum_insert (rng_low_not p hp), add_assoc _ (∑ p ∈ rng (s + 1) 5, _), add_comm (∑ p ∈ rng (s + 1) 5, _)]
theorem debt_copy (c : Dev nD) (k : Fin 20) (s a t : ℕ) (hk : k.val = a) : debt c s a t = debt c s (a + 1) t + tallyAt (recvCell (peer k c) k) () (amt k) := by
  have : a < 20 := by have := k.isLt; omega
  unfold debt; rw [rng_low k hk this, Finset.sum_insert (rng_low_not k hk)]; exact debt_shuffle₁ _ _ _ _
theorem debt_done (c : Dev nD) (p : Fin 5) (s a t : ℕ) (hp : p.val = t) : debt c s a t = debt c s a (t + 1) + tallyAt (doneCell (partner p c)) () 1 := by
  have : t < 5 := by have := p.isLt; omega
  unfold debt; rw [rng_low p hp this, Finset.sum_insert (rng_low_not p hp)]; exact debt_shuffle₂ _ _ _ _
theorem debt_zero (c : Dev nD) : debt c 5 20 5 = 0 := by unfold debt; rw [rng_self, rng_self, Finset.sum_empty, Finset.sum_empty, Finset.sum_empty, add_zero, add_zero]

def L (g : GSem nD τ sig) : Finset Unit := if g.1.2 = .tc then {()} else ∅
def roleLev : Role → ℕ
  | .bar => 1 | .done => 30 | .send _ => 0 | .recv k => 2 + k.val | .none => 0
def lv (g : GSem nD τ sig) (_ : Unit) : ℕ := roleLev (roleOf g.2)

theorem L_of_ne (g : GSem nD τ sig) (h : g.1.2 ≠ .tc) : L g = ∅ := if_neg h
theorem L_tc (c : Dev nD) (sm : SemLoc sig) : L ((c : Thread nD τ), sm) = {()} := if_pos rfl

theorem tally_pos {g₀ g : GSem nD τ sig} {u : Unit} {n : ℕ} (h : 0 < (tallyAt g₀ () n : CellTallies nD τ sig Unit) g u) : g = g₀ := by
  rw [tallyAt_apply] at h
  by_contra hn
  rw [if_neg fun h' => hn h'.1] at h
  exact Nat.lt_irrefl 0 h
theorem sum_tally_pos {T : Type} [DecidableEq T] (S : Finset T) (f : T → GSem nD τ sig) (w : T → ℕ) {g : GSem nD τ sig} {u : Unit}
    (h : 0 < (∑ t ∈ S, tallyAt (f t) () (w t) : CellTallies nD τ sig Unit) g u) : ∃ t ∈ S, g = f t := by
  induction S using Finset.induction_on with
  | empty => rw [Finset.sum_empty] at h; exact absurd h (Nat.lt_irrefl 0)
  | insert t S ht ih =>
    rw [Finset.sum_insert ht, Pi.add_apply, Finsupp.add_apply] at h
    rcases Nat.eq_zero_or_pos ((tallyAt (f t) () (w t) : CellTallies nD τ sig Unit) g u) with h0 | h0
    · rw [h0, Nat.zero_add] at h
      obtain ⟨t', h1, h2⟩ := ih h
      exact ⟨t', Finset.mem_insert_of_mem h1, h2⟩
    · exact ⟨t, Finset.mem_insert_self _ _, tally_pos h0⟩

theorem debt_pos {c : Dev nD} {s a t : ℕ} {g : GSem nD τ sig} {u : Unit} (h : 0 < debt c s a t g u) :
    (∃ k : Fin 20, a ≤ k.val ∧ g = recvCell (peer k c) k) ∨ (∃ p : Fin 5, g = doneCell (partner p c)) ∨ (∃ p : Fin 5, s ≤ p.val ∧ g = barCell (partner p c)) := by
  unfold debt at h
  rw [Pi.add_apply, Finsupp.add_apply, Pi.add_apply, Finsupp.add_apply] at h
  rcases Nat.eq_zero_or_pos ((∑ p ∈ (rng s 5 : Finset (Fin 5)), tallyAt (barCell (partner p c)) () 1 : CellTallies nD τ sig Unit) g u) with h0 | h0
  · rw [h0, Nat.add_zero] at h
    rcases Nat.eq_zero_or_pos ((∑ p ∈ (rng t 5 : Finset (Fin 5)), tallyAt (doneCell (partner p c)) () 1 : CellTallies nD τ sig Unit) g u) with h1 | h1
    · rw [h1, Nat.add_zero] at h
      obtain ⟨k, hk, e⟩ := sum_tally_pos _ (fun k : Fin 20 => recvCell (peer k c) k) _ h
      exact Or.inl ⟨k, (mem_rng.mp hk).1, e⟩
    · obtain ⟨p, hp, e⟩ := sum_tally_pos _ (fun p : Fin 5 => doneCell (partner p c)) _ h1
      exact Or.inr (Or.inl ⟨p, e⟩)
  · obtain ⟨p, hp, e⟩ := sum_tally_pos _ (fun p : Fin 5 => barCell (partner p c)) _ h0
    exact Or.inr (Or.inr ⟨p, (mem_rng.mp hp).1, e⟩)

/-- A device may wait on a semaphore whose level is below all it still owes. -/
theorem mayWait_of (c : Dev nD) (sm : SemLoc sig) (n s a t : ℕ) (hlv : roleLev (roleOf sm) ≤ n) (hbar : s < 5 → n < 1) (hcopy : n < 2 + a) (hn : n < 30) :
    (levAts L lv : sProp 𝕄) ⊢ MayWait (c : Thread nD τ) sm () (debt c s a t) :=
  MayOwe.of_cut (L := L) (lev := lv) n (fun p hp => by rw [Finset.mem_singleton.mp hp, L_tc]; exact Finset.mem_singleton_self _)
    (fun g u hg => by rcases debt_pos hg with ⟨k, _, rfl⟩ | ⟨p, rfl⟩ | ⟨p, _, rfl⟩ <;> exact Finset.mem_singleton_self _)
    (fun p hp => by rw [Finset.mem_singleton.mp hp]; exact hlv)
    (fun g u hg => by
      rcases debt_pos hg with ⟨k, hk, rfl⟩ | ⟨p, rfl⟩ | ⟨p, hp, rfl⟩
      · unfold lv; rw [role_recv]; show n < 2 + k.val; omega
      · unfold lv; rw [role_done]; exact hn
      · unfold lv; rw [role_bar]; exact hbar (by have := p.isLt; omega))

end Cert.Moe
end
-- ==== Proof.Steps.lean ====
/- One step of the protocol at a time: what a device holds between two of its operations, and how a signal, a copy and a wait change it.
   A device's state is counted by how many signals, copies and waits it has behind it. -/
module

public import proofs.«01_k».proof.Proof.Schedule

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program on device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (K : Dev nD × Fin 74 → ℕ)

/-! ## What every device knows -/

/-- Every cell's invariant, that every cell has started, and the levels. -/
def recs : sProp 𝕄 :=
  iprop((bigSep Finset.univ fun ck : Dev nD × Fin 74 => cellInv ER (sched m) (K ck) (kcell ck))
    ∗ (bigSep Finset.univ fun ck : Dev nD × Fin 74 => reached ER (kcell ck) 0) ∗ levAts L lv)

instance recs_persistent : BI.Persistent (recs m K) := by unfold recs; infer_instance

theorem recs_inv_at (ck : Dev nD × Fin 74) :
    (bigSep Finset.univ fun ck : Dev nD × Fin 74 => (cellInv ER (sched m) (K ck) (kcell ck) : sProp 𝕄)) ⊢ cellInv ER (sched m) (K ck) (kcell ck) :=
  bigSep_elim (Finset.mem_univ ck)
theorem recs_reached_at (ck : Dev nD × Fin 74) :
    (bigSep Finset.univ fun ck : Dev nD × Fin 74 => (reached ER (kcell ck) 0 : sProp 𝕄)) ⊢ reached ER (kcell ck) 0 :=
  bigSep_elim (Finset.mem_univ ck)
theorem recs_inv (c : Dev nD) (j : Fin 74) : recs m K ⊢ cellInv ER (sched m) (K (c, j)) ((c : Thread nD τ), csem j) := by
  unfold recs
  iintro ⟨H, -, -⟩
  iapply (recs_inv_at m K (c, j)); iexact H
theorem recs_reached (c : Dev nD) (j : Fin 74) : recs m K ⊢ reached ER ((c : Thread nD τ), csem j) 0 := by
  unfold recs
  iintro ⟨-, H, -⟩
  iapply (recs_reached_at (F := F) (c, j)); iexact H
theorem recs_lev : recs m K ⊢ levAts L lv := by
  unfold recs
  iintro ⟨-, -, H⟩; iexact H

theorem inv_send (c : Dev nD) (k : Fin 20) : recs m K ⊢ cellInv ER (sched m) (K (c, sIx k)) (sendCell c k) := by
  have := recs_inv m K c (sIx k); rwa [csem_s] at this
theorem inv_recv (c : Dev nD) (k : Fin 20) : recs m K ⊢ cellInv ER (sched m) (K (c, rIx k)) (recvCell c k) := by
  have := recs_inv m K c (rIx k); rwa [csem_r] at this
theorem inv_bar (c : Dev nD) : recs m K ⊢ cellInv ER (sched m) (K (c, bIx)) (barCell c) := by
  have := recs_inv m K c bIx; rwa [csem_b] at this
theorem inv_done (c : Dev nD) : recs m K ⊢ cellInv ER (sched m) (K (c, dIx)) (doneCell c) := by
  have := recs_inv m K c dIx; rwa [csem_d] at this
theorem reached_send (c : Dev nD) (k : Fin 20) : recs m K ⊢ reached ER (sendCell c k) 0 := by
  have := recs_reached m K c (sIx k); rwa [csem_s] at this
theorem reached_recv (c : Dev nD) (k : Fin 20) : recs m K ⊢ reached ER (recvCell c k) 0 := by
  have := recs_reached m K c (rIx k); rwa [csem_r] at this
theorem reached_bar (c : Dev nD) : recs m K ⊢ reached ER (barCell c) 0 := by
  have := recs_reached m K c bIx; rwa [csem_b] at this
theorem reached_done (c : Dev nD) : recs m K ⊢ reached ER (doneCell c) 0 := by
  have := recs_reached m K c dIx; rwa [csem_d] at this

/-! ## The positions in the cells -/

/-- The round a cell of the device is at, after `w` barrier waits, `b` send waits and `e` receive waits. -/
def rnd (w b e : ℕ) (j : Fin 74) : ℕ :=
  if (j = bIx ∧ 1 ≤ w) ∨ (j = dIx ∧ 2 ≤ w) ∨ (∃ k : Fin 20, j = sIx k ∧ k.val < b) ∨ (∃ k : Fin 20, j = rIx k ∧ k.val < e) then 1 else 0

def poss (c : Dev nD) (w b e : ℕ) : sProp 𝕄 := bigSep Finset.univ fun j : Fin 74 => atPos ER ((c : Thread nD τ), csem j) (rnd w b e j) ∅ 0

theorem sIx_inj {k k' : Fin 20} (h : sIx k = sIx k') : k = k' := by revert k k'; decide
theorem rIx_inj {k k' : Fin 20} (h : rIx k = rIx k') : k = k' := by revert k k'; decide
theorem sIx_ne_rIx (k k' : Fin 20) : sIx k ≠ rIx k' := by revert k k'; decide
theorem sIx_ne_b (k : Fin 20) : sIx k ≠ bIx ∧ sIx k ≠ dIx := by revert k; decide
theorem rIx_ne_b (k : Fin 20) : rIx k ≠ bIx ∧ rIx k ≠ dIx := by revert k; decide
theorem bIx_ne_d : bIx ≠ dIx := by decide

theorem rnd_s (w b e : ℕ) (k : Fin 20) : rnd w b e (sIx k) = if k.val < b then 1 else 0 := by
  unfold rnd
  refine if_congr ⟨?_, fun h => Or.inr (Or.inr (Or.inl ⟨k, rfl, h⟩))⟩ rfl rfl
  rintro (⟨h, _⟩ | ⟨h, _⟩ | ⟨k', h, h'⟩ | ⟨k', h, _⟩)
  · exact absurd h (sIx_ne_b k).1
  · exact absurd h (sIx_ne_b k).2
  · rw [sIx_inj h]; exact h'
  · exact absurd h (sIx_ne_rIx k k')
theorem rnd_r (w b e : ℕ) (k : Fin 20) : rnd w b e (rIx k) = if k.val < e then 1 else 0 := by
  unfold rnd
  refine if_congr ⟨?_, fun h => Or.inr (Or.inr (Or.inr ⟨k, rfl, h⟩))⟩ rfl rfl
  rintro (⟨h, _⟩ | ⟨h, _⟩ | ⟨k', h, _⟩ | ⟨k', h, h'⟩)
  · exact absurd h (rIx_ne_b k).1
  · exact absurd h (rIx_ne_b k).2
  · exact absurd h.symm (sIx_ne_rIx k' k)
  · rw [rIx_inj h]; exact h'
theorem rnd_b (w b e : ℕ) : rnd w b e bIx = if 1 ≤ w then 1 else 0 := by
  unfold rnd
  refine if_congr ⟨?_, fun h => Or.inl ⟨rfl, h⟩⟩ rfl rfl
  rintro (⟨_, h⟩ | ⟨h, _⟩ | ⟨k', h, _⟩ | ⟨k', h, _⟩)
  · exact h
  · exact absurd h bIx_ne_d
  · exact absurd h.symm (sIx_ne_b k').1
  · exact absurd h.symm (rIx_ne_b k').1
theorem rnd_d (w b e : ℕ) : rnd w b e dIx = if 2 ≤ w then 1 else 0 := by
  unfold rnd
  refine if_congr ⟨?_, fun h => Or.inr (Or.inl ⟨rfl, h⟩)⟩ rfl rfl
  rintro (⟨h, _⟩ | ⟨_, h⟩ | ⟨k', h, _⟩ | ⟨k', h, _⟩)
  · exact absurd h.symm bIx_ne_d
  · exact h
  · exact absurd h.symm (sIx_ne_b k').2
  · exact absurd h.symm (rIx_ne_b k').2

/-- A place is one of the four, or counted by none of the waits. -/
theorem rnd_other {w b e : ℕ} {j : Fin 74} (hb : j ≠ bIx) (hd : j ≠ dIx) (hs : ∀ k, j ≠ sIx k) (hr : ∀ k, j ≠ rIx k) : rnd w b e j = 0 :=
  if_neg fun h => by
    rcases h with ⟨h, _⟩ | ⟨h, _⟩ | ⟨k, h, _⟩ | ⟨k, h, _⟩
    · exact hb h
    · exact hd h
    · exact hs k h
    · exact hr k h

theorem place_cases (j : Fin 74) : j = bIx ∨ j = dIx ∨ (∃ k, j = sIx k) ∨ (∃ k, j = rIx k) ∨ roleOf (csem j) = .none := by revert j; decide
theorem place_none {j : Fin 74} (h : roleOf (csem j) = .none) : j ≠ bIx ∧ j ≠ dIx ∧ (∀ k, j ≠ sIx k) ∧ (∀ k, j ≠ rIx k) := by revert j; decide

/-- Two counts that agree away from one place. -/
theorem rnd_same {w b e w' b' e' : ℕ} {j j₀ : Fin 74} (hj : j ≠ j₀)
    (hb : bIx ≠ j₀ → rnd w' b' e' bIx = rnd w b e bIx) (hd : dIx ≠ j₀ → rnd w' b' e' dIx = rnd w b e dIx)
    (hs : ∀ k, sIx k ≠ j₀ → rnd w' b' e' (sIx k) = rnd w b e (sIx k)) (hr : ∀ k, rIx k ≠ j₀ → rnd w' b' e' (rIx k) = rnd w b e (rIx k)) :
    rnd w' b' e' j = rnd w b e j := by
  rcases place_cases j with rfl | rfl | ⟨k, rfl⟩ | ⟨k, rfl⟩ | h
  · exact hb hj
  · exact hd hj
  · exact hs k hj
  · exact hr k hj
  · obtain ⟨h1, h2, h3, h4⟩ := place_none h
    rw [rnd_other h1 h2 h3 h4, rnd_other h1 h2 h3 h4]

theorem poss_step (c : Dev nD) {w b e w' b' e' : ℕ} (j₀ : Fin 74) (h0 : rnd w b e j₀ = 0) (h1 : rnd w' b' e' j₀ = 1)
    (h : ∀ j, j ≠ j₀ → rnd w' b' e' j = rnd w b e j) :
    poss (F := F) c w b e ⊢ iprop(atPos ER ((c : Thread nD τ), csem j₀) 0 ∅ 0 ∗ (atPos ER ((c : Thread nD τ), csem j₀) 1 ∅ 0 -∗ poss (F := F) c w' b' e')) := by
  unfold poss
  rw [bigSep_univ_at _ j₀, bigSep_univ_at (fun j => atPos ER ((c : Thread nD τ), csem j) (rnd w' b' e' j) ∅ 0) j₀, h0, h1,
    bigSep_congr (s := Finset.univ.erase j₀) (Φ := fun j => atPos ER ((c : Thread nD τ), csem j) (rnd w' b' e' j) ∅ 0)
      (fun j hj => by rw [h j (Finset.ne_of_mem_erase hj)])]
  iintro ⟨H1, H2⟩
  isplitl [H1]; · iexact H1
  iintro H; isplitl [H] <;> iassumption

theorem poss_send (c : Dev nD) (k : Fin 20) {w b e : ℕ} (hb : k.val = b) :
    poss (F := F) c w b e ⊢ iprop(atPos ER (sendCell c k) 0 ∅ 0 ∗ (atPos ER (sendCell c k) 1 ∅ 0 -∗ poss (F := F) c w (b + 1) e)) := by
  have := poss_step (F := F) c (w := w) (b := b) (e := e) (w' := w) (b' := b + 1) (e' := e) (sIx k)
    (by rw [rnd_s]; exact if_neg (by omega)) (by rw [rnd_s]; exact if_pos (by omega))
    (fun j hj => rnd_same hj (fun _ => by rw [rnd_b, rnd_b]) (fun _ => by rw [rnd_d, rnd_d])
      (fun k' h => by
        have : k'.val ≠ b := fun h' => h (congrArg sIx (Fin.ext (h'.trans hb.symm)))
        rw [rnd_s, rnd_s]; exact if_congr (by omega) rfl rfl)
      (fun k' _ => by rw [rnd_r, rnd_r]))
  rwa [csem_s] at this

theorem poss_recv (c : Dev nD) (k : Fin 20) {w b e : ℕ} (he : k.val = e) :
    poss (F := F) c w b e ⊢ iprop(atPos ER (recvCell c k) 0 ∅ 0 ∗ (atPos ER (recvCell c k) 1 ∅ 0 -∗ poss (F := F) c w b (e + 1))) := by
  have := poss_step (F := F) c (w := w) (b := b) (e := e) (w' := w) (b' := b) (e' := e + 1) (rIx k)
    (by rw [rnd_r]; exact if_neg (by omega)) (by rw [rnd_r]; exact if_pos (by omega))
    (fun j hj => rnd_same hj (fun _ => by rw [rnd_b, rnd_b]) (fun _ => by rw [rnd_d, rnd_d])
      (fun k' _ => by rw [rnd_s, rnd_s])
      (fun k' h => by
        have : k'.val ≠ e := fun h' => h (congrArg rIx (Fin.ext (h'.trans he.symm)))
        rw [rnd_r, rnd_r]; exact if_congr (by omega) rfl rfl))
  rwa [csem_r] at this

theorem poss_bar (c : Dev nD) {b e : ℕ} :
    poss (F := F) c 0 b e ⊢ iprop(atPos ER (barCell c) 0 ∅ 0 ∗ (atPos ER (barCell c) 1 ∅ 0 -∗ poss (F := F) c 1 b e)) := by
  have := poss_step (F := F) c (w := 0) (b := b) (e := e) (w' := 1) (b' := b) (e' := e) bIx
    (by rw [rnd_b]; rfl) (by rw [rnd_b]; rfl)
    (fun j hj => rnd_same hj (fun h => absurd rfl h) (fun _ => by rw [rnd_d, rnd_d]; rfl)
      (fun k' _ => by rw [rnd_s, rnd_s]) (fun k' _ => by rw [rnd_r, rnd_r]))
  rwa [csem_b] at this

theorem poss_done (c : Dev nD) {b e : ℕ} :
    poss (F := F) c 1 b e ⊢ iprop(atPos ER (doneCell c) 0 ∅ 0 ∗ (atPos ER (doneCell c) 1 ∅ 0 -∗ poss (F := F) c 2 b e)) := by
  have := poss_step (F := F) c (w := 1) (b := b) (e := e) (w' := 2) (b' := b) (e' := e) dIx
    (by rw [rnd_d]; rfl) (by rw [rnd_d]; rfl)
    (fun j hj => rnd_same hj (fun _ => by rw [rnd_b, rnd_b]; rfl) (fun h => absurd rfl h)
      (fun k' _ => by rw [rnd_s, rnd_s]) (fun k' _ => by rw [rnd_r, rnd_r]))
  rwa [csem_d] at this

/-- After every wait all cells close: their counters are zero. -/
theorem poss_close (c : Dev nD) : iprop(recs m K ∗ poss c 2 20 20) ⊢ |={Set.univ}=> bigSep Finset.univ fun j : Fin 74 => semVal ((c : Thread nD τ), csem j) 0 := by
  have hone : ∀ j : Fin 74, iprop(recs m K ∗ atPos ER ((c : Thread nD τ), csem j) (rnd 2 20 20 j) ∅ 0) ⊢ |={Set.univ}=> semVal ((c : Thread nD τ), csem j) 0 := fun j => by
    iintro ⟨#HR, H⟩
    iapply (Rounds.cell_close ER (sched m) (Set.mem_univ (K (c, j))) (fun h => h) (R := rnd 2 20 20 j) (by
      rcases place_cases j with rfl | rfl | ⟨k, rfl⟩ | ⟨k, rfl⟩ | h
      · rw [rnd_b]; exact duties_later m _
      · rw [rnd_d]; exact duties_later m _
      · rw [rnd_s, if_pos k.isLt]; exact duties_later m _
      · rw [rnd_r, if_pos k.isLt]; exact duties_later m _
      · exact fun r _ => duties_none m c _ h r (Nat.zero_le r)))
    isplitr; · iapply (recs_inv m K c j); iexact HR
    iexact H
  unfold poss
  refine (sep_mono_left (BI.bigSep_of_persistent (Finset.univ : Finset (Fin 74)) (recs m K))).trans ?_
  rw [← bigSep_sep']
  exact (bigSep_mono fun j _ => hone j).trans (bigSep_fupd _ _)

end Cert.Moe
end
-- ==== Proof.Copies.lean ====
/- The twenty copies: sending one, waiting for its source to come back, waiting for the one sent here; and the two barriers. -/
module

public import proofs.«01_k».proof.Proof.Steps

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 74 → ℕ)

/-! ## The state between two operations -/

/-- What copy `k` still needs: its two tokens and room where it lands. -/
def pend (c : Dev nD) (k : Fin 20) : sProp 𝕄 :=
  iprop(dutyTok ER (sendCell c k) 0 0 ∗ dutyTok ER (recvCell (peer k c) k) 0 0 ∗ room (F := F) (peer k c) k)
/-- A region of the accumulator that was sent and is not read again. -/
def spent (c : Dev nD) (k : Fin 20) : sProp 𝕄 := if k.val < 10 then iprop(∃ f, acPts (F := F) c (srcB k c) f) else iprop(emp)
def credS (c : Dev nD) (k : Fin 20) : sProp 𝕄 := cred (tallyAt (sendCell c k) () (amt k))
def credR (c : Dev nD) (k : Fin 20) : sProp 𝕄 := cred (tallyAt (recvCell c k) () (amt k))
def debts (c : Dev nD) (s a t : ℕ) : sProp 𝕄 := iprop(∃ W, owes (c : Thread nD τ) (debt c s a t) W)

/-- Device `c` after `a` copies, `b` send waits and `e` receive waits. -/
def St (c : Dev nD) (a b e : ℕ) : sProp 𝕄 :=
  iprop(recs m K ∗ debts c 5 a 0 ∗ bigSep (rng a 20) (pend (F := F) c) ∗ bigSep (rng b a) (credS (F := F) c)
    ∗ bigSep (rng e 20) (credR (F := F) c) ∗ bigSep (rng 0 b) (spent (F := F) c) ∗ poss (F := F) c 1 b e)

/-! ## Where a copy lands -/

theorem from_peer (k : Fin 20) (c : Dev nD) : from' k (peer k c) = c := back_partner _ _
theorem peer_from (k : Fin 20) (c : Dev nD) : peer k (from' k c) = c := partner_back _ _

section Landing
variable (c : Dev nD) (k : Fin 20) {offS offD : Fin 3 → ℕ} (hS : offS = offv (chunk k) (srcLo k c)) (hD : offD = offv (chunk k) (dstLo k c))
  {sz : Fin 3 → ℕ} (hsz : sz = ![1, len k * 64, 256])
  (inbS : ∀ a, offS a + sz a ≤ (S2x1024x256 : Shape).size a) (inbD : ∀ a, offD a + sz a ≤ (S2x1024x256 : Shape).size a)
  {sh : Shape} (sqS : (Rect.unit (s := S2x1024x256) offS sz inbS).shape.Squeezes sh) (sqD : (Rect.unit (s := S2x1024x256) offD sz inbD).shape.Squeezes sh)

/-- The source region of a copy, as the memory reference the kernel names. -/
abbrev cutM (r : Ref sig .tc) (M : Memref sig .tc .vmem S2x1024x256 .f32) {off sz : Fin 3 → ℕ} (inb : ∀ a, off a + sz a ≤ (S2x1024x256 : Shape).size a)
    {sh : Shape} (sq : (Rect.unit (s := S2x1024x256) off sz inb).shape.Squeezes sh) : Memref sig .tc .vmem sh .f32 :=
  (M.slice (Rect.unit (s := S2x1024x256) off sz inb) (fun _ => rfl)).squeeze sh sq

include hD hsz in
theorem set_dst : (Rect.unit (s := S2x1024x256) offD sz inbD).set = blk (dstB k c) := rect_set (dstLo_le k c) hD hsz inbD
include hS hsz in
theorem set_src : (Rect.unit (s := S2x1024x256) offS sz inbS).set = blk (srcB k c) := rect_set (srcLo_le k c) hS hsz inbS

include hS hD hsz in
/-- Under one index of the transfer lie matching positions of source and destination. -/
theorem pair_at (y : sh.Idx) (g : Fin 20 → BIx → Elt F .f32) :
    landVal m k (peer k c) ((Rect.unit (s := S2x1024x256) offD sz inbD).emb (Shape.reshapeEquiv sqD.numel_eq y))
      = phaseVal m k c ((Rect.unit (s := S2x1024x256) offS sz inbS).emb (Shape.reshapeEquiv sqS.numel_eq y)) := by
  rw [rect_seg (chunk_lt k) (dstLo_le k c) hD hsz inbD, rect_seg (chunk_lt k) (srcLo_le k c) hS hsz inbS]
  have h := landVal_seg m k (peer k c) (r := ((Shape.reshapeEquiv sqD.numel_eq y : (Rect.unit (s := S2x1024x256) offD sz inbD).shape.Idx) 1).val)
    (x := ((Shape.reshapeEquiv sqD.numel_eq y : (Rect.unit (s := S2x1024x256) offD sz inbD).shape.Idx) 2).val)
    (by subst hsz; exact ((Shape.reshapeEquiv sqD.numel_eq y : (Rect.unit (s := S2x1024x256) offD _ inbD).shape.Idx) 1).isLt)
  rw [from_peer] at h
  exact h

include hS hD hsz in
theorem land_rs (f : BIx → Elt F .f32) (i : BIx) (hi : i ∈ (cutM cc0_scratch1 rcM inbD sqD).view.set) :
    (cutM cc0_scratch1 rcM inbD sqD).view.write (Elt F) f ((cutM cc0_scratch0 acM inbS sqS).view.read (Elt F) (phaseVal m k c)) Finset.univ i
      = landVal m k (peer k c) i := by
  obtain ⟨y, _, rfl⟩ := Finset.mem_map.mp hi
  rw [View.write_emb_of_mem _ _ (Finset.mem_univ y)]
  exact (pair_at m c k hS hD hsz inbS inbD sqS sqD y (fun _ => phaseVal m k c)).symm
include hS hD hsz in
theorem land_ag (f : BIx → Elt F .f32) (i : BIx) (hi : i ∈ (cutM cc0_scratch2 gtM inbD sqD).view.set) :
    (cutM cc0_scratch2 gtM inbD sqD).view.write (Elt F) f ((cutM cc0_scratch2 gtM inbS sqS).view.read (Elt F) (phaseVal m k c)) Finset.univ i
      = landVal m k (peer k c) i := by
  obtain ⟨y, _, rfl⟩ := Finset.mem_map.mp hi
  rw [View.write_emb_of_mem _ _ (Finset.mem_univ y)]
  exact (pair_at m c k hS hD hsz inbS inbD sqS sqD y (fun _ => phaseVal m k c)).symm

end Landing

theorem phaseVal_gat {k : Fin 20} (hk : 10 ≤ k.val) (c : Dev nD) : phaseVal m k c = GF m := by
  obtain ⟨k, hk'⟩ := k
  have : ∃ n, k = n + 10 := ⟨k - 10, by have : 10 ≤ k := hk; omega⟩
  obtain ⟨n, rfl⟩ := this
  rfl

/-! ## Sending -/

section Send
variable (c : Dev nD) (k : Fin 20) {a b e : ℕ} (ha : k.val = a) (hba : b ≤ a)
  {offS offD : Fin 3 → ℕ} (hS : offS = offv (chunk k) (srcLo k c)) (hD : offD = offv (chunk k) (dstLo k c))
  {sz : Fin 3 → ℕ} (hsz : sz = ![1, len k * 64, 256])
  {inbS : ∀ a, offS a + sz a ≤ (S2x1024x256 : Shape).size a} {inbD : ∀ a, offD a + sz a ≤ (S2x1024x256 : Shape).size a}
  {sh : Shape} (hsh : sh = shp k)
  {sqS : (Rect.unit (s := S2x1024x256) offS sz inbS).shape.Squeezes sh} {sqD : (Rect.unit (s := S2x1024x256) offD sz inbD).shape.Squeezes sh}
  {n : Dev nD} (hn : n = peer k c) {sS rS : DmaSem sig} (hsS : sS = sendS k) (hrS : rS = recvS k)
  {α : Type} {kt : PUnit → Prog (TpuEff nD τ sig (Elt F) Λ₀ .tc) α}

include ha hba hS hD hsz hsh hn hsS hrS

/-- A copy of the reduction: accumulator to landing buffer. -/
theorem send_rs (hk : k.val < 10) {Q : α → sProp 𝕄}
    {hsc : (cutM cc0_scratch1 rcM inbD sqD).view.ref.isScScratch = false} {hsrc : (cutM cc0_scratch0 acM inbS sqS).view.WordExact}
    {hdst : (cutM cc0_scratch1 rcM inbD sqD).view.WordExact}
    {hsem : DmaTarget.Typed .vmem (.dma rS) (.remote (Dev.tc n : Thread nD τ) (cutM cc0_scratch1 rcM inbD sqD) (.dma sS) hsc)} :
    iprop(St m K c a b e ∗ acPts c (srcB k c) (phaseVal m k c))
      ⊢ iprop((St m K c (a + 1) b e -∗ WP c (kt ⟨⟩) Q)
          -∗ WP c (.op (.enqueueDma (cutM cc0_scratch0 acM inbS sqS) (.remote (Dev.tc n : Thread nD τ) (cutM cc0_scratch1 rcM inbD sqD) (.dma sS) hsc) (.dma rS) hsrc hdst hsem) kt) Q) := by
  subst hsh hn hsS hrS
  have hp : pend (F := F) c k = iprop(dutyTok ER (sendCell c k) 0 0 ∗ dutyTok ER (recvCell (peer k c) k) 0 0 ∗ room (F := F) (peer k c) k) := rfl
  have ha20 : a < 20 := by have := k.isLt; omega
  have hsetS : (cutM cc0_scratch0 acM inbS sqS).view.set = blk (srcB k c) := (whole_squeeze_set cc0_scratch0 _ _ _ _).trans (set_src c k hS hsz inbS)
  have hsetD : (cutM cc0_scratch1 rcM inbD sqD).view.set = blk (dstB k c) := (whole_squeeze_set cc0_scratch1 _ _ _ _).trans (set_dst c k hD hsz inbD)
  have hroom : room (F := F) (peer k c) k = iprop(∃ f, rcPts (peer k c) (inB (peer k c) k) f) := if_pos hk
  unfold St debts
  rw [bigSep_low (pend (F := F) c) k ha ha20, bigSep_high (credS (F := F) c) k ha hba, hp, hroom]
  iintro ⟨⟨#HR, ⟨%W, HO⟩, ⟨Hp, Hps⟩, HcS, HcR, Hsp, Hpos⟩, Hac⟩ Hk
  icases Hp with ⟨HtS, HtR, ⟨%f, Hroom⟩⟩
  have key : _ ⊢ iprop((_ -∗ WP c (kt ⟨⟩) Q) -∗ WP c _ Q) := Rounds.wp_send_pointsTo 𝒱₀ ER (sched m) (c : Thread nD τ) none (κ₁ := K (c, sIx k)) (κ₂ := K (peer k c, rIx k)) (c' := (Dev.tc (peer k c) : Thread nD τ))
    (src := cutM cc0_scratch0 acM inbS sqS) (dst := cutM cc0_scratch1 rcM inbD sqD) (hsc := hsc) (hsrc := hsrc) (hdst := hdst) (hsem := hsem)
    (fs := phaseVal m k c) (fd := f) (q := fullShare) (k := kt)
    (r₁ := 0) (r₂ := 0) (d₁ := 0) (d₂ := 0)
    (by rw [duties_send]; exact Finset.mem_singleton_self _) (by rw [duties_recv]; exact Finset.mem_singleton_self _)
    () () (amt k) rfl (amount_send m c k 0) (amount_recv m (peer k c) k 0) (debt c 5 (a + 1) 0) (debt_copy c k 5 a 0 ha) (W := W)
    (by rw [payload_send, hsetS]; unfold sendPay acPts; rw [if_pos hk])
    (by
      rw [payload_recv, pointsTo_congr (land_rs m c k hS hD hsz inbS inbD sqS sqD f), hsetD]
      unfold recvPay rcPts inB; rw [if_pos hk, from_peer])
  rw [hsetS, hsetD] at key
  iapply key $$ [HO HtS HtR Hroom Hac]
  · isplitr; · iapply (inv_send m K c k); iexact HR
    isplitr; · iapply (inv_recv m K (peer k c) k); iexact HR
    isplitl [Hac]; · unfold acPts; iexact Hac
    isplitl [Hroom]; · unfold rcPts inB; rw [from_peer]; iexact Hroom
    isplitl [HO]; · iexact HO
    isplitl [HtS]; · iexact HtS
    isplitr; · iapply (reached_send m K c k); iexact HR
    isplitl [HtR]; · iexact HtR
    iapply (reached_recv m K (peer k c) k); iexact HR
  iintro ⟨Hcr, HO⟩
  iapply Hk
  isplitr; · iexact HR
  isplitl [HO]; · iexists W; iexact HO
  isplitl [Hps]; · iexact Hps
  isplitl [Hcr HcS]
  · isplitl [Hcr]; · unfold credS; iexact Hcr
    iexact HcS
  isplitl [HcR]; · iexact HcR
  isplitl [Hsp] <;> iassumption

/-- A copy of the gathering: rows of the gather buffer to the same rows of the partner's. -/
theorem send_ag (hk : 10 ≤ k.val) {Q : α → sProp 𝕄}
    {hsc : (cutM cc0_scratch2 gtM inbD sqD).view.ref.isScScratch = false} {hsrc : (cutM cc0_scratch2 gtM inbS sqS).view.WordExact}
    {hdst : (cutM cc0_scratch2 gtM inbD sqD).view.WordExact}
    {hsem : DmaTarget.Typed .vmem (.dma rS) (.remote (Dev.tc n : Thread nD τ) (cutM cc0_scratch2 gtM inbD sqD) (.dma sS) hsc)} :
    iprop(St m K c a b e ∗ gtPts c (shr k) (srcB k c) (GF m))
      ⊢ iprop((St m K c (a + 1) b e -∗ WP c (kt ⟨⟩) Q)
          -∗ WP c (.op (.enqueueDma (cutM cc0_scratch2 gtM inbS sqS) (.remote (Dev.tc n : Thread nD τ) (cutM cc0_scratch2 gtM inbD sqD) (.dma sS) hsc) (.dma rS) hsrc hdst hsem) kt) Q) := by
  subst hsh hn hsS hrS
  have hp : pend (F := F) c k = iprop(dutyTok ER (sendCell c k) 0 0 ∗ dutyTok ER (recvCell (peer k c) k) 0 0 ∗ room (F := F) (peer k c) k) := rfl
  have ha20 : a < 20 := by have := k.isLt; omega
  have hlt : ¬ k.val < 10 := by omega
  have hsetS : (cutM cc0_scratch2 gtM inbS sqS).view.set = blk (srcB k c) := (whole_squeeze_set cc0_scratch2 _ _ _ _).trans (set_src c k hS hsz inbS)
  have hsetD : (cutM cc0_scratch2 gtM inbD sqD).view.set = blk (dstB k c) := (whole_squeeze_set cc0_scratch2 _ _ _ _).trans (set_dst c k hD hsz inbD)
  have hroom : room (F := F) (peer k c) k = iprop(∃ f, gtPts (peer k c) fullShare (inB (peer k c) k) f) := if_neg hlt
  unfold St debts
  rw [bigSep_low (pend (F := F) c) k ha ha20, bigSep_high (credS (F := F) c) k ha hba, hp, hroom]
  iintro ⟨⟨#HR, ⟨%W, HO⟩, ⟨Hp, Hps⟩, HcS, HcR, Hsp, Hpos⟩, Hac⟩ Hk
  icases Hp with ⟨HtS, HtR, ⟨%f, Hroom⟩⟩
  have key : _ ⊢ iprop((_ -∗ WP c (kt ⟨⟩) Q) -∗ WP c _ Q) := Rounds.wp_send_pointsTo 𝒱₀ ER (sched m) (c : Thread nD τ) none (κ₁ := K (c, sIx k)) (κ₂ := K (peer k c, rIx k)) (c' := (Dev.tc (peer k c) : Thread nD τ))
    (src := cutM cc0_scratch2 gtM inbS sqS) (dst := cutM cc0_scratch2 gtM inbD sqD) (hsc := hsc) (hsrc := hsrc) (hdst := hdst) (hsem := hsem)
    (fs := phaseVal m k c) (fd := f) (q := shr k) (k := kt)
    (r₁ := 0) (r₂ := 0) (d₁ := 0) (d₂ := 0)
    (by rw [duties_send]; exact Finset.mem_singleton_self _) (by rw [duties_recv]; exact Finset.mem_singleton_self _)
    () () (amt k) rfl (amount_send m c k 0) (amount_recv m (peer k c) k 0) (debt c 5 (a + 1) 0) (debt_copy c k 5 a 0 ha) (W := W)
    (by rw [payload_send, hsetS, phaseVal_gat m hk]; unfold sendPay gtPts; rw [if_neg hlt])
    (by
      rw [payload_recv, pointsTo_congr (land_ag m c k hS hD hsz inbS inbD sqS sqD f), hsetD, landVal_gat m hk]
      unfold recvPay gtPts inB; rw [if_neg hlt, from_peer])
  rw [hsetS, hsetD, phaseVal_gat m hk] at key
  iapply key $$ [HO HtS HtR Hroom Hac]
  · isplitr; · iapply (inv_send m K c k); iexact HR
    isplitr; · iapply (inv_recv m K (peer k c) k); iexact HR
    isplitl [Hac]; · unfold gtPts; iexact Hac
    isplitl [Hroom]; · unfold gtPts inB; rw [from_peer]; iexact Hroom
    isplitl [HO]; · iexact HO
    isplitl [HtS]; · iexact HtS
    isplitr; · iapply (reached_send m K c k); iexact HR
    isplitl [HtR]; · iexact HtR
    iapply (reached_recv m K (peer k c) k); iexact HR
  iintro ⟨Hcr, HO⟩
  iapply Hk
  isplitr; · iexact HR
  isplitl [HO]; · iexists W; iexact HO
  isplitl [Hps]; · iexact Hps
  isplitl [Hcr HcS]
  · isplitl [Hcr]; · unfold credS; iexact Hcr
    iexact HcS
  isplitl [HcR]; · iexact HcR
  isplitl [Hsp] <;> iassumption

end Send

/-! ## Waiting -/

theorem may_send (c : Dev nD) (k : Fin 20) (a : ℕ) : (levAts L lv : sProp 𝕄) ⊢ MayWait (c : Thread nD τ) (.dma (sendS k)) () (debt c 5 a 0) :=
  mayWait_of (F := F) c (.dma (sendS k)) 0 5 a 0 (by rw [role_send]; exact Nat.le_refl 0) (fun h => absurd h (Nat.lt_irrefl 5)) (by omega) (by omega)
theorem may_recv (c : Dev nD) (k : Fin 20) (a : ℕ) (h : k.val < a) :
    (levAts L lv : sProp 𝕄) ⊢ MayWait (c : Thread nD τ) (.dma (recvS k)) () (debt c 5 a 0) :=
  mayWait_of (F := F) c (.dma (recvS k)) (2 + k.val) 5 a 0 (by rw [role_recv]; exact Nat.le_refl _) (fun h => absurd h (Nat.lt_irrefl 5)) (by omega)
    (by have := k.isLt; omega)

section Wait
variable (c : Dev nD) (k : Fin 20) {a b e : ℕ} {sem : DmaSem sig}
  {sp sp' : Space} {s' : Shape} {e' : EltTy} {sh : Shape} (hsh : sh = shp k)
  {src : Memref sig .tc sp' s' e'} {dst : Memref sig .tc .vmem sh .f32} {hsrc : src.view.WordExact} {hdst : dst.view.WordExact}
  {α : Type} {kt : PUnit → Prog (TpuEff nD τ sig (Elt F) Λ₀ .tc) α}

/-- The same wait on its own cell. -/
theorem wait_send_at {Q : α → sProp 𝕄} {dst : Memref sig .tc .vmem (shp k) .f32} {hdst : dst.view.WordExact} {W : Finset (SemLoc sig × Unit)} :
    iprop(recs m K ∗ credS (F := F) c k ∗ owes (c : Thread nD τ) (debt c 5 a 0) W ∗ atPos ER (sendCell c k) 0 ∅ 0)
      ⊢ iprop(((owes (c : Thread nD τ) (debt c 5 a 0) (insert (.dma (sendS k), ()) W) ∗ atPos ER (sendCell c k) 1 ∅ 0
            ∗ sendPay c m k) -∗ WP c (kt ⟨⟩) Q)
          -∗ WP c (.op (.waitDma2 (sendS k) src dst hsrc hdst) kt) Q) := by
  have hmay : recs m K ⊢ MayWait (c : Thread nD τ) (.dma (sendS k)) () (debt c 5 a 0) :=
    (@recs_lev F _ m K).trans (may_send (F := F) c k a)
  have hcr : amt k = dst.view.dmaCredit := (credit_of dst.view).symm
  unfold credS
  rw [hcr]
  iintro ⟨#HR, Hc, HO, Hat⟩ Hk
  iapply (Rounds.wp_wait_rest_token 𝒱₀ ER (sched m) (c : Thread nD τ) none (κ := K (c, sIx k))
      (wpE_waitDma2_eq 𝒱₀ (c : Thread nD τ) none Set.univ) (Set.mem_univ _) () (O := debt c 5 a 0) (W := W) (R := 0) (m := 0) (T := ∅)
      (by rw [Nat.zero_add, expect_send]; exact hcr.symm)) $$ [Hc HO Hat]
  · isplitr; · iapply (inv_send m K c k); iexact HR
    isplitl [Hc]; · iexact Hc
    isplitl [HO]; · iexact HO
    isplitr
    · iapply hmay; iexact HR
    iexact Hat
  iintro ⟨HO, Hat, -, Hpay⟩
  ihave Hpay := (Entails.of_eq (rest_send m c k)) $$ Hpay
  iapply Hk
  isplitl [HO]; · iexact HO
  isplitl [Hat] <;> iassumption

/-- The wait for copy `k` sent here, on its own cell. -/
theorem wait_recv_at {Q : α → sProp 𝕄} {dst : Memref sig .tc .vmem (shp k) .f32} {hdst : dst.view.WordExact} {W : Finset (SemLoc sig × Unit)} (hea : k.val < a) :
    iprop(recs m K ∗ credR (F := F) c k ∗ owes (c : Thread nD τ) (debt c 5 a 0) W ∗ atPos ER (recvCell c k) 0 ∅ 0)
      ⊢ iprop(((owes (c : Thread nD τ) (debt c 5 a 0) (insert (.dma (recvS k), ()) W) ∗ atPos ER (recvCell c k) 1 ∅ 0
            ∗ recvPay c m k) -∗ WP c (kt ⟨⟩) Q)
          -∗ WP c (.op (.waitDma2 (recvS k) src dst hsrc hdst) kt) Q) := by
  have hmay : recs m K ⊢ MayWait (c : Thread nD τ) (.dma (recvS k)) () (debt c 5 a 0) :=
    (@recs_lev F _ m K).trans (may_recv (F := F) c k a hea)
  have hcr : amt k = dst.view.dmaCredit := (credit_of dst.view).symm
  unfold credR
  rw [hcr]
  iintro ⟨#HR, Hc, HO, Hat⟩ Hk
  iapply (Rounds.wp_wait_rest_token 𝒱₀ ER (sched m) (c : Thread nD τ) none (κ := K (c, rIx k))
      (wpE_waitDma2_eq 𝒱₀ (c : Thread nD τ) none Set.univ) (Set.mem_univ _) () (O := debt c 5 a 0) (W := W) (R := 0) (m := 0) (T := ∅)
      (by rw [Nat.zero_add, expect_recv]; exact hcr.symm)) $$ [Hc HO Hat]
  · isplitr; · iapply (inv_recv m K c k); iexact HR
    isplitl [Hc]; · iexact Hc
    isplitl [HO]; · iexact HO
    isplitr
    · iapply hmay; iexact HR
    iexact Hat
  iintro ⟨HO, Hat, -, Hpay⟩
  ihave Hpay := (Entails.of_eq (rest_recv m c k)) $$ Hpay
  iapply Hk
  isplitl [HO]; · iexact HO
  isplitl [Hat] <;> iassumption

include hsh in
/-- The wait for a copy's source: the region is the device's again. -/
theorem wait_send {Q : α → sProp 𝕄} (hb : k.val = b) (hba : b < a) (hsem : sem = sendS k) :
    St m K c a b e
      ⊢ iprop(((St m K c a (b + 1) e ∗ (if k.val < 10 then iprop(emp) else gtPts c (shr k) (srcB k c) (GF m))) -∗ WP c (kt ⟨⟩) Q)
          -∗ WP c (.op (.waitDma2 sem src dst hsrc hdst) kt) Q) := by
  subst hsh hsem
  have hsp : spent (F := F) c k = (if k.val < 10 then iprop(∃ f, acPts (F := F) c (srcB k c) f) else iprop(emp)) := rfl
  have hrest : sendPay c m k = (if k.val < 10 then acPts c (srcB k c) (phaseVal m k c) else gtPts c (shr k) (srcB k c) (GF m)) := rfl
  unfold St debts
  rw [bigSep_low (credS (F := F) c) k hb hba, bigSep_high (spent (F := F) c) k hb (Nat.zero_le _)]
  by_cases hk : k.val < 10
  · rw [if_pos hk] at hrest hsp
    rw [if_pos hk, hsp]
    iintro ⟨#HR, ⟨%W, HO⟩, Hps, ⟨Hc, HcS⟩, HcR, Hsp, Hpos⟩ Hk
    ihave Hat := (poss_send (F := F) c k (w := 1) (e := e) hb) $$ Hpos
    icases Hat with ⟨Hat, Hpos⟩
    iapply (wait_send_at m K c k) $$ [Hc HO Hat]
    · isplitr; · iexact HR
      isplitl [Hc]; · iexact Hc
      isplitl [HO] <;> iassumption
    iintro ⟨HO, Hat, Hpay⟩
    ihave Hpay := (Entails.of_eq hrest) $$ Hpay
    iapply Hk
    isplitl
    · isplitr; · iexact HR
      isplitl [HO]; · iexists _; iexact HO
      isplitl [Hps]; · iexact Hps
      isplitl [HcS]; · iexact HcS
      isplitl [HcR]; · iexact HcR
      isplitl [Hpay Hsp]
      · isplitl [Hpay]; · iexists _; iexact Hpay
        iexact Hsp
      iapply Hpos; iexact Hat
    · iempintro
  · rw [if_neg hk] at hrest hsp
    rw [if_neg hk, hsp]
    iintro ⟨#HR, ⟨%W, HO⟩, Hps, ⟨Hc, HcS⟩, HcR, Hsp, Hpos⟩ Hk
    ihave Hat := (poss_send (F := F) c k (w := 1) (e := e) hb) $$ Hpos
    icases Hat with ⟨Hat, Hpos⟩
    iapply (wait_send_at m K c k) $$ [Hc HO Hat]
    · isplitr; · iexact HR
      isplitl [Hc]; · iexact Hc
      isplitl [HO] <;> iassumption
    iintro ⟨HO, Hat, Hpay⟩
    ihave Hpay := (Entails.of_eq hrest) $$ Hpay
    iapply Hk
    isplitr [Hpay]
    · isplitr; · iexact HR
      isplitl [HO]; · iexists _; iexact HO
      isplitl [Hps]; · iexact Hps
      isplitl [HcS]; · iexact HcS
      isplitl [HcR]; · iexact HcR
      isplitl [Hsp]
      · isplitr; · iempintro
        iexact Hsp
      iapply Hpos; iexact Hat
    · iexact Hpay

include hsh in
/-- The wait for the copy sent here: its region, at the sender's rows. -/
theorem wait_recv {Q : α → sProp 𝕄} (he : k.val = e) (hea : e < a) (hsem : sem = recvS k) :
    St m K c a b e
      ⊢ iprop(((St m K c a b (e + 1) ∗ recvPay c m k) -∗ WP c (kt ⟨⟩) Q) -∗ WP c (.op (.waitDma2 sem src dst hsrc hdst) kt) Q) := by
  subst hsh hsem
  have he20 : e < 20 := by have := k.isLt; omega
  unfold St debts
  rw [bigSep_low (credR (F := F) c) k he he20]
  iintro ⟨#HR, ⟨%W, HO⟩, Hps, HcS, ⟨Hc, HcR⟩, Hsp, Hpos⟩ Hk
  ihave Hat := (poss_recv (F := F) c k (w := 1) (b := b) he) $$ Hpos
  icases Hat with ⟨Hat, Hpos⟩
  iapply (wait_recv_at m K c k (a := a) (by omega)) $$ [Hc HO Hat]
  · isplitr; · iexact HR
    isplitl [Hc]; · iexact Hc
    isplitl [HO] <;> iassumption
  iintro ⟨HO, Hat, Hpay⟩
  iapply Hk
  isplitr [Hpay]
  · isplitr; · iexact HR
    isplitl [HO]; · iexists _; iexact HO
    isplitl [Hps]; · iexact Hps
    isplitl [HcS]; · iexact HcS
    isplitl [HcR]; · iexact HcR
    isplitl [Hsp]; · iexact Hsp
    iapply Hpos; iexact Hat
  · iexact Hpay

end Wait

end Cert.Moe
end
-- ==== Proof.Barriers.lean ====
/- The two barriers: every device tells its five partners that it has entered, and at the end that it is done. -/
module

public import proofs.«01_k».proof.Proof.Copies

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 74 → ℕ)

/-- Before the first barrier is through: the signals from partner `s` on are still owed, each with what it hands over. -/
def Pre (c : Dev nD) (s : ℕ) : sProp 𝕄 :=
  iprop(recs m K ∗ debts (F := F) c s 0 0 ∗ bigSep (rng s 5) fun p : Fin 5 => iprop(dutyTok ER (barCell (partner p c)) 0 p ∗ barPay (F := F) (partner p c) p))

/-- After the last copy: the done signals from partner `t` on are still owed. -/
def Post (c : Dev nD) (t : ℕ) : sProp 𝕄 :=
  iprop(recs m K ∗ debts (F := F) c 5 20 t ∗ bigSep (rng t 5) fun p : Fin 5 => dutyTok ER (doneCell (partner p c)) 0 p)

section Sig
variable (c : Dev nD) (p : Fin 5) {s : ℕ} (hp : p.val = s) {n : Dev nD} (hn : n = partner p c) {sem : Sem sig}
  {α : Type} {kt : PUnit → Prog (TpuEff nD τ sig (Elt F) Λ₀ .tc) α}

include hp hn in
theorem sig_bar {Q : α → sProp 𝕄} (hsem : sem = barS) :
    Pre m K c s ⊢ iprop((Pre m K c (s + 1) -∗ WP c (kt ⟨⟩) Q) -∗ WP c (.op (.semSignal ((n, .tc) : Thread nD τ) sem (1#32 : BitVec 32).toInt) kt) Q) := by
  subst hn hsem
  have hs : s < 5 := by have := p.isLt; omega
  unfold Pre debts
  rw [bigSep_low (fun p : Fin 5 => iprop(dutyTok ER (barCell (partner p c)) 0 p ∗ barPay (F := F) (partner p c) p)) p hp hs]
  iintro ⟨#HR, ⟨%W, HO⟩, ⟨Ht, Hpay⟩, Hrest⟩ Hk
  iapply (Rounds.wp_signal 𝒱₀ ER (sched m) (c : Thread nD τ) none (dst := (partner p c : Thread nD τ)) (κ := K (partner p c, bIx))
      (d := p) (by rw [duties_bar]; exact Finset.mem_univ _) ((amount_bar m (partner p c) p).trans (by decide)) () (debt c (s + 1) 0 0) (debt_bar c p s 0 0 hp))
    $$ [HO Ht Hpay]
  · isplitr; · iapply (inv_bar m K (partner p c)); iexact HR
    isplitl [HO]; · iexact HO
    isplitl [Ht]; · iexact Ht
    isplitl [Hpay]; · rw [payload_bar]; iexact Hpay
    iapply (reached_bar m K (partner p c)); iexact HR
  iintro HO
  iapply Hk
  isplitr; · iexact HR
  isplitl [HO]; · iexists W; iexact HO
  iexact Hrest

include hp hn in
theorem sig_done {Q : α → sProp 𝕄} (hsem : sem = barT) :
    Post m K c s ⊢ iprop((Post m K c (s + 1) -∗ WP c (kt ⟨⟩) Q) -∗ WP c (.op (.semSignal ((n, .tc) : Thread nD τ) sem (1#32 : BitVec 32).toInt) kt) Q) := by
  subst hn hsem
  have hs : s < 5 := by have := p.isLt; omega
  unfold Post debts
  rw [bigSep_low (fun p : Fin 5 => (dutyTok ER (doneCell (partner p c)) 0 p : sProp 𝕄)) p hp hs]
  iintro ⟨#HR, ⟨%W, HO⟩, Ht, Hrest⟩ Hk
  iapply (Rounds.wp_signal 𝒱₀ ER (sched m) (c : Thread nD τ) none (dst := (partner p c : Thread nD τ)) (κ := K (partner p c, dIx))
      (d := p) (by rw [duties_done]; exact Finset.mem_univ _) ((amount_done m (partner p c) p).trans (by decide)) () (debt c 5 20 (s + 1)) (debt_done c p 5 20 s hp))
    $$ [HO Ht]
  · isplitr; · iapply (inv_done m K (partner p c)); iexact HR
    isplitl [HO]; · iexact HO
    isplitl [Ht]; · iexact Ht
    isplitr; · rw [payload_done]; iempintro
    iapply (reached_done m K (partner p c)); iexact HR
  iintro HO
  iapply Hk
  isplitr; · iexact HR
  isplitl [HO]; · iexists W; iexact HO
  iexact Hrest
end Sig

/-! ## The waits of the barriers -/

section WaitBar
variable (c : Dev nD) {sem : Sem sig} {α : Type} {kt : PUnit → Prog (TpuEff nD τ sig (Elt F) Λ₀ .tc) α}

/-- The tokens with which the device pays for its copies. -/
def toks (c : Dev nD) : sProp 𝕄 :=
  bigSep (Finset.univ : Finset (Fin 20)) fun k => iprop(dutyTok ER (sendCell c k) 0 0 ∗ dutyTok ER (recvCell (peer k c) k) 0 0)

theorem pend_intro (c : Dev nD) (k : Fin 20) :
    iprop((dutyTok ER (sendCell c k) 0 0 ∗ dutyTok ER (recvCell (peer k c) k) 0 0) ∗ room (F := F) (peer k c) k) ⊢ pend (F := F) c k := by
  unfold pend
  iintro ⟨⟨H1, H2⟩, H3⟩
  isplitl [H1]; · iexact H1
  isplitl [H2] <;> iassumption

/-- The wait for the five partners: from here on the device has room on its peers for all twenty copies. -/
theorem wait_bar {Q : α → sProp 𝕄} (hsem : sem = barS) :
    iprop(Pre m K c 5 ∗ poss (F := F) c 0 0 0 ∗ cred (tallyAt (barCell c) () 5) ∗ toks (F := F) c ∗ bigSep (Finset.univ : Finset (Fin 20)) (credR (F := F) c))
      ⊢ iprop((St m K c 0 0 0 -∗ WP c (kt ⟨⟩) Q) -∗ WP c (.op (.semWait sem (5#32 : BitVec 32).toInt) kt) Q) := by
  subst hsem
  have hmay : recs m K ⊢ MayWait (c : Thread nD τ) (.reg barS) () (debt c 5 0 0) :=
    (@recs_lev F _ m K).trans (mayWait_of (F := F) c (.reg barS) 1 5 0 0 (by rw [role_bar]; exact Nat.le_refl 1) (fun h => absurd h (Nat.lt_irrefl 5)) (by omega) (by omega))
  have hjoin : iprop(toks (F := F) c ∗ bigSep Finset.univ fun k : Fin 20 => room (F := F) (peer k c) k) ⊢ bigSep (rng 0 20) (pend (F := F) c) := by
    rw [rng_univ]; unfold toks; rw [← bigSep_sep']
    exact bigSep_mono fun k _ => pend_intro c k
  unfold Pre debts
  iintro ⟨⟨#HR, ⟨%W, HO⟩, -⟩, Hpos, Hc, Ht, HcR⟩ Hk
  ihave Hat := (poss_bar (F := F) c (b := 0) (e := 0)) $$ Hpos
  icases Hat with ⟨Hat, Hpos⟩
  iapply (Rounds.wp_wait_rest_token 𝒱₀ ER (sched m) (c : Thread nD τ) none (κ := K (c, bIx))
      (wpE_semWait_eq 𝒱₀ (c : Thread nD τ) none Set.univ) (Set.mem_univ _) () (O := debt c 5 0 0) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply hmay; iexact HR
    iexact Hat
  iintro ⟨HO, Hat, -, Hpay⟩
  ihave Hpay := (Entails.of_eq (rest_bar m c)) $$ Hpay
  iapply Hk
  unfold St debts
  isplitr; · iexact HR
  isplitl [HO]; · iexists _; iexact HO
  isplitl [Ht Hpay]
  · iapply hjoin; isplitl [Ht] <;> iassumption
  isplitr; · rw [bigSep_none]; iempintro
  isplitl [HcR]; · rw [rng_univ]; iexact HcR
  isplitr; · rw [bigSep_none]; iempintro
  iapply Hpos; iexact Hat

/-- The last wait: the five partners are done. -/
theorem wait_done {Q : α → sProp 𝕄} (hsem : sem = barT) {b e : ℕ} :
    iprop(Post m K c 5 ∗ poss (F := F) c 1 b e ∗ cred (tallyAt (doneCell c) () 5))
      ⊢ iprop(((∃ W, owes (c : Thread nD τ) 0 W) ∗ recs m K ∗ poss (F := F) c 2 b e -∗ WP c (kt ⟨⟩) Q) -∗ WP c (.op (.semWait sem (5#32 : BitVec 32).toInt) kt) Q) := by
  subst hsem
  unfold Post debts
  rw [debt_zero]
  iintro ⟨⟨#HR, ⟨%W, HO⟩, -⟩, Hpos, Hc⟩ Hk
  ihave Hat := (poss_done (F := F) c (b := b) (e := e)) $$ Hpos
  icases Hat with ⟨Hat, Hpos⟩
  iapply (Rounds.wp_wait_rest_token 𝒱₀ ER (sched m) (c : Thread nD τ) none (κ := K (c, dIx))
      (wpE_semWait_eq 𝒱₀ (c : Thread nD τ) none Set.univ) (Set.mem_univ _) () (O := 0) (W := W) (R := 0) (m := 0) (T := ∅)
      (by rw [expect_done]; decide)) $$ [Hc HO Hat]
  · isplitr; · iapply (inv_done m K c); iexact HR
    isplitl [Hc]; · iexact Hc
    isplitl [HO]; · iexact HO
    isplitr; · rw [MayWait_zero]; iempintro
    iexact Hat
  iintro ⟨HO, Hat, -, -⟩
  iapply Hk
  isplitl [HO]; · iexists _; iexact HO
  isplitr; · iexact HR
  iapply Hpos; iexact Hat
end WaitBar

end Cert.Moe
end
-- ==== Proof.Access.lean ====
/- Loads and stores as steps, and cutting and joining runs of blocks. -/
module

public import proofs.«01_k».proof.Proof.Barriers

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Runs of blocks -/

section Blocks
open scoped Idealize.SL.RA.PCS
variable (c : Dev nD) {B C D : Finset (Fin 32)} {f g : BIx → Elt F .f32}

theorem ac_cut (h : B = C ∪ D ∧ Disjoint C D) : acPts c B f ⊣⊢ iprop(acPts c C f ∗ acPts c D f) := by
  rw [h.1]; unfold acPts; rw [blk_union]; exact pointsTo_union (blk_disjoint h.2)
theorem rc_cut (h : B = C ∪ D ∧ Disjoint C D) : rcPts c B f ⊣⊢ iprop(rcPts c C f ∗ rcPts c D f) := by
  rw [h.1]; unfold rcPts; rw [blk_union]; exact pointsTo_union (blk_disjoint h.2)
theorem gt_cut {q : PosShare TreeShare} (h : B = C ∪ D ∧ Disjoint C D) : gtPts c q B f ⊣⊢ iprop(gtPts c q C f ∗ gtPts c q D f) := by
  rw [h.1]; unfold gtPts; rw [blk_union]; exact pointsTo_union (blk_disjoint h.2)
theorem gt_share {q q₁ q₂ : PosShare TreeShare} (h : q ∈ q₁ ·? q₂) : gtPts c q B f ⊣⊢ iprop(gtPts c q₁ B f ∗ gtPts c q₂ B f) := by
  unfold gtPts; exact pointsTo_share h

/-- Whatever two runs hold, together they hold something. -/
theorem ac_glue (h : B = C ∪ D ∧ Disjoint C D) : iprop((∃ f, acPts (F := F) c C f) ∗ ∃ f, acPts (F := F) c D f) ⊢ iprop(∃ f, acPts (F := F) c B f) := by
  rw [h.1]; unfold acPts; rw [blk_union]
  iintro ⟨⟨%f, H1⟩, ⟨%g, H2⟩⟩
  iexists _
  iapply (pointsTo_join (blk_disjoint h.2)); isplitl [H1] <;> iassumption
theorem rc_glue (h : B = C ∪ D ∧ Disjoint C D) : iprop((∃ f, rcPts (F := F) c C f) ∗ ∃ f, rcPts (F := F) c D f) ⊢ iprop(∃ f, rcPts (F := F) c B f) := by
  rw [h.1]; unfold rcPts; rw [blk_union]
  iintro ⟨⟨%f, H1⟩, ⟨%g, H2⟩⟩
  iexists _
  iapply (pointsTo_join (blk_disjoint h.2)); isplitl [H1] <;> iassumption
end Blocks

/-! ## Loads and stores of the three block buffers -/

section Big
variable (c : Dev nD) {h l n : ℕ} (hh : h < 2) (hn : l + n ≤ 16) {off sz : Fin 3 → ℕ} (hoff : off = offv h l) (hsz : sz = ![1, n * 64, 256])
  {inb : ∀ a, off a + sz a ≤ (S2x1024x256 : Shape).size a} {B : Finset (Fin 32)} {f : BIx → Elt F .f32} {α : Type}

/-- What a load of a run of blocks reads. -/
abbrev seen (h l : ℕ) (f : BIx → Elt F .f32) {s : Shape} (j1 j2 : s.Idx → ℕ) : s.Idx → Elt F .f32 := fun j => f (seg h l (j1 j) (j2 j))

include hh hn hoff hsz

theorem ld_ac {Q : α → sProp 𝕄} (hB : iv h l n ⊆ B) {hl : (acM : Memref sig .tc .vmem S2x1024x256 .f32).view.LoadsAt (Rect.unit (s := S2x1024x256) off sz inb).toLoadRect}
    {kt : ((Rect.unit (s := S2x1024x256) off sz inb).toLoadRect.shape.Idx → Elt F .f32) → Prog (TpuEff nD τ sig (Elt F) Λ₀ .tc) α} :
    acPts c B f ⊢ iprop((acPts c B f -∗ WP c (kt fun j => f (seg h l (j 1).val (j 2).val)) Q) -∗ WP c (.op (.load acM (Rect.unit (s := S2x1024x256) off sz inb).toLoadRect hl) kt) Q) := by
  rw [← read_ac hh hn hoff hsz inb f]
  unfold acPts
  exact wp_load_rect 𝒱₀ (c : Thread nD τ) none Set.univ (m := acM) (r := Rect.unit (s := S2x1024x256) off sz inb)
    (by rw [show (acM.access (Rect.unit (s := S2x1024x256) off sz inb)).set = blk (iv h l n) from (whole_access_set cc0_scratch0 _).trans (rect_set hn hoff hsz inb)]; exact blk_mono hB)
theorem ld_rc {Q : α → sProp 𝕄} (hB : iv h l n ⊆ B) {hl : (rcM : Memref sig .tc .vmem S2x1024x256 .f32).view.LoadsAt (Rect.unit (s := S2x1024x256) off sz inb).toLoadRect}
    {kt : ((Rect.unit (s := S2x1024x256) off sz inb).toLoadRect.shape.Idx → Elt F .f32) → Prog (TpuEff nD τ sig (Elt F) Λ₀ .tc) α} :
    rcPts c B f ⊢ iprop((rcPts c B f -∗ WP c (kt fun j => f (seg h l (j 1).val (j 2).val)) Q) -∗ WP c (.op (.load rcM (Rect.unit (s := S2x1024x256) off sz inb).toLoadRect hl) kt) Q) := by
  rw [← read_rc hh hn hoff hsz inb f]
  unfold rcPts
  exact wp_load_rect 𝒱₀ (c : Thread nD τ) none Set.univ (m := rcM) (r := Rect.unit (s := S2x1024x256) off sz inb)
    (by rw [show (rcM.access (Rect.unit (s := S2x1024x256) off sz inb)).set = blk (iv h l n) from (whole_access_set cc0_scratch1 _).trans (rect_set hn hoff hsz inb)]; exact blk_mono hB)
theorem ld_gt {Q : α → sProp 𝕄} {q : PosShare TreeShare} (hB : iv h l n ⊆ B) {hl : (gtM : Memref sig .tc .vmem S2x1024x256 .f32).view.LoadsAt (Rect.unit (s := S2x1024x256) off sz inb).toLoadRect}
    {kt : ((Rect.unit (s := S2x1024x256) off sz inb).toLoadRect.shape.Idx → Elt F .f32) → Prog (TpuEff nD τ sig (Elt F) Λ₀ .tc) α} :
    gtPts c q B f ⊢ iprop((gtPts c q B f -∗ WP c (kt fun j => f (seg h l (j 1).val (j 2).val)) Q) -∗ WP c (.op (.load gtM (Rect.unit (s := S2x1024x256) off sz inb).toLoadRect hl) kt) Q) := by
  rw [← read_gt hh hn hoff hsz inb f]
  unfold gtPts
  exact wp_load_rect 𝒱₀ (c : Thread nD τ) none Set.univ (m := gtM) (r := Rect.unit (s := S2x1024x256) off sz inb)
    (by rw [show (gtM.access (Rect.unit (s := S2x1024x256) off sz inb)).set = blk (iv h l n) from (whole_access_set cc0_scratch2 _).trans (rect_set hn hoff hsz inb)]; exact blk_mono hB)

theorem ld_ac_as {Q : α → sProp 𝕄} (v : (Rect.unit (s := S2x1024x256) off sz inb).toLoadRect.shape.Idx → Elt F .f32) (hv : (fun j => f (seg h l (j 1).val (j 2).val)) = v)
    (hB : iv h l n ⊆ B) {hl : (acM : Memref sig .tc .vmem S2x1024x256 .f32).view.LoadsAt (Rect.unit (s := S2x1024x256) off sz inb).toLoadRect}
    {kt : ((Rect.unit (s := S2x1024x256) off sz inb).toLoadRect.shape.Idx → Elt F .f32) → Prog (TpuEff nD τ sig (Elt F) Λ₀ .tc) α} :
    acPts c B f ⊢ iprop((acPts c B f -∗ WP c (kt v) Q) -∗ WP c (.op (.load acM (Rect.unit (s := S2x1024x256) off sz inb).toLoadRect hl) kt) Q) := by
  subst hv; exact ld_ac c hh hn hoff hsz hB
theorem ld_gt_as {Q : α → sProp 𝕄} {q : PosShare TreeShare} (v : (Rect.unit (s := S2x1024x256) off sz inb).toLoadRect.shape.Idx → Elt F .f32) (hv : (fun j => f (seg h l (j 1).val (j 2).val)) = v)
    (hB : iv h l n ⊆ B) {hl : (gtM : Memref sig .tc .vmem S2x1024x256 .f32).view.LoadsAt (Rect.unit (s := S2x1024x256) off sz inb).toLoadRect}
    {kt : ((Rect.unit (s := S2x1024x256) off sz inb).toLoadRect.shape.Idx → Elt F .f32) → Prog (TpuEff nD τ sig (Elt F) Λ₀ .tc) α} :
    gtPts c q B f ⊢ iprop((gtPts c q B f -∗ WP c (kt v) Q) -∗ WP c (.op (.load gtM (Rect.unit (s := S2x1024x256) off sz inb).toLoadRect hl) kt) Q) := by
  subst hv; exact ld_gt c hh hn hoff hsz hB

/-- A store of a run of blocks leaves `g` there. -/
theorem st_ac {Q : α → sProp 𝕄} (g : BIx → Elt F .f32) {w : (Rect.unit (s := S2x1024x256) off sz inb).shape.Idx → Elt F .f32} {hx} {hm}
    (hw : ∀ j, w j = g (seg h l (j 1).val (j 2).val)) {kt : PUnit → Prog (TpuEff nD τ sig (Elt F) Λ₀ .tc) α} :
    acPts c (iv h l n) f ⊢ iprop((acPts c (iv h l n) g -∗ WP c (kt ⟨⟩) Q)
      -∗ WP c (.op (.store acM (Rect.unit (s := S2x1024x256) off sz inb) w Finset.univ hx hm) kt) Q) := by
  have key := wp_store 𝒱₀ (c : Thread nD τ) none Set.univ (defs := defs₀ (F := F)) (m := acM) (r := Rect.unit (s := S2x1024x256) off sz inb) (Mk := Finset.univ) (S := blk (iv h l n)) (f := f) (w := w)
    (hx := hx) (hm := hm) (k := kt) (Q := Q) (Γ := ∅)
    (by
      rw [← rect_set hn hoff hsz inb, ← whole_access_set cc0_scratch0]; exact Finset.Subset.refl _)
  have e : (((c : Thread nD τ).loc cc0_scratch0) ↦[blk (iv h l n)]{fullShare}
      ((acM.access (Rect.unit (s := S2x1024x256) off sz inb)).write (Elt F) f w Finset.univ : Buf (Elt F) ((c : Thread nD τ).loc cc0_scratch0)) : sProp 𝕄)
      = acPts c (iv h l n) g := pointsTo_congr (write_ac hh hn hoff hsz inb f g w hw)
  rw [← e]
  exact key
theorem st_gt {Q : α → sProp 𝕄} (g : BIx → Elt F .f32) {w : (Rect.unit (s := S2x1024x256) off sz inb).shape.Idx → Elt F .f32} {hx} {hm}
    (hw : ∀ j, w j = g (seg h l (j 1).val (j 2).val)) {kt : PUnit → Prog (TpuEff nD τ sig (Elt F) Λ₀ .tc) α} :
    gtPts c fullShare (iv h l n) f ⊢ iprop((gtPts c fullShare (iv h l n) g -∗ WP c (kt ⟨⟩) Q)
      -∗ WP c (.op (.store gtM (Rect.unit (s := S2x1024x256) off sz inb) w Finset.univ hx hm) kt) Q) := by
  have key := wp_store 𝒱₀ (c : Thread nD τ) none Set.univ (defs := defs₀ (F := F)) (m := gtM) (r := Rect.unit (s := S2x1024x256) off sz inb) (Mk := Finset.univ) (S := blk (iv h l n)) (f := f) (w := w)
    (hx := hx) (hm := hm) (k := kt) (Q := Q) (Γ := ∅)
    (by
      rw [← rect_set hn hoff hsz inb, ← whole_access_set cc0_scratch2]; exact Finset.Subset.refl _)
  have e : (((c : Thread nD τ).loc cc0_scratch2) ↦[blk (iv h l n)]{fullShare}
      ((gtM.access (Rect.unit (s := S2x1024x256) off sz inb)).write (Elt F) f w Finset.univ : Buf (Elt F) ((c : Thread nD τ).loc cc0_scratch2)) : sProp 𝕄)
      = gtPts c fullShare (iv h l n) g := pointsTo_congr (write_gt hh hn hoff hsz inb f g w hw)
  rw [← e]
  exact key
end Big

/-- What a landed copy holds, by rows. -/
theorem land_at (m : (ℓ : Loc nD τ sig) → Buf (Elt F) ℓ) (k : Fin 20) (d : Dev nD) {h l l' r x : ℕ} (hh : h = chunk k) (hl : l = dstLo k (from' k d)) (hs : l' = srcLo k (from' k d)) (hr : r < len k * 64) :
    landVal m k d (seg h l r x) = phaseVal m k (from' k d) (seg h l' r x) := by
  subst hh hl hs; exact landVal_seg m k d hr

/-! ## Loads and stores of the other buffers -/

section Whole
variable (c : Dev nD) {α : Type}

/-- All of the buffer behind a memref, on device `c`. -/
abbrev whPts {s : Shape} {e : EltTy} (M : Memref sig .tc .vmem s e) (f : Buf (Elt F) (M.view.loc (c : Thread nD τ))) : sProp 𝕄 :=
  M.view.loc (c : Thread nD τ) ↦[Finset.univ]{fullShare} f

theorem ld_wh {Q : α → sProp 𝕄} {s : Shape} {e : EltTy} {M : Memref sig .tc .vmem s e} {R : LoadRect s} {f : Buf (Elt F) (M.view.loc (c : Thread nD τ))} (v : R.shape.Idx → Elt F e)
    (hv : M.view.readAt (Elt F) R f = v) {hl : M.view.LoadsAt R}
    {kt : (R.shape.Idx → Elt F e) → Prog (TpuEff nD τ sig (Elt F) Λ₀ .tc) α} :
    whPts c M f ⊢ iprop((whPts c M f -∗ WP c (kt v) Q) -∗ WP c (.op (.load M R hl) kt) Q) := by
  subst hv
  exact wp_load 𝒱₀ (c : Thread nD τ) none Set.univ (m := M) (r := R) (Finset.subset_univ _)

theorem st_wh {Q : α → sProp 𝕄} {s : Shape} {e : EltTy} {M : Memref sig .tc .vmem s e} {R : Rect s} {f : Buf (Elt F) (M.view.loc (c : Thread nD τ))} (g : Buf (Elt F) (M.view.loc (c : Thread nD τ)))
    {w : R.shape.Idx → Elt F e} (hv : (M.access R).write (Elt F) f w Finset.univ = g) {hx} {hm}
    {kt : PUnit → Prog (TpuEff nD τ sig (Elt F) Λ₀ .tc) α} :
    whPts c M f ⊢ iprop((whPts c M g -∗ WP c (kt ⟨⟩) Q) -∗ WP c (.op (.store M R w Finset.univ hx hm) kt) Q) := by
  subst hv
  exact wp_store 𝒱₀ (c : Thread nD τ) none Set.univ (m := M) (r := R) (Mk := Finset.univ) (Finset.subset_univ _)

end Whole

/-! ## What the loads of the inputs read -/

section Reads
variable (m : (ℓ : Loc nD τ sig) → Buf (Elt F) ℓ) (c : Dev nD)

theorem read_ew {off : Fin 3 → ℕ} (e : Fin 4) (h : Fin 2) (hoff : off = ![e.val, 0, h.val * 256]) (inb : ∀ a, off a + S1x256x256.size a ≤ (S4x256x512 : Shape).size a) :
    (Memref.whole cc0_stg3_0 : Memref sig .tc .vmem S4x256x512 .f32).view.readAt (Elt F) (Rect.unit (s := S4x256x512) off S1x256x256.size inb).toLoadRect (ewin m c) = ewCut m c e h := by
  subst hoff
  funext j
  refine congrArg (ewin m c) ?_
  funext a
  refine Fin.ext ?_
  have h0 : (j 0).val = 0 := by have : (j 0).val < 1 := (j 0).isLt; omega
  match a with
  | ⟨0, _⟩ => show e.val + 1 * (j 0).val = e.val; omega
  | ⟨1, _⟩ => show 0 + 1 * (j 1).val = (j 1).val; omega
  | ⟨2, _⟩ => show h.val * 256 + 1 * (j 2).val = h.val * 256 + (j 2).val; omega

theorem read_sw {off : Fin 2 → ℕ} (h : Fin 2) (hoff : off = ![0, h.val * 256]) (inb : ∀ a, off a + S256x256.size a ≤ (S256x512 : Shape).size a) :
    (Memref.whole cc0_stg4_0 : Memref sig .tc .vmem S256x512 .f32).view.readAt (Elt F) (Rect.unit (s := S256x512) off S256x256.size inb).toLoadRect (swin m c) = swCut m c h := by
  subst hoff
  funext j
  refine congrArg (swin m c) ?_
  funext a
  refine Fin.ext ?_
  match a with
  | ⟨0, _⟩ => show 0 + 1 * (j 0).val = (j 0).val; omega
  | ⟨1, _⟩ => show h.val * 256 + 1 * (j 1).val = h.val * 256 + (j 1).val; omega

theorem read_x {off : Fin 2 → ℕ} (l : ℕ) (hl : l < 16) (hoff : off = ![l * 64, 0]) (inb : ∀ a, off a + S64x256.size a ≤ (S1024x256 : Shape).size a) :
    (Memref.whole cc0_stg0_0 : Memref sig .tc .vmem S1024x256 .f32).view.readAt (Elt F) (Rect.unit (s := S1024x256) off S64x256.size inb).toLoadRect (xin m c) = xCut m c l := by
  subst hoff
  funext j
  refine congrArg (xin m c) ?_
  funext a
  refine Fin.ext ?_
  match a with
  | ⟨0, _⟩ =>
    have : (j 0).val < 64 := (j 0).isLt
    show l * 64 + 1 * (j 0).val = (l * 64 + (j 0).val) % 1024
    rw [Nat.mod_eq_of_lt (by omega)]; omega
  | ⟨1, _⟩ => show 0 + 1 * (j 1).val = (j 1).val; omega

theorem hz2 : (![0, 0] : Fin 2 → ℕ) = fun _ => 0 := by funext a; revert a; decide

end Reads

end Cert.Moe
end
-- ==== Proof.PartsA.lean ====
/- The body up to the first copies: the ready signals, the expert products. -/
module

public import proofs.«01_k».proof.Proof.Access

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 74 → ℕ)

abbrev xM : Memref sig .tc .vmem S1024x256 .f32 := Memref.whole cc0_stg0_0
abbrev rwM : Memref sig .tc .vmem S256x64 .f32 := Memref.whole cc0_stg1_0
abbrev ixM : Memref sig .tc .vmem S1024x1 .i32 := Memref.whole cc0_stg2_0
abbrev ewM : Memref sig .tc .vmem S4x256x512 .f32 := Memref.whole cc0_stg3_0
abbrev swM : Memref sig .tc .vmem S256x512 .f32 := Memref.whole cc0_stg4_0
abbrev outM : Memref sig .tc .vmem S1024x512 .f32 := Memref.whole cc0_stg5_0
abbrev pM : Memref sig .tc .vmem S1024x1 .f32 := Memref.whole cc0_scratch3

/-- A part of the body at the buffers the launch gives it. -/
abbrev onBufs {β : Type 1} (p : (a0 : Memref sig .tc .vmem S1024x256 .f32) → a0.IsWhole → (a1 : Memref sig .tc .vmem S256x64 .f32) → a1.IsWhole
    → (a2 : Memref sig .tc .vmem S1024x1 .i32) → a2.IsWhole → (a3 : Memref sig .tc .vmem S4x256x512 .f32) → a3.IsWhole
    → (a4 : Memref sig .tc .vmem S256x512 .f32) → a4.IsWhole → (a5 : Memref sig .tc .vmem S1024x512 .f32) → a5.IsWhole
    → (a6 : Memref sig .tc .vmem S2x1024x256 .f32) → a6.IsWhole → (a7 : Memref sig .tc .vmem S2x1024x256 .f32) → a7.IsWhole
    → (a8 : Memref sig .tc .vmem S2x1024x256 .f32) → a8.IsWhole → (a9 : Memref sig .tc .vmem S1024x1 .f32) → a9.IsWhole
    → DmaSems sig S2x2x3x3 → DmaSems sig S2x2x3x3 → Sems sig S_ → β) : β :=
  p xM (Memref.isWhole_whole _) rwM (Memref.isWhole_whole _) ixM (Memref.isWhole_whole _) ewM (Memref.isWhole_whole _) swM (Memref.isWhole_whole _)
    outM (Memref.isWhole_whole _) acM (Memref.isWhole_whole _) rcM (Memref.isWhole_whole _) gtM (Memref.isWhole_whole _) pM (Memref.isWhole_whole _)
    cc0_scratch4 cc0_scratch5 cc0_scoped0

variable (c : Dev nD)

theorem wp_done {α : Type} {v : α} {Q : α → sProp 𝕄} : Q v ⊢ WP c (.ret v) Q := by
  unfold WP; rw [wp_ret]; iintro H; imodintro; iexact H

theorem part1 {Q} :
    Pre m K c 0 ⊢ iprop((∀ w3, ∀ w4, Pre m K c 5 -∗ Q ⟨c, meW c, w3, w4, SemArray.scalar (sig.barrier 0 rfl)⟩) -∗ WP c (onBufs (k0_part1 (F := F))) Q) := by
  simp only [onBufs, k0_part1_eq_skeleton]
  unfold k0_part1_skel
  simp only [semSignalWord, semWaitWord, Prog.lift, Prog.bind_op, Prog.bind_ret, Prog.pure_eq_ret, wp_deviceId]
  unfold meW
  iintro H HQ
  iapply (sig_bar m K c (s := 0) 0 rfl (dev1_eq c) rfl) $$ H; iintro H
  iapply (sig_bar m K c (s := 1) 1 rfl (dev2_eq c) rfl) $$ H; iintro H
  iapply (sig_bar m K c (s := 2) 2 rfl (dev3_eq c) rfl) $$ H; iintro H
  iapply (sig_bar m K c (s := 3) 3 rfl (dev4_eq c) rfl) $$ H; iintro H
  iapply (sig_bar m K c (s := 4) 4 rfl (dev5_eq c) rfl) $$ H; iintro H
  iapply wp_done; iapply HQ; iexact H

theorem part2 {Q} {f9} :
    iprop(Pre m K c 5 ∗ poss (F := F) c 0 0 0 ∗ cred (tallyAt (barCell c) () 5) ∗ toks (F := F) c ∗ bigSep (Finset.univ : Finset (Fin 20)) (credR (F := F) c)
      ∗ whPts c xM (xin m c) ∗ whPts c rwM (rwin m c) ∗ whPts c ixM (idxin m c) ∗ whPts c pM f9)
    ⊢ iprop((∀ w54, ∀ w55, (St m K c 0 0 0 ∗ whPts c xM (xin m c) ∗ whPts c rwM (rwin m c) ∗ whPts c ixM (idxin m c) ∗ whPts c pM (prob m c))
        -∗ Q ⟨k0_pay1 (xin m c), k0_pay2 (idxin m c), w54, w55, k0_pay4 (F := F), k0_pay5 (meW c) (idxin m c) (prob m c)⟩)
      -∗ WP c (onBufs (k0_part2 (F := F)) (meW c) (SemArray.scalar (sig.barrier 0 rfl))) Q) := by
  simp only [onBufs, k0_part2_eq_skeleton]
  unfold k0_part2_skel
  simp only [semSignalWord, semWaitWord, Prog.lift, Prog.bind_op, Prog.bind_ret, Prog.pure_eq_ret, wp_deviceId]
  iintro ⟨H, Hp, Hc, Ht, Hr, Hx, Hw, Hi, H9⟩ HQ
  iapply (wait_bar m K c rfl) $$ [H Hp Hc Ht Hr]
  · isplitl [H]; · iexact H
    isplitl [Hp]; · iexact Hp
    isplitl [Hc]; · iexact Hc
    isplitl [Ht] <;> iassumption
  iintro H
  iapply (ld_wh c (xin m c) (Memref.readAt_unit_zero _ _ hz2 _ _)) $$ Hx; iintro Hx
  iapply (ld_wh c (rwin m c) (Memref.readAt_unit_zero _ _ hz2 _ _)) $$ Hw; iintro Hw
  iapply (ld_wh c (idxin m c) (Memref.readAt_unit_zero _ _ hz2 _ _)) $$ Hi; iintro Hi
  iapply (ld_wh c f9 (Memref.readAt_unit_zero _ _ hz2 _ _)) $$ H9; iintro H9
  iapply (st_wh c (prob m c) (Memref.write_access_unit_zero_univ _ _ hz2 _ _ _)) $$ H9; iintro H9
  iapply (ld_wh c (prob m c) (Memref.readAt_unit_zero _ _ hz2 _ _)) $$ H9; iintro H9
  iapply wp_done; iapply HQ
  isplitl [H]; · iexact H
  isplitl [Hx]; · iexact Hx
  isplitl [Hw]; · iexact Hw
  isplitl [Hi] <;> iassumption

abbrev X0 : FVec F S1024x256 .f32 := k0_pay1 (xin m c)
abbrev X1 : IVec S1024x1 32 := k0_pay2 (F := F) (idxin m c)
abbrev P5 : Vec F S1024x1 .f32 := k0_pay5 (meW c) (idxin m c) (prob m c)
abbrev P6 : FVec F S1024x256 .f32 := k0_pay6 (meW c) (X0 m c) (X1 m c) (k0_pay4 (F := F)) (P5 m c) (ewCut m c 0 0) (prob m c) (ewCut m c 1 0) (prob m c) (ewCut m c 2 0)
abbrev P9 : FVec F S1024x256 .f32 := k0_pay9 (meW c) (X0 m c) (X1 m c) (prob m c) (ewCut m c 0 1)
abbrev P10 : FVec F S1024x256 .f32 := k0_pay10 (meW c) (X0 m c) (X1 m c) (P9 m c) (Scalar.addi (Scalar.muli (meW c) 4#32) 1#32) (prob m c) (ewCut m c 1 1) (prob m c) (ewCut m c 2 1)

theorem part3 {Q} :
    iprop(whPts c ewM (ewin m c) ∗ whPts c pM (prob m c))
    ⊢ iprop(((whPts c ewM (ewin m c) ∗ whPts c pM (prob m c)) -∗ Q ⟨P6 m c, k0_pay7 (meW c) (X1 m c)⟩)
      -∗ WP c (onBufs (k0_part3 (F := F)) (meW c) (X0 m c) (X1 m c) (k0_pay4 (F := F)) (P5 m c)) Q) := by
  simp only [onBufs, k0_part3_eq_skeleton]
  unfold k0_part3_skel
  simp only [semSignalWord, semWaitWord, Prog.lift, Prog.bind_op, Prog.bind_ret, Prog.pure_eq_ret, wp_deviceId]
  iintro ⟨He, H9⟩ HQ
  iapply (ld_wh c (ewCut m c 0 0) (read_ew m c 0 0 rfl _)) $$ He; iintro He
  iapply (ld_wh c (prob m c) (Memref.readAt_unit_zero _ _ hz2 _ _)) $$ H9; iintro H9
  iapply (ld_wh c (ewCut m c 1 0) (read_ew m c 1 0 rfl _)) $$ He; iintro He
  iapply (ld_wh c (prob m c) (Memref.readAt_unit_zero _ _ hz2 _ _)) $$ H9; iintro H9
  iapply (ld_wh c (ewCut m c 2 0) (read_ew m c 2 0 rfl _)) $$ He; iintro He
  iapply wp_done; iapply HQ
  isplitl [He]; · iexact He
  iexact H9

theorem prod0_at {r x : ℕ} (j : S1x1024x256.Idx) (hr : r = (j 1).val) (hx : x = (j 2).val) : prod0 m c j = A0 m c (seg 0 0 r x) := by
  subst hr hx
  unfold A0
  rw [if_pos (by rfl)]
  refine congrArg (prod0 m c) ?_
  funext a
  refine Fin.ext ?_
  match a with
  | ⟨0, _⟩ => have : (j 0).val < 1 := (j 0).isLt; show (j 0).val = 0; omega
  | ⟨1, _⟩ => have : (j 1).val < 1024 := (j 1).isLt; show (j 1).val = (0 * 64 + (j 1).val) % 1024; omega
  | ⟨2, _⟩ => have : (j 2).val < 256 := (j 2).isLt; show (j 2).val = (j 2).val % 256; omega
theorem prod1_at {r x : ℕ} (j : S1x1024x256.Idx) (hr : r = (j 1).val) (hx : x = (j 2).val) : prod1 m c j = A0 m c (seg 1 0 r x) := by
  subst hr hx
  unfold A0
  have hne : ¬ ((seg 1 0 (j 1).val (j 2).val 0).val = 0) := by show ¬ (1 : ℕ) = 0; decide
  rw [if_neg hne]
  refine congrArg (prod1 m c) ?_
  funext a
  refine Fin.ext ?_
  match a with
  | ⟨0, _⟩ => have : (j 0).val < 1 := (j 0).isLt; show (j 0).val = 0; omega
  | ⟨1, _⟩ => have : (j 1).val < 1024 := (j 1).isLt; show (j 1).val = (0 * 64 + (j 1).val) % 1024; omega
  | ⟨2, _⟩ => have : (j 2).val < 256 := (j 2).isLt; show (j 2).val = (j 2).val % 256; omega

theorem part4 {Q} {f} {w3 w4 w54} :
    iprop(whPts c ewM (ewin m c) ∗ whPts c pM (prob m c) ∗ acPts c (iv 0 0 16) f)
    ⊢ iprop((∀ w, ∀ w', (whPts c ewM (ewin m c) ∗ whPts c pM (prob m c) ∗ acPts c (iv 0 0 16) (A0 m c)) -∗ Q ⟨w, w'⟩)
      -∗ WP c (onBufs (k0_part4 (F := F)) w3 w4 (X0 m c) w54 (P6 m c) (k0_pay7 (meW c) (X1 m c))) Q) := by
  simp only [onBufs, k0_part4_eq_skeleton]
  unfold k0_part4_skel
  simp only [semSignalWord, semWaitWord, Prog.lift, Prog.bind_op, Prog.bind_ret, Prog.pure_eq_ret, wp_deviceId]
  iintro ⟨He, H9, Ha⟩ HQ
  iapply (ld_wh c (prob m c) (Memref.readAt_unit_zero _ _ hz2 _ _)) $$ H9; iintro H9
  iapply (ld_wh c (ewCut m c 3 0) (read_ew m c 3 0 rfl _)) $$ He; iintro He
  iapply (ld_ac c (h := 0) (l := 0) (n := 16) (by decide) (by revert c; decide) (rfl) rfl (by revert c; decide)) $$ Ha; iintro Ha
  iapply (st_ac c (h := 0) (l := 0) (n := 16) (by decide) (by revert c; decide) (rfl) rfl (A0 m c) (fun j => prod0_at m c j rfl rfl)) $$ Ha; iintro Ha
  iapply wp_done; iapply HQ
  isplitl [He]; · iexact He
  isplitl [H9]; · iexact H9
  iexact Ha

theorem cut5 : acPts c (iv 0 0 16) (A0 m c) ⊢ iprop(acPts c (srcB 0 c) (phaseVal m 0 c) ∗ acPts c (srcB 1 c) (phaseVal m 1 c) ∗ acPts c (srcB 2 c) (phaseVal m 2 c) ∗ acPts c (iv 0 (lo0a c) 4) (A0 m c)) := by
  iintro H
  ihave ⟨H0, H⟩ := (ac_cut c (B := iv 0 0 16) (C := srcB 0 c) (D := srcB 1 c ∪ (srcB 2 c ∪ iv 0 (lo0a c) 4)) (by revert c; decide)).1 $$ H
  ihave ⟨H1, H⟩ := (ac_cut c (C := srcB 1 c) (D := srcB 2 c ∪ iv 0 (lo0a c) 4) ⟨rfl, by revert c; decide⟩).1 $$ H
  ihave ⟨H2, H⟩ := (ac_cut c (C := srcB 2 c) (D := iv 0 (lo0a c) 4) ⟨rfl, by revert c; decide⟩).1 $$ H
  isplitl [H0]; · iexact H0
  isplitl [H1]; · iexact H1
  isplitl [H2]; · iexact H2
  iexact H

theorem part5 {Q} {w3 w4 w54} :
    iprop(St m K c 0 0 0 ∗ acPts c (srcB 0 c) (phaseVal m 0 c) ∗ acPts c (srcB 1 c) (phaseVal m 1 c))
    ⊢ iprop((∀ u, ∀ u1, ∀ u2, ∀ u3, St m K c 2 0 0 -∗ Q ⟨u, u1, u2, u3⟩)
      -∗ WP c (onBufs (k0_part5 (F := F)) c w3 w4 w54) Q) := by
  simp only [onBufs, k0_part5_eq_skeleton]
  unfold k0_part5_skel
  simp only [semSignalWord, semWaitWord, Prog.lift, Prog.bind_op, Prog.bind_ret, Prog.pure_eq_ret, wp_deviceId]
  iintro ⟨H, H0, H1⟩ HQ
  iapply (send_rs m K c 0 (a := 0) (b := 0) (e := 0) rfl (by decide) (off2_1 c) (off1_1 c) rfl rfl (dev6_eq c) rfl rfl (by decide)) $$ [H H0]
  · isplitl [H] <;> iassumption
  iintro H
  iapply (send_rs m K c 1 (a := 1) (b := 0) (e := 0) rfl (by decide) (off2_2 c) (off1_2 c) rfl rfl (dev7_eq c) rfl rfl (by decide)) $$ [H H1]
  · isplitl [H] <;> iassumption
  iintro H
  iapply wp_done; iapply HQ
  iexact H

theorem part6 {Q} {w54 w155 w156 w159} :
    iprop(St m K c 2 0 0 ∗ acPts c (srcB 2 c) (phaseVal m 2 c) ∗ whPts c ewM (ewin m c) ∗ whPts c pM (prob m c))
    ⊢ iprop(((St m K c 3 0 0 ∗ whPts c ewM (ewin m c) ∗ whPts c pM (prob m c)) -∗ Q ⟨P9 m c, Scalar.addi (Scalar.muli (meW c) 4#32) 1#32⟩)
      -∗ WP c (onBufs (k0_part6 (F := F)) c (meW c) (X0 m c) (X1 m c) w54 w155 w156 w159) Q) := by
  simp only [onBufs, k0_part6_eq_skeleton]
  unfold k0_part6_skel
  simp only [semSignalWord, semWaitWord, Prog.lift, Prog.bind_op, Prog.bind_ret, Prog.pure_eq_ret, wp_deviceId]
  iintro ⟨H, H0, He, H9⟩ HQ
  iapply (send_rs m K c 2 (a := 2) (b := 0) (e := 0) rfl (by decide) (off2_3 c) (off1_3 c) rfl rfl (dev8_eq c) rfl rfl (by decide)) $$ [H H0]
  · isplitl [H] <;> iassumption
  iintro H
  iapply (ld_wh c (prob m c) (Memref.readAt_unit_zero _ _ hz2 _ _)) $$ H9; iintro H9
  iapply (ld_wh c (ewCut m c 0 1) (read_ew m c 0 1 rfl _)) $$ He; iintro He
  iapply wp_done; iapply HQ
  isplitl [H]; · iexact H
  isplitl [He]; · iexact He
  iexact H9

theorem part7 {Q} :
    iprop(whPts c ewM (ewin m c) ∗ whPts c pM (prob m c))
    ⊢ iprop(((whPts c ewM (ewin m c) ∗ whPts c pM (prob m c)) -∗ Q ⟨P10 m c, k0_pay11 (meW c) (X0 m c) (X1 m c) (prob m c), k0_pay12 (ewCut m c 3 1), constant S1024x256 .f32 0x00000000#32⟩)
      -∗ WP c (onBufs (k0_part7 (F := F)) (meW c) (X0 m c) (X1 m c) (P9 m c) (Scalar.addi (Scalar.muli (meW c) 4#32) 1#32)) Q) := by
  simp only [onBufs, k0_part7_eq_skeleton]
  unfold k0_part7_skel
  simp only [semSignalWord, semWaitWord, Prog.lift, Prog.bind_op, Prog.bind_ret, Prog.pure_eq_ret, wp_deviceId]
  iintro ⟨He, H9⟩ HQ
  iapply (ld_wh c (prob m c) (Memref.readAt_unit_zero _ _ hz2 _ _)) $$ H9; iintro H9
  iapply (ld_wh c (ewCut m c 1 1) (read_ew m c 1 1 rfl _)) $$ He; iintro He
  iapply (ld_wh c (prob m c) (Memref.readAt_unit_zero _ _ hz2 _ _)) $$ H9; iintro H9
  iapply (ld_wh c (ewCut m c 2 1) (read_ew m c 2 1 rfl _)) $$ He; iintro He
  iapply (ld_wh c (prob m c) (Memref.readAt_unit_zero _ _ hz2 _ _)) $$ H9; iintro H9
  iapply (ld_wh c (ewCut m c 3 1) (read_ew m c 3 1 rfl _)) $$ He; iintro He
  iapply wp_done; iapply HQ
  isplitl [He]; · iexact He
  iexact H9

theorem cut8 : acPts c (iv 1 0 16) (A0 m c) ⊢ iprop(acPts c (srcB 3 c) (phaseVal m 3 c) ∗ acPts c (iv 1 (lo1a c) 8) (A0 m c)) :=
  (ac_cut c (by revert c; decide)).1

theorem part8 {Q} {f} {w55} :
    iprop(St m K c 3 0 0 ∗ acPts c (iv 1 0 16) f)
    ⊢ iprop((∀ w, ∀ w', (St m K c 4 0 0 ∗ acPts c (iv 1 (lo1a c) 8) (A0 m c)) -∗ Q ⟨w, w'⟩)
      -∗ WP c (onBufs (k0_part8 (F := F)) c (meW c) w55 (P10 m c) (k0_pay11 (meW c) (X0 m c) (X1 m c) (prob m c)) (k0_pay12 (ewCut m c 3 1)) (constant S1024x256 .f32 0x00000000#32)) Q) := by
  simp only [onBufs, k0_part8_eq_skeleton]
  unfold k0_part8_skel
  simp only [semSignalWord, semWaitWord, Prog.lift, Prog.bind_op, Prog.bind_ret, Prog.pure_eq_ret, wp_deviceId]
  iintro ⟨H, Ha⟩ HQ
  iapply (ld_ac c (h := 1) (l := 0) (n := 16) (by decide) (by revert c; decide) (rfl) rfl (by revert c; decide)) $$ Ha; iintro Ha
  iapply (st_ac c (h := 1) (l := 0) (n := 16) (by decide) (by revert c; decide) (rfl) rfl (A0 m c) (fun j => prod1_at m c j rfl rfl)) $$ Ha; iintro Ha
  ihave ⟨H3, Ha⟩ := (cut8 m c) $$ Ha
  iapply (send_rs m K c 3 (a := 3) (b := 0) (e := 0) rfl (by decide) (off3_eq c) (by revert c; decide) rfl rfl (dev9_eq c) rfl rfl (by decide)) $$ [H H3]
  · isplitl [H] <;> iassumption
  iintro H
  iapply wp_done; iapply HQ
  isplitl [H]; · iexact H
  iexact Ha

end Cert.Moe
end
-- ==== Proof.PartsB.lean ====
/- The reduce-scatter: the copies of the first three rounds, and what is added up from them. -/
module

public import proofs.«01_k».proof.Proof.PartsA

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 74 → ℕ)

variable (c : Dev nD)

/-! ## The sums, at one element -/

theorem sum14 (j : S1x256x256.Idx) : fadd (fadd (fadd (A0 m c (seg 0 (lo0a c) (j 1).val (j 2).val)) (landVal m 2 c (seg 0 0 (j 1).val (j 2).val)))
    (landVal m 1 c (seg 0 4 (j 1).val (j 2).val))) (landVal m 0 c (seg 0 8 (j 1).val (j 2).val)) = A1 m c (seg 0 (lo0a c) (j 1).val (j 2).val) := by
  have hr : (j 1).val < 256 := (j 1).isLt
  rw [land_at m 2 c (h := 0) (l := 0) (l' := lo0a c) rfl (by revert c; decide) (by revert c; decide) hr, land_at m 1 c (h := 0) (l := 4) (l' := lo0a c) rfl (by revert c; decide) (by revert c; decide) hr,
    land_at m 0 c (h := 0) (l := 8) (l' := lo0a c) rfl (by revert c; decide) (by revert c; decide) hr]
  unfold A1
  rw [show from' 2 c = partner 0 c by revert c; decide, show from' 1 c = partner 1 c by revert c; decide, show from' 0 c = partner 2 c by revert c; decide]
  rfl
theorem sum16 (j : S1x512x256.Idx) : fadd (A0 m c (seg 1 (lo1a c) (j 1).val (j 2).val)) (landVal m 3 c (seg 1 0 (j 1).val (j 2).val)) = B1 m c (seg 1 (lo1a c) (j 1).val (j 2).val) := by
  have hr : (j 1).val < 512 := (j 1).isLt
  rw [land_at m 3 c (h := 1) (l := 0) (l' := lo1a c) rfl (by revert c; decide) (by revert c; decide) hr]
  unfold B1
  rw [show from' 3 c = partner 3 c by revert c; decide]
  rfl
theorem sum17 (j : S1x128x256.Idx) : fadd (A1 m c (seg 0 (lo0b c) (j 1).val (j 2).val)) (landVal m 4 c (seg 0 12 (j 1).val (j 2).val)) = A2 m c (seg 0 (lo0b c) (j 1).val (j 2).val) := by
  have hr : (j 1).val < 128 := (j 1).isLt
  rw [land_at m 4 c (h := 0) (l := 12) (l' := lo0b c) rfl (by revert c; decide) (by revert c; decide) hr]
  unfold A2
  rw [show from' 4 c = partner 3 c by revert c; decide]
  rfl
theorem sum18 (j : S1x256x256.Idx) : fadd (B1 m c (seg 1 (lo1b c) (j 1).val (j 2).val)) (landVal m 5 c (seg 1 8 (j 1).val (j 2).val)) = B2 m c (seg 1 (lo1b c) (j 1).val (j 2).val) := by
  have hr : (j 1).val < 256 := (j 1).isLt
  rw [land_at m 5 c (h := 1) (l := 8) (l' := lo1b c) rfl (by revert c; decide) (by revert c; decide) hr]
  unfold B2
  rw [show from' 5 c = partner 4 c by revert c; decide]
  rfl
theorem sum19 (j : S1x64x256.Idx) : fadd (A2 m c (seg 0 (lo0 c) (j 1).val (j 2).val)) (landVal m 6 c (seg 0 14 (j 1).val (j 2).val)) = A3 m c (seg 0 (lo0 c) (j 1).val (j 2).val) := by
  have hr : (j 1).val < 64 := (j 1).isLt
  rw [land_at m 6 c (h := 0) (l := 14) (l' := lo0 c) rfl (by revert c; decide) (by revert c; decide) hr]
  unfold A3
  rw [show from' 6 c = partner 4 c by revert c; decide]
  rfl
theorem sum24 (j : S1x64x256.Idx) : fadd (fadd (fadd (B2 m c (seg 1 (lo1 c) (j 1).val (j 2).val)) (landVal m 9 c (seg 1 12 (j 1).val (j 2).val)))
    (landVal m 8 c (seg 1 13 (j 1).val (j 2).val))) (landVal m 7 c (seg 1 14 (j 1).val (j 2).val)) = B3 m c (seg 1 (lo1 c) (j 1).val (j 2).val) := by
  have hr : (j 1).val < 64 := (j 1).isLt
  rw [land_at m 9 c (h := 1) (l := 12) (l' := lo1 c) rfl (by revert c; decide) (by revert c; decide) hr, land_at m 8 c (h := 1) (l := 13) (l' := lo1 c) rfl (by revert c; decide) (by revert c; decide) hr,
    land_at m 7 c (h := 1) (l := 14) (l' := lo1 c) rfl (by revert c; decide) (by revert c; decide) hr]
  unfold B3
  rw [show from' 9 c = partner 0 c by revert c; decide, show from' 8 c = partner 1 c by revert c; decide, show from' 7 c = partner 2 c by revert c; decide]
  rfl

/-! ## Cutting off what is sent -/

theorem cut12 : acPts c (iv 0 (lo0a c) 4) (A1 m c) ⊢ iprop(acPts c (srcB 4 c) (phaseVal m 4 c) ∗ acPts c (iv 0 (lo0b c) 2) (A1 m c)) :=
  (ac_cut c (by revert c; decide)).1
theorem cut13 : acPts c (iv 1 (lo1a c) 8) (B1 m c) ⊢ iprop(acPts c (srcB 5 c) (phaseVal m 5 c) ∗ acPts c (iv 1 (lo1b c) 4) (B1 m c)) :=
  (ac_cut c (by revert c; decide)).1
theorem cut15 : acPts c (iv 0 (lo0b c) 2) (A2 m c) ⊢ iprop(acPts c (srcB 6 c) (phaseVal m 6 c) ∗ acPts c (iv 0 (lo0 c) 1) (A2 m c)) :=
  (ac_cut c (by revert c; decide)).1
theorem cut17 : acPts c (iv 1 (lo1b c) 4) (B2 m c) ⊢ iprop(acPts c (srcB 7 c) (phaseVal m 7 c) ∗ acPts c (srcB 8 c) (phaseVal m 8 c) ∗ acPts c (srcB 9 c) (phaseVal m 9 c) ∗ acPts c (iv 1 (lo1 c) 1) (B2 m c)) := by
  iintro H
  ihave ⟨H0, H⟩ := (ac_cut c (B := iv 1 (lo1b c) 4) (C := srcB 7 c) (D := srcB 8 c ∪ (srcB 9 c ∪ iv 1 (lo1 c) 1)) (by revert c; decide)).1 $$ H
  ihave ⟨H1, H⟩ := (ac_cut c (C := srcB 8 c) (D := srcB 9 c ∪ iv 1 (lo1 c) 1) ⟨rfl, by revert c; decide⟩).1 $$ H
  ihave ⟨H2, H⟩ := (ac_cut c (C := srcB 9 c) (D := iv 1 (lo1 c) 1) ⟨rfl, by revert c; decide⟩).1 $$ H
  isplitl [H0]; · iexact H0
  isplitl [H1]; · iexact H1
  isplitl [H2]; · iexact H2
  iexact H

theorem got_rs {k : Fin 20} (hk : k.val < 10) : recvPay c m k ⊢ rcPts c (inB c k) (landVal m k c) := by
  unfold recvPay; exact Entails.of_eq (if_pos hk)

/-- The half of the second chunk that stays, as it is loaded. -/
def saw12 : Vec F S1x512x256 .f32 := fun j => A0 m c (seg 1 (lo1a c) (j 1).val (j 2).val)

/-! ## The parts -/

theorem part9 {Q} {w116} :
    iprop(St m K c 4 0 0)
    ⊢ iprop(((St m K c 4 2 1 ∗ rcPts c (inB c 0) (landVal m 0 c)) -∗  Q ⟨⟩)
      -∗ WP c (onBufs (k0_part9 (F := F)) c w116) Q) := by
  simp only [onBufs, k0_part9_eq_skeleton]
  unfold k0_part9_skel
  simp only [semSignalWord, semWaitWord, Prog.lift, Prog.bind_op, Prog.bind_ret, Prog.pure_eq_ret, wp_deviceId]
  iintro H HQ
  iapply (wait_send m K c 0 (a := 4) (b := 0) (e := 0) rfl rfl (by decide) rfl) $$ H; iintro ⟨H, -⟩
  iapply (wait_recv m K c 0 (a := 4) (b := 1) (e := 0) rfl rfl (by decide) rfl) $$ H; iintro ⟨H, HR⟩
  ihave HR := (got_rs m c (k := 0) (by decide)) $$ HR
  iapply (wait_send m K c 1 (a := 4) (b := 1) (e := 1) rfl rfl (by decide) rfl) $$ H; iintro ⟨H, -⟩
  iapply wp_done; iapply HQ
  isplitl [H]; · iexact H
  iexact HR

theorem part10 {Q} {w113} {w136} {w156} :
    iprop(St m K c 4 2 1)
    ⊢ iprop(((St m K c 4 3 3 ∗ rcPts c (inB c 1) (landVal m 1 c) ∗ rcPts c (inB c 2) (landVal m 2 c)) -∗  Q ⟨⟩)
      -∗ WP c (onBufs (k0_part10 (F := F)) c w113 w136 w156) Q) := by
  simp only [onBufs, k0_part10_eq_skeleton]
  unfold k0_part10_skel
  simp only [semSignalWord, semWaitWord, Prog.lift, Prog.bind_op, Prog.bind_ret, Prog.pure_eq_ret, wp_deviceId]
  iintro H HQ
  iapply (wait_recv m K c 1 (a := 4) (b := 2) (e := 1) rfl rfl (by decide) rfl) $$ H; iintro ⟨H, HR⟩
  ihave HR := (got_rs m c (k := 1) (by decide)) $$ HR
  iapply (wait_send m K c 2 (a := 4) (b := 2) (e := 2) rfl rfl (by decide) rfl) $$ H; iintro ⟨H, -⟩
  iapply (wait_recv m K c 2 (a := 4) (b := 3) (e := 2) rfl rfl (by decide) rfl) $$ H; iintro ⟨H, HS⟩
  ihave HS := (got_rs m c (k := 2) (by decide)) $$ HS
  iapply wp_done; iapply HQ
  isplitl [H]; · iexact H
  isplitl [HR]; · iexact HR
  iexact HS

theorem part11 {Q} {w2} {w113} :
    iprop(rcPts c (inB c 0) (landVal m 0 c) ∗ rcPts c (inB c 1) (landVal m 1 c) ∗ rcPts c (inB c 2) (landVal m 2 c) ∗ acPts c (iv 0 (lo0a c) 4) (A0 m c))
    ⊢ iprop((∀ u, ∀ u1, (rcPts c (inB c 0) (landVal m 0 c) ∗ rcPts c (inB c 1) (landVal m 1 c) ∗ rcPts c (inB c 2) (landVal m 2 c) ∗ acPts c (iv 0 (lo0a c) 4) (A1 m c)) -∗  Q ⟨u, u1⟩)
      -∗ WP c (onBufs (k0_part11 (F := F)) c w2 w113) Q) := by
  simp only [onBufs, k0_part11_eq_skeleton]
  unfold k0_part11_skel
  simp only [semSignalWord, semWaitWord, Prog.lift, Prog.bind_op, Prog.bind_ret, Prog.pure_eq_ret, wp_deviceId]
  iintro ⟨H0, H1, H2, Ha⟩ HQ
  iapply (ld_ac c (h := 0) (l := lo0a c) (n := 4) (by decide) (by revert c; decide) (off4_eq c) rfl (by revert c; decide)) $$ Ha; iintro Ha
  iapply (ld_rc c (h := 0) (l := 0) (n := 4) (by decide) (by revert c; decide) (rfl) rfl (by revert c; decide)) $$ H2; iintro H2
  iapply (ld_rc c (h := 0) (l := 4) (n := 4) (by decide) (by revert c; decide) (rfl) rfl (by revert c; decide)) $$ H1; iintro H1
  iapply (ld_rc c (h := 0) (l := 8) (n := 4) (by decide) (by revert c; decide) (rfl) rfl (by revert c; decide)) $$ H0; iintro H0
  iapply (ld_ac c (h := 0) (l := lo0a c) (n := 4) (by decide) (by revert c; decide) (off4_eq c) rfl (by revert c; decide)) $$ Ha; iintro Ha
  iapply (st_ac c (h := 0) (l := lo0a c) (n := 4) (by decide) (by revert c; decide) (off4_eq c) rfl (A1 m c) (fun j => (pay14_at _ _ _ _ j).trans (sum14 m c j))) $$ Ha; iintro Ha
  iapply wp_done; iapply HQ
  isplitl [H0]; · iexact H0
  isplitl [H1]; · iexact H1
  isplitl [H2]; · iexact H2
  iexact Ha

theorem part12 {Q} {w236} {w237} :
    iprop(St m K c 4 3 3 ∗ acPts c (iv 0 (lo0a c) 4) (A1 m c) ∗ acPts c (iv 1 (lo1a c) 8) (A0 m c))
    ⊢ iprop(((St m K c 5 4 4 ∗ rcPts c (inB c 3) (landVal m 3 c) ∗ acPts c (iv 0 (lo0b c) 2) (A1 m c) ∗ acPts c (iv 1 (lo1a c) 8) (A0 m c)) -∗  Q (k0_pay15 (saw12 m c)))
      -∗ WP c (onBufs (k0_part12 (F := F)) c w236 w237) Q) := by
  simp only [onBufs, k0_part12_eq_skeleton]
  unfold k0_part12_skel
  simp only [semSignalWord, semWaitWord, Prog.lift, Prog.bind_op, Prog.bind_ret, Prog.pure_eq_ret, wp_deviceId]
  iintro ⟨H, Ha, Hb⟩ HQ
  ihave ⟨H4, Ha⟩ := (cut12 m c) $$ Ha
  iapply (send_rs m K c 4 (a := 4) (b := 3) (e := 3) rfl (by decide) (off5_eq c) (by revert c; decide) rfl rfl (dev10_eq c) rfl rfl (by decide)) $$ [H H4]
  · isplitl [H] <;> iassumption
  iintro H
  iapply (wait_send m K c 3 (a := 5) (b := 3) (e := 3) rfl rfl (by decide) rfl) $$ H; iintro ⟨H, -⟩
  iapply (wait_recv m K c 3 (a := 5) (b := 4) (e := 3) rfl rfl (by decide) rfl) $$ H; iintro ⟨H, HR⟩
  ihave HR := (got_rs m c (k := 3) (by decide)) $$ HR
  iapply (ld_ac_as c (h := 1) (l := lo1a c) (n := 8) (by decide) (by revert c; decide) (off6_eq c) rfl (saw12 m c) rfl (by revert c; decide)) $$ Hb; iintro Hb
  iapply wp_done; iapply HQ
  isplitl [H]; · iexact H
  isplitl [HR]; · iexact HR
  isplitl [Ha]; · iexact Ha
  iexact Hb

theorem part13 {Q} {w2} {w236} :
    iprop(St m K c 5 4 4 ∗ rcPts c (inB c 3) (landVal m 3 c) ∗ acPts c (iv 1 (lo1a c) 8) (A0 m c))
    ⊢ iprop((∀ u, ∀ u1, (St m K c 6 4 4 ∗ rcPts c (inB c 3) (landVal m 3 c) ∗ acPts c (iv 1 (lo1b c) 4) (B1 m c)) -∗  Q ⟨u, u1⟩)
      -∗ WP c (onBufs (k0_part13 (F := F)) c w2 w236 (k0_pay15 (saw12 m c))) Q) := by
  simp only [onBufs, k0_part13_eq_skeleton]
  unfold k0_part13_skel
  simp only [semSignalWord, semWaitWord, Prog.lift, Prog.bind_op, Prog.bind_ret, Prog.pure_eq_ret, wp_deviceId]
  iintro ⟨H, HR, Hb⟩ HQ
  iapply (ld_rc c (h := 1) (l := 0) (n := 8) (by decide) (by revert c; decide) (rfl) rfl (by revert c; decide)) $$ HR; iintro HR
  iapply (ld_ac c (h := 1) (l := lo1a c) (n := 8) (by decide) (by revert c; decide) (off6_eq c) rfl (by revert c; decide)) $$ Hb; iintro Hb
  iapply (st_ac c (h := 1) (l := lo1a c) (n := 8) (by decide) (by revert c; decide) (off6_eq c) rfl (B1 m c) (fun j => (pay16_at _ _ j).trans (sum16 m c j))) $$ Hb; iintro Hb
  ihave ⟨H5, Hb⟩ := (cut13 m c) $$ Hb
  iapply (send_rs m K c 5 (a := 5) (b := 4) (e := 4) rfl (by decide) (off7_eq c) (by revert c; decide) rfl rfl (dev11_eq c) rfl rfl (by decide)) $$ [H H5]
  · isplitl [H] <;> iassumption
  iintro H
  iapply wp_done; iapply HQ
  isplitl [H]; · iexact H
  isplitl [HR]; · iexact HR
  iexact Hb

theorem part14 {Q} {w2} {w312} {w313} :
    iprop(St m K c 6 4 4 ∗ acPts c (iv 0 (lo0b c) 2) (A1 m c))
    ⊢ iprop((∀ u, ∀ u1, (St m K c 6 5 5 ∗ rcPts c (inB c 4) (landVal m 4 c) ∗ acPts c (iv 0 (lo0b c) 2) (A2 m c)) -∗  Q ⟨u, u1⟩)
      -∗ WP c (onBufs (k0_part14 (F := F)) c w2 w312 w313) Q) := by
  simp only [onBufs, k0_part14_eq_skeleton]
  unfold k0_part14_skel
  simp only [semSignalWord, semWaitWord, Prog.lift, Prog.bind_op, Prog.bind_ret, Prog.pure_eq_ret, wp_deviceId]
  iintro ⟨H, Ha⟩ HQ
  iapply (wait_send m K c 4 (a := 6) (b := 4) (e := 4) rfl rfl (by decide) rfl) $$ H; iintro ⟨H, -⟩
  iapply (wait_recv m K c 4 (a := 6) (b := 5) (e := 4) rfl rfl (by decide) rfl) $$ H; iintro ⟨H, HR⟩
  ihave HR := (got_rs m c (k := 4) (by decide)) $$ HR
  iapply (ld_ac c (h := 0) (l := lo0b c) (n := 2) (by decide) (by revert c; decide) (off8_eq c) rfl (by revert c; decide)) $$ Ha; iintro Ha
  iapply (ld_rc c (h := 0) (l := 12) (n := 2) (by decide) (by revert c; decide) (rfl) rfl (by revert c; decide)) $$ HR; iintro HR
  iapply (ld_ac c (h := 0) (l := lo0b c) (n := 2) (by decide) (by revert c; decide) (off8_eq c) rfl (by revert c; decide)) $$ Ha; iintro Ha
  iapply (st_ac c (h := 0) (l := lo0b c) (n := 2) (by decide) (by revert c; decide) (off8_eq c) rfl (A2 m c) (fun j => (pay17_at _ _ j).trans (sum17 m c j))) $$ Ha; iintro Ha
  iapply wp_done; iapply HQ
  isplitl [H]; · iexact H
  isplitl [HR]; · iexact HR
  iexact Ha

theorem part15 {Q} {w2} {w312} {w391} {w392} :
    iprop(St m K c 6 5 5 ∗ acPts c (iv 0 (lo0b c) 2) (A2 m c))
    ⊢ iprop((∀ u, ∀ u1, (St m K c 7 6 5 ∗ acPts c (iv 0 (lo0 c) 1) (A2 m c)) -∗  Q ⟨u, u1⟩)
      -∗ WP c (onBufs (k0_part15 (F := F)) c w2 w312 w391 w392) Q) := by
  simp only [onBufs, k0_part15_eq_skeleton]
  unfold k0_part15_skel
  simp only [semSignalWord, semWaitWord, Prog.lift, Prog.bind_op, Prog.bind_ret, Prog.pure_eq_ret, wp_deviceId]
  iintro ⟨H, Ha⟩ HQ
  ihave ⟨H6, Ha⟩ := (cut15 m c) $$ Ha
  iapply (send_rs m K c 6 (a := 6) (b := 5) (e := 5) rfl (by decide) (off9_eq c) (by revert c; decide) rfl rfl (dev12_eq c) rfl rfl (by decide)) $$ [H H6]
  · isplitl [H] <;> iassumption
  iintro H
  iapply (wait_send m K c 5 (a := 7) (b := 5) (e := 5) rfl rfl (by decide) rfl) $$ H; iintro ⟨H, -⟩
  iapply wp_done; iapply HQ
  isplitl [H]; · iexact H
  iexact Ha

theorem part16 {Q} {w3} {w4} {w354} {w355} :
    iprop(St m K c 7 6 5 ∗ acPts c (iv 1 (lo1b c) 4) (B1 m c))
    ⊢ iprop((∀ u, ∀ u1, (St m K c 7 6 6 ∗ rcPts c (inB c 5) (landVal m 5 c) ∗ acPts c (iv 1 (lo1b c) 4) (B2 m c)) -∗  Q ⟨u, u1⟩)
      -∗ WP c (onBufs (k0_part16 (F := F)) c w3 w4 w354 w355) Q) := by
  simp only [onBufs, k0_part16_eq_skeleton]
  unfold k0_part16_skel
  simp only [semSignalWord, semWaitWord, Prog.lift, Prog.bind_op, Prog.bind_ret, Prog.pure_eq_ret, wp_deviceId]
  iintro ⟨H, Hb⟩ HQ
  iapply (wait_recv m K c 5 (a := 7) (b := 6) (e := 5) rfl rfl (by decide) rfl) $$ H; iintro ⟨H, HR⟩
  ihave HR := (got_rs m c (k := 5) (by decide)) $$ HR
  iapply (ld_ac c (h := 1) (l := lo1b c) (n := 4) (by decide) (by revert c; decide) (off10_eq c) rfl (by revert c; decide)) $$ Hb; iintro Hb
  iapply (ld_rc c (h := 1) (l := 8) (n := 4) (by decide) (by revert c; decide) (rfl) rfl (by revert c; decide)) $$ HR; iintro HR
  iapply (ld_ac c (h := 1) (l := lo1b c) (n := 4) (by decide) (by revert c; decide) (off10_eq c) rfl (by revert c; decide)) $$ Hb; iintro Hb
  iapply (st_ac c (h := 1) (l := lo1b c) (n := 4) (by decide) (by revert c; decide) (off10_eq c) rfl (B2 m c) (fun j => (pay18_at _ _ j).trans (sum18 m c j))) $$ Hb; iintro Hb
  iapply wp_done; iapply HQ
  isplitl [H]; · iexact H
  isplitl [HR]; · iexact HR
  iexact Hb

theorem part17 {Q} {w3} {w4} {w354} {w436} :
    iprop(St m K c 7 6 6 ∗ acPts c (srcB 7 c) (phaseVal m 7 c))
    ⊢ iprop((∀ u, (St m K c 8 6 6) -∗  Q u)
      -∗ WP c (onBufs (k0_part17 (F := F)) c w3 w4 w354 w436) Q) := by
  simp only [onBufs, k0_part17_eq_skeleton]
  unfold k0_part17_skel
  simp only [semSignalWord, semWaitWord, Prog.lift, Prog.bind_op, Prog.bind_ret, Prog.pure_eq_ret, wp_deviceId]
  iintro ⟨H, H7⟩ HQ
  iapply (send_rs m K c 7 (a := 7) (b := 6) (e := 6) rfl (by decide) (off12_1 c) (off11_1 c) rfl rfl (dev13_eq c) rfl rfl (by decide)) $$ [H H7]
  · isplitl [H] <;> iassumption
  iintro H
  iapply wp_done; iapply HQ
  iexact H

theorem part18 {Q} {w3} {w4} {w354} :
    iprop(St m K c 8 6 6 ∗ acPts c (srcB 8 c) (phaseVal m 8 c) ∗ acPts c (srcB 9 c) (phaseVal m 9 c))
    ⊢ iprop((∀ u, (St m K c 10 6 6) -∗  Q u)
      -∗ WP c (onBufs (k0_part18 (F := F)) c w3 w4 w354) Q) := by
  simp only [onBufs, k0_part18_eq_skeleton]
  unfold k0_part18_skel
  simp only [semSignalWord, semWaitWord, Prog.lift, Prog.bind_op, Prog.bind_ret, Prog.pure_eq_ret, wp_deviceId]
  iintro ⟨H, H8, H9⟩ HQ
  iapply (send_rs m K c 8 (a := 8) (b := 6) (e := 6) rfl (by decide) (off12_2 c) (off11_2 c) rfl rfl (dev14_eq c) rfl rfl (by decide)) $$ [H H8]
  · isplitl [H] <;> iassumption
  iintro H
  iapply (send_rs m K c 9 (a := 9) (b := 6) (e := 6) rfl (by decide) (off12_3 c) (off11_3 c) rfl rfl (dev15_eq c) rfl rfl (by decide)) $$ [H H9]
  · isplitl [H] <;> iassumption
  iintro H
  iapply wp_done; iapply HQ
  iexact H

end Cert.Moe
end
-- ==== Proof.PartsC.lean ====
/- The two chunks' last sums, their finished rows, and the all-gather. -/
module

public import proofs.«01_k».proof.Proof.PartsB
public import Idealize.ShloMosaic.Lib.Pipeline.Value

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 74 → ℕ)

variable (c : Dev nD)

/-! ## Finished rows -/

theorem fin0_at (j : S1x64x256.Idx) : fin0 m c j = GF m (seg 0 (lo0 c) (j 1).val (j 2).val) := by
  have hr : (j 1).val < 64 := (j 1).isLt
  have hx : (j 2).val < 256 := (j 2).isLt
  have hl : lo0 c < 16 := by revert c; decide
  have ho : own0 (lo0 c) = c := by revert c; decide
  have h0 : (seg 0 (lo0 c) (j 1).val (j 2).val 0).val = 0 := rfl
  have h1 : (seg 0 (lo0 c) (j 1).val (j 2).val 1).val = lo0 c * 64 + (j 1).val := Nat.mod_eq_of_lt (by omega)
  unfold GF
  rw [if_pos h0, h1, show (lo0 c * 64 + (j 1).val) / 64 = lo0 c by omega, ho]
  refine congrArg (fin0 m c) ?_
  funext a
  refine Fin.ext ?_
  match a with
  | ⟨0, _⟩ => have : (j 0).val < 1 := (j 0).isLt; show (j 0).val = 0; omega
  | ⟨1, _⟩ => show (j 1).val = (seg 0 (lo0 c) (j 1).val (j 2).val 1).val % 64; rw [h1]; omega
  | ⟨2, _⟩ => show (j 2).val = (j 2).val % 256; omega
theorem fin1_at (j : S1x64x256.Idx) : fin1 m c j = GF m (seg 1 (lo1 c) (j 1).val (j 2).val) := by
  have hr : (j 1).val < 64 := (j 1).isLt
  have hx : (j 2).val < 256 := (j 2).isLt
  have hl : lo1 c < 16 := by revert c; decide
  have ho : own1 (lo1 c) = c := by revert c; decide
  have h0 : ¬ (seg 1 (lo1 c) (j 1).val (j 2).val 0).val = 0 := by show ¬ (1 : ℕ) = 0; decide
  have h1 : (seg 1 (lo1 c) (j 1).val (j 2).val 1).val = lo1 c * 64 + (j 1).val := Nat.mod_eq_of_lt (by omega)
  unfold GF
  rw [if_neg h0, h1, show (lo1 c * 64 + (j 1).val) / 64 = lo1 c by omega, ho]
  refine congrArg (fin1 m c) ?_
  funext a
  refine Fin.ext ?_
  match a with
  | ⟨0, _⟩ => have : (j 0).val < 1 := (j 0).isLt; show (j 0).val = 0; omega
  | ⟨1, _⟩ => show (j 1).val = (seg 1 (lo1 c) (j 1).val (j 2).val 1).val % 64; rw [h1]; omega
  | ⟨2, _⟩ => show (j 2).val = (j 2).val % 256; omega

/-! ## Regions and shares of the gathered rows -/

theorem got_ag {k : Fin 20} (hk : ¬ k.val < 10) : recvPay c m k ⊢ gtPts c fullShare (inB c k) (GF m) := by
  unfold recvPay; exact Entails.of_eq (if_neg hk)
theorem got_back {k : Fin 20} (hk : ¬ k.val < 10) :
    (if k.val < 10 then iprop(emp) else gtPts c (shr k) (srcB k c) (GF m) : sProp 𝕄) ⊢ gtPts c (shr k) (srcB k c) (GF m) := Entails.of_eq (if_neg hk)

theorem gt_join {q : PosShare TreeShare} {B C D : Finset (Fin 32)} {f : BIx → Elt F .f32} (h : B = C ∪ D ∧ Disjoint C D) :
    iprop(gtPts c q C f ∗ gtPts c q D f) ⊢ gtPts c q B f := (gt_cut c h).2

/-- One region, shared among the three copies that read it. -/
theorem gt_three {B : Finset (Fin 32)} : gtPts c fullShare B (GF m) ⊣⊢ iprop(gtPts c fullShare.left B (GF m) ∗ gtPts c fullShare.right.left B (GF m) ∗ gtPts c fullShare.right.right B (GF m)) := by
  refine ⟨?_, ?_⟩
  · iintro H
    ihave ⟨H0, H⟩ := (gt_share c (PosShare.mem_left_op_right fullShare)).1 $$ H
    ihave ⟨H1, H⟩ := (gt_share c (PosShare.mem_left_op_right fullShare.right)).1 $$ H
    isplitl [H0]; · iexact H0
    isplitl [H1] <;> iassumption
  · iintro ⟨H0, H1, H2⟩
    iapply (gt_share c (PosShare.mem_left_op_right fullShare)).2
    isplitl [H0]; · iexact H0
    iapply (gt_share c (PosShare.mem_left_op_right fullShare.right)).2
    isplitl [H1] <;> iassumption

theorem give20 : gtPts c fullShare (iv 0 (lo0 c) 1) (GF m) ⊢ gtPts c (shr 10) (srcB 10 c) (GF m) := by
  rw [show iv 0 (lo0 c) 1 = srcB 10 c by revert c; decide]; exact .rfl
theorem give24 : gtPts c fullShare (iv 1 (lo1 c) 1) (GF m) ⊢ iprop(gtPts c (shr 11) (srcB 11 c) (GF m) ∗ gtPts c (shr 12) (srcB 12 c) (GF m) ∗ gtPts c (shr 13) (srcB 13 c) (GF m)) := by
  rw [show iv 1 (lo1 c) 1 = srcB 11 c by revert c; decide, show srcB 12 c = srcB 11 c by revert c; decide, show srcB 13 c = srcB 11 c by revert c; decide]
  exact (gt_three m c).1
theorem give26 : iprop(gtPts c (shr 10) (srcB 10 c) (GF m) ∗ gtPts c fullShare (inB c 10) (GF m)) ⊢ gtPts c (shr 14) (srcB 14 c) (GF m) :=
  gt_join c (by revert c; decide)
theorem give29 : iprop(gtPts c (shr 11) (srcB 11 c) (GF m) ∗ gtPts c (shr 12) (srcB 12 c) (GF m) ∗ gtPts c (shr 13) (srcB 13 c) (GF m)
    ∗ gtPts c fullShare (inB c 11) (GF m) ∗ gtPts c fullShare (inB c 12) (GF m) ∗ gtPts c fullShare (inB c 13) (GF m)) ⊢ gtPts c (shr 15) (srcB 15 c) (GF m) := by
  rw [show srcB 12 c = srcB 11 c by revert c; decide, show srcB 13 c = srcB 11 c by revert c; decide]
  iintro ⟨H0, H1, H2, H3, H4, H5⟩
  iapply (gt_join c (C := srcB 11 c) (D := inB c 11 ∪ (inB c 12 ∪ inB c 13)) (by revert c; decide))
  isplitl [H0 H1 H2]
  · iapply (gt_three m c).2
    isplitl [H0]; · iexact H0
    isplitl [H1]
    · iexact H1
    · iexact H2
  iapply (gt_join c (C := inB c 11) (D := inB c 12 ∪ inB c 13) ⟨rfl, by revert c; decide⟩)
  isplitl [H3]; · iexact H3
  iapply (gt_join c (C := inB c 12) (D := inB c 13) ⟨rfl, by revert c; decide⟩)
  isplitl [H4]
  · iexact H4
  · iexact H5
theorem give30 : iprop(gtPts c (shr 14) (srcB 14 c) (GF m) ∗ gtPts c fullShare (inB c 14) (GF m))
    ⊢ iprop(gtPts c (shr 16) (srcB 16 c) (GF m) ∗ gtPts c (shr 17) (srcB 17 c) (GF m) ∗ gtPts c (shr 18) (srcB 18 c) (GF m)) := by
  rw [show srcB 17 c = srcB 16 c by revert c; decide, show srcB 18 c = srcB 16 c by revert c; decide]
  exact (gt_join c (B := srcB 16 c) (by revert c; decide)).trans (gt_three m c).1
theorem give32 : iprop(gtPts c (shr 15) (srcB 15 c) (GF m) ∗ gtPts c fullShare (inB c 15) (GF m)) ⊢ gtPts c (shr 19) (srcB 19 c) (GF m) :=
  gt_join c (by revert c; decide)
theorem give35a : iprop(gtPts c (shr 16) (srcB 16 c) (GF m) ∗ gtPts c (shr 17) (srcB 17 c) (GF m) ∗ gtPts c (shr 18) (srcB 18 c) (GF m)
    ∗ gtPts c fullShare (inB c 16) (GF m) ∗ gtPts c fullShare (inB c 17) (GF m) ∗ gtPts c fullShare (inB c 18) (GF m)) ⊢ gtPts c fullShare (iv 0 0 16) (GF m) := by
  rw [show srcB 17 c = srcB 16 c by revert c; decide, show srcB 18 c = srcB 16 c by revert c; decide]
  iintro ⟨H0, H1, H2, H3, H4, H5⟩
  iapply (gt_join c (C := srcB 16 c) (D := inB c 16 ∪ (inB c 17 ∪ inB c 18)) (by revert c; decide))
  isplitl [H0 H1 H2]
  · iapply (gt_three m c).2
    isplitl [H0]; · iexact H0
    isplitl [H1]
    · iexact H1
    · iexact H2
  iapply (gt_join c (C := inB c 16) (D := inB c 17 ∪ inB c 18) ⟨rfl, by revert c; decide⟩)
  isplitl [H3]; · iexact H3
  iapply (gt_join c (C := inB c 17) (D := inB c 18) ⟨rfl, by revert c; decide⟩)
  isplitl [H4]
  · iexact H4
  · iexact H5
theorem give35b : iprop(gtPts c (shr 19) (srcB 19 c) (GF m) ∗ gtPts c fullShare (inB c 19) (GF m)) ⊢ gtPts c fullShare (iv 1 0 16) (GF m) :=
  gt_join c (by revert c; decide)

/-! ## The result -/

/-- One chunk of the finished rows, as it is loaded. -/
def chunkF (h : ℕ) : Vec F S1x1024x256 .f32 := fun j => GF m (seg h 0 (j 1).val (j 2).val)

theorem out_eq (f : S1024x512.Idx → Elt F .f32) {off0 off1 : Fin 2 → ℕ} (h0 : off0 = ![0, 0]) (h1 : off1 = ![0, 256])
    (inb0 : ∀ a, off0 a + S1024x256.size a ≤ (S1024x512 : Shape).size a) (inb1 : ∀ a, off1 a + S1024x256.size a ≤ (S1024x512 : Shape).size a) :
    ((outM : Memref sig .tc .vmem S1024x512 .f32).access (Rect.unit (s := S1024x512) off1 S1024x256.size inb1)).write (Elt F)
      (((outM : Memref sig .tc .vmem S1024x512 .f32).access (Rect.unit (s := S1024x512) off0 S1024x256.size inb0)).write (Elt F) f (k0_pay26 (chunkF m 0)) Finset.univ)
      (k0_pay27 (chunkF m 1)) Finset.univ = outVal m := by
  subst h0 h1
  funext i
  have hi1 : (i 1).val < 512 := (i 1).isLt
  have hi0 : (i 0).val < 1024 := (i 0).isLt
  unfold outVal
  by_cases h : (i 1).val < 256
  · rw [dif_pos h]
    let j : S1024x256.Idx := fun a => match a with | ⟨0, _⟩ => ⟨(i 0).val, hi0⟩ | ⟨1, _⟩ => ⟨(i 1).val, h⟩
    have hj : ((outM : Memref sig .tc .vmem S1024x512 .f32).access (Rect.unit (s := S1024x512) ![0, 0] S1024x256.size inb0)).emb j = i := by
      funext a
      refine Fin.ext ?_
      match a with
      | ⟨0, _⟩ => show 0 + 1 * (i 0).val = (i 0).val; omega
      | ⟨1, _⟩ => show 0 + 1 * (i 1).val = (i 1).val; omega
    rw [View.write_of_not_mem]
    · have e := View.write_emb_of_mem (v := (outM : Memref sig .tc .vmem S1024x512 .f32).access (Rect.unit (s := S1024x512) ![0, 0] S1024x256.size inb0)) (Val := Elt F) f (k0_pay26 (chunkF m 0)) (Finset.mem_univ j)
      rw [hj] at e
      refine e.trans ?_
      show k0_pay26 (chunkF m 0) j = _
      refine (Idealize.ShloMosaic.shapeCast_dropUnit_apply ![1024, 256] (chunkF m 0) _ j).trans ?_
      unfold chunkF seg
      refine congrArg (GF m) ?_
      funext a
      refine Fin.ext ?_
      match a with
      | ⟨0, _⟩ => rfl
      | ⟨1, _⟩ => show (0 * 64 + (i 0).val) % 1024 = (i 0).val; omega
      | ⟨2, _⟩ => show (i 1).val % 256 = (i 1).val; omega
    · intro hm
      obtain ⟨j', _, hj'⟩ := Finset.mem_map.mp hm
      have := congrArg (fun z : S1024x512.Idx => (z 1).val) hj'
      have h2 : 256 + 1 * (j' 1).val = (i 1).val := this
      omega
  · rw [dif_neg h]
    let j : S1024x256.Idx := fun a => match a with | ⟨0, _⟩ => ⟨(i 0).val, hi0⟩ | ⟨1, _⟩ => ⟨(i 1).val - 256, by show _ < 256; omega⟩
    have hj : ((outM : Memref sig .tc .vmem S1024x512 .f32).access (Rect.unit (s := S1024x512) ![0, 256] S1024x256.size inb1)).emb j = i := by
      funext a
      refine Fin.ext ?_
      match a with
      | ⟨0, _⟩ => show 0 + 1 * (i 0).val = (i 0).val; omega
      | ⟨1, _⟩ => show 256 + 1 * ((i 1).val - 256) = (i 1).val; omega
    have e := fun f' => View.write_emb_of_mem (v := (outM : Memref sig .tc .vmem S1024x512 .f32).access (Rect.unit (s := S1024x512) ![0, 256] S1024x256.size inb1)) (Val := Elt F) f' (k0_pay27 (chunkF m 1)) (Finset.mem_univ j)
    rw [hj] at e
    refine (e _).trans ?_
    show k0_pay27 (chunkF m 1) j = _
    refine (Idealize.ShloMosaic.shapeCast_dropUnit_apply ![1024, 256] (chunkF m 1) _ j).trans ?_
    unfold chunkF seg
    refine congrArg (GF m) ?_
    funext a
    refine Fin.ext ?_
    match a with
    | ⟨0, _⟩ => rfl
    | ⟨1, _⟩ => show (0 * 64 + (i 0).val) % 1024 = (i 0).val; omega
    | ⟨2, _⟩ => show ((i 1).val - 256) % 256 = (i 1).val - 256; omega

/-! ## The parts -/

theorem part19 {Q} {w396} {w397} :
    iprop(St m K c 10 6 6 ∗ acPts c (iv 0 (lo0 c) 1) (A2 m c) ∗ whPts c xM (xin m c))
    ⊢ iprop(((St m K c 10 7 7 ∗ rcPts c (inB c 6) (landVal m 6 c) ∗ acPts c (iv 0 (lo0 c) 1) (A3 m c) ∗ whPts c xM (xin m c)) -∗  Q ⟨k0_pay20 (cut64 0 (lo0 c) (A3 m c)), k0_pay21 (xCut m c (lo0 c))⟩)
      -∗ WP c (onBufs (k0_part19 (F := F)) c w396 w397) Q) := by
  simp only [onBufs, k0_part19_eq_skeleton]
  unfold k0_part19_skel
  simp only [semSignalWord, semWaitWord, Prog.lift, Prog.bind_op, Prog.bind_ret, Prog.pure_eq_ret, wp_deviceId]
  iintro ⟨H, Ha, Hx⟩ HQ
  iapply (wait_send m K c 6 (a := 10) (b := 6) (e := 6) rfl rfl (by decide) rfl) $$ H; iintro ⟨H, -⟩
  iapply (wait_recv m K c 6 (a := 10) (b := 7) (e := 6) rfl rfl (by decide) rfl) $$ H; iintro ⟨H, HR⟩
  ihave HR := (got_rs m c (k := 6) (by decide)) $$ HR
  iapply (ld_ac c (h := 0) (l := lo0 c) (n := 1) (by decide) (by revert c; decide) (off13_eq c) rfl (by revert c; decide)) $$ Ha; iintro Ha
  iapply (ld_rc c (h := 0) (l := 14) (n := 1) (by decide) (by revert c; decide) (rfl) rfl (by revert c; decide)) $$ HR; iintro HR
  iapply (ld_ac c (h := 0) (l := lo0 c) (n := 1) (by decide) (by revert c; decide) (off13_eq c) rfl (by revert c; decide)) $$ Ha; iintro Ha
  iapply (st_ac c (h := 0) (l := lo0 c) (n := 1) (by decide) (by revert c; decide) (off13_eq c) rfl (A3 m c) (fun j => (pay19_at _ _ j).trans (sum19 m c j))) $$ Ha; iintro Ha
  iapply (ld_ac_as c (h := 0) (l := lo0 c) (n := 1) (by decide) (by revert c; decide) (off13_eq c) rfl (cut64 0 (lo0 c) (A3 m c)) rfl (by revert c; decide)) $$ Ha; iintro Ha
  iapply (ld_wh c (xCut m c (lo0 c)) (read_x m c (lo0 c) (by revert c; decide) (off14_eq c) _)) $$ Hx; iintro Hx
  iapply wp_done; iapply HQ
  isplitl [H]; · iexact H
  isplitl [HR]; · iexact HR
  isplitl [Ha]; · iexact Ha
  iexact Hx

theorem part20 {Q} {f} {w2} {w396} :
    iprop(St m K c 10 7 7 ∗ gtPts c fullShare (iv 0 (lo0 c) 1) f ∗ whPts c swM (swin m c))
    ⊢ iprop((∀ u, ∀ u1, (St m K c 11 7 7 ∗ whPts c swM (swin m c)) -∗  Q ⟨u, u1⟩)
      -∗ WP c (onBufs (k0_part20 (F := F)) c w2 w396 (k0_pay20 (cut64 0 (lo0 c) (A3 m c))) (k0_pay21 (xCut m c (lo0 c)))) Q) := by
  simp only [onBufs, k0_part20_eq_skeleton]
  unfold k0_part20_skel
  simp only [semSignalWord, semWaitWord, Prog.lift, Prog.bind_op, Prog.bind_ret, Prog.pure_eq_ret, wp_deviceId]
  iintro ⟨H, Hg, Hw⟩ HQ
  iapply (ld_wh c (swCut m c 0) (read_sw m c 0 rfl _)) $$ Hw; iintro Hw
  iapply (ld_gt c (h := 0) (l := lo0 c) (n := 1) (by decide) (by revert c; decide) (off13_eq c) rfl (by revert c; decide)) $$ Hg; iintro Hg
  iapply (st_gt c (h := 0) (l := lo0 c) (n := 1) (by decide) (by revert c; decide) (off13_eq c) rfl (GF m) (fun j => fin0_at m c j)) $$ Hg; iintro Hg
  ihave Hg := (give20 m c) $$ Hg
  iapply (send_ag m K c 10 (a := 10) (b := 7) (e := 7) rfl (by decide) (by revert c; decide) (by revert c; decide) rfl rfl (dev16_eq c) rfl rfl (by decide)) $$ [H Hg]
  · isplitl [H] <;> iassumption
  iintro H
  iapply wp_done; iapply HQ
  isplitl [H]; · iexact H
  iexact Hw

theorem part21 {Q} {w436} :
    iprop(St m K c 11 7 7)
    ⊢ iprop((∀ u, (St m K c 11 9 8 ∗ rcPts c (inB c 7) (landVal m 7 c)) -∗  Q u)
      -∗ WP c (onBufs (k0_part21 (F := F)) c w436) Q) := by
  simp only [onBufs, k0_part21_eq_skeleton]
  unfold k0_part21_skel
  simp only [semSignalWord, semWaitWord, Prog.lift, Prog.bind_op, Prog.bind_ret, Prog.pure_eq_ret, wp_deviceId]
  iintro H HQ
  iapply (wait_send m K c 7 (a := 11) (b := 7) (e := 7) rfl rfl (by decide) rfl) $$ H; iintro ⟨H, -⟩
  iapply (wait_recv m K c 7 (a := 11) (b := 8) (e := 7) rfl rfl (by decide) rfl) $$ H; iintro ⟨H, HR⟩
  ihave HR := (got_rs m c (k := 7) (by decide)) $$ HR
  iapply (wait_send m K c 8 (a := 11) (b := 8) (e := 8) rfl rfl (by decide) rfl) $$ H; iintro ⟨H, -⟩
  iapply wp_done; iapply HQ
  isplitl [H]; · iexact H
  iexact HR

theorem part22 {Q} {w433} {w456} {w476} {w1} :
    iprop(St m K c 11 9 8 ∗ acPts c (iv 1 (lo1 c) 1) (B2 m c))
    ⊢ iprop(((St m K c 11 10 10 ∗ rcPts c (inB c 8) (landVal m 8 c) ∗ rcPts c (inB c 9) (landVal m 9 c) ∗ acPts c (iv 1 (lo1 c) 1) (B2 m c)) -∗  Q (k0_pay23 (cut64 1 (lo1 c) (B2 m c))))
      -∗ WP c (onBufs (k0_part22 (F := F)) c w433 w456 w476 w1) Q) := by
  simp only [onBufs, k0_part22_eq_skeleton]
  unfold k0_part22_skel
  simp only [semSignalWord, semWaitWord, Prog.lift, Prog.bind_op, Prog.bind_ret, Prog.pure_eq_ret, wp_deviceId]
  iintro ⟨H, Ha⟩ HQ
  iapply (wait_recv m K c 8 (a := 11) (b := 9) (e := 8) rfl rfl (by decide) rfl) $$ H; iintro ⟨H, HR⟩
  ihave HR := (got_rs m c (k := 8) (by decide)) $$ HR
  iapply (wait_send m K c 9 (a := 11) (b := 9) (e := 9) rfl rfl (by decide) rfl) $$ H; iintro ⟨H, -⟩
  iapply (wait_recv m K c 9 (a := 11) (b := 10) (e := 9) rfl rfl (by decide) rfl) $$ H; iintro ⟨H, HS⟩
  ihave HS := (got_rs m c (k := 9) (by decide)) $$ HS
  iapply (ld_ac_as c (h := 1) (l := lo1 c) (n := 1) (by decide) (by revert c; decide) (off16_eq c) rfl (cut64 1 (lo1 c) (B2 m c)) rfl (by revert c; decide)) $$ Ha; iintro Ha
  iapply wp_done; iapply HQ
  isplitl [H]; · iexact H
  isplitl [HR]; · iexact HR
  isplitl [HS]; · iexact HS
  iexact Ha

theorem part23 {Q} {f} {w3} {w4} {w433} :
    iprop(rcPts c (inB c 7) (landVal m 7 c) ∗ rcPts c (inB c 8) (landVal m 8 c) ∗ rcPts c (inB c 9) (landVal m 9 c) ∗ acPts c (iv 1 (lo1 c) 1) (B2 m c) ∗ whPts c xM (xin m c) ∗ whPts c swM (swin m c) ∗ gtPts c fullShare (iv 1 (lo1 c) 1) f)
    ⊢ iprop((∀ u, (rcPts c (inB c 7) (landVal m 7 c) ∗ rcPts c (inB c 8) (landVal m 8 c) ∗ rcPts c (inB c 9) (landVal m 9 c) ∗ acPts c (iv 1 (lo1 c) 1) (B3 m c) ∗ whPts c xM (xin m c) ∗ whPts c swM (swin m c) ∗ gtPts c fullShare (iv 1 (lo1 c) 1) (GF m)) -∗  Q u)
      -∗ WP c (onBufs (k0_part23 (F := F)) c w3 w4 w433 (k0_pay23 (cut64 1 (lo1 c) (B2 m c)))) Q) := by
  simp only [onBufs, k0_part23_eq_skeleton]
  unfold k0_part23_skel
  simp only [semSignalWord, semWaitWord, Prog.lift, Prog.bind_op, Prog.bind_ret, Prog.pure_eq_ret, wp_deviceId]
  iintro ⟨H7, H8, H9, Ha, Hx, Hw, Hg⟩ HQ
  iapply (ld_rc c (h := 1) (l := 12) (n := 1) (by decide) (by revert c; decide) (rfl) rfl (by revert c; decide)) $$ H9; iintro H9
  iapply (ld_rc c (h := 1) (l := 13) (n := 1) (by decide) (by revert c; decide) (rfl) rfl (by revert c; decide)) $$ H8; iintro H8
  iapply (ld_rc c (h := 1) (l := 14) (n := 1) (by decide) (by revert c; decide) (rfl) rfl (by revert c; decide)) $$ H7; iintro H7
  iapply (ld_ac c (h := 1) (l := lo1 c) (n := 1) (by decide) (by revert c; decide) (off16_eq c) rfl (by revert c; decide)) $$ Ha; iintro Ha
  iapply (st_ac c (h := 1) (l := lo1 c) (n := 1) (by decide) (by revert c; decide) (off16_eq c) rfl (B3 m c) (fun j => (pay24_at _ _ _ _ j).trans (sum24 m c j))) $$ Ha; iintro Ha
  iapply (ld_ac_as c (h := 1) (l := lo1 c) (n := 1) (by decide) (by revert c; decide) (off16_eq c) rfl (cut64 1 (lo1 c) (B3 m c)) rfl (by revert c; decide)) $$ Ha; iintro Ha
  iapply (ld_wh c (xCut m c (lo1 c)) (read_x m c (lo1 c) (by revert c; decide) (off17_eq c) _)) $$ Hx; iintro Hx
  iapply (ld_wh c (swCut m c 1) (read_sw m c 1 rfl _)) $$ Hw; iintro Hw
  iapply (ld_gt c (h := 1) (l := lo1 c) (n := 1) (by decide) (by revert c; decide) (off16_eq c) rfl (by revert c; decide)) $$ Hg; iintro Hg
  iapply (st_gt c (h := 1) (l := lo1 c) (n := 1) (by decide) (by revert c; decide) (off16_eq c) rfl (GF m) (fun j => fin1_at m c j)) $$ Hg; iintro Hg
  iapply wp_done; iapply HQ
  isplitl [H7]; · iexact H7
  isplitl [H8]; · iexact H8
  isplitl [H9]; · iexact H9
  isplitl [Ha]; · iexact Ha
  isplitl [Hx]; · iexact Hx
  isplitl [Hw]; · iexact Hw
  iexact Hg

theorem part24 {Q} {w3} {w4} {w621} :
    iprop(St m K c 11 10 10 ∗ gtPts c fullShare (iv 1 (lo1 c) 1) (GF m))
    ⊢ iprop((∀ u, ∀ u1, (St m K c 13 10 10 ∗ gtPts c (shr 13) (srcB 13 c) (GF m)) -∗  Q ⟨u, u1⟩)
      -∗ WP c (onBufs (k0_part24 (F := F)) c w3 w4 w621) Q) := by
  simp only [onBufs, k0_part24_eq_skeleton]
  unfold k0_part24_skel
  simp only [semSignalWord, semWaitWord, Prog.lift, Prog.bind_op, Prog.bind_ret, Prog.pure_eq_ret, wp_deviceId]
  iintro ⟨H, Hg⟩ HQ
  ihave ⟨G1, G2, G3⟩ := (give24 m c) $$ Hg
  iapply (send_ag m K c 11 (a := 11) (b := 10) (e := 10) rfl (by decide) (by revert c; decide) (by revert c; decide) rfl rfl (dev17_eq c) rfl rfl (by decide)) $$ [H G1]
  · isplitl [H] <;> iassumption
  iintro H
  iapply (send_ag m K c 12 (a := 12) (b := 10) (e := 10) rfl (by decide) (by revert c; decide) (by revert c; decide) rfl rfl (dev18_eq c) rfl rfl (by decide)) $$ [H G2]
  · isplitl [H] <;> iassumption
  iintro H
  iapply wp_done; iapply HQ
  isplitl [H]; · iexact H
  iexact G3

theorem part25 {Q} {w3} {w433} {w534} {w647} :
    iprop(St m K c 13 10 10 ∗ gtPts c (shr 13) (srcB 13 c) (GF m))
    ⊢ iprop((∀ u, (St m K c 14 11 10 ∗ gtPts c (shr 10) (srcB 10 c) (GF m)) -∗  Q u)
      -∗ WP c (onBufs (k0_part25 (F := F)) c w3 w433 w534 w647) Q) := by
  simp only [onBufs, k0_part25_eq_skeleton]
  unfold k0_part25_skel
  simp only [semSignalWord, semWaitWord, Prog.lift, Prog.bind_op, Prog.bind_ret, Prog.pure_eq_ret, wp_deviceId]
  iintro ⟨H, G3⟩ HQ
  iapply (send_ag m K c 13 (a := 13) (b := 10) (e := 10) rfl (by decide) (by revert c; decide) (by revert c; decide) rfl rfl (dev19_eq c) rfl rfl (by decide)) $$ [H G3]
  · isplitl [H] <;> iassumption
  iintro H
  iapply (wait_send m K c 10 (a := 14) (b := 10) (e := 10) rfl rfl (by decide) rfl) $$ H; iintro ⟨H, G1⟩
  ihave G1 := (got_back m c (k := 10) (by decide)) $$ G1
  iapply wp_done; iapply HQ
  isplitl [H]; · iexact H
  iexact G1

theorem part26 {Q} {w2} {w546} :
    iprop(St m K c 14 11 10 ∗ gtPts c (shr 10) (srcB 10 c) (GF m))
    ⊢ iprop((∀ u, (St m K c 15 12 11 ∗ gtPts c (shr 11) (srcB 11 c) (GF m)) -∗  Q u)
      -∗ WP c (onBufs (k0_part26 (F := F)) c w2 w546) Q) := by
  simp only [onBufs, k0_part26_eq_skeleton]
  unfold k0_part26_skel
  simp only [semSignalWord, semWaitWord, Prog.lift, Prog.bind_op, Prog.bind_ret, Prog.pure_eq_ret, wp_deviceId]
  iintro ⟨H, G1⟩ HQ
  iapply (wait_recv m K c 10 (a := 14) (b := 11) (e := 10) rfl rfl (by decide) rfl) $$ H; iintro ⟨H, G2⟩
  ihave G2 := (got_ag m c (k := 10) (by decide)) $$ G2
  ihave Hg := (give26 m c) $$ [G1 G2]
  · isplitl [G1]; · iexact G1
    iexact G2
  iapply (send_ag m K c 14 (a := 14) (b := 11) (e := 11) rfl (by decide) (by revert c; decide) (by revert c; decide) rfl rfl (dev20_eq c) rfl rfl (by decide)) $$ [H Hg]
  · isplitl [H] <;> iassumption
  iintro H
  iapply (wait_send m K c 11 (a := 15) (b := 11) (e := 11) rfl rfl (by decide) rfl) $$ H; iintro ⟨H, G3⟩
  ihave G3 := (got_back m c (k := 11) (by decide)) $$ G3
  iapply wp_done; iapply HQ
  isplitl [H]; · iexact H
  iexact G3

theorem part27 {Q} {w621} {w634} :
    iprop(St m K c 15 12 11)
    ⊢ iprop(((St m K c 15 13 12 ∗ gtPts c fullShare (inB c 11) (GF m) ∗ gtPts c (shr 12) (srcB 12 c) (GF m)) -∗  Q ⟨⟩)
      -∗ WP c (onBufs (k0_part27 (F := F)) c w621 w634) Q) := by
  simp only [onBufs, k0_part27_eq_skeleton]
  unfold k0_part27_skel
  simp only [semSignalWord, semWaitWord, Prog.lift, Prog.bind_op, Prog.bind_ret, Prog.pure_eq_ret, wp_deviceId]
  iintro H HQ
  iapply (wait_recv m K c 11 (a := 15) (b := 12) (e := 11) rfl rfl (by decide) rfl) $$ H; iintro ⟨H, G1⟩
  ihave G1 := (got_ag m c (k := 11) (by decide)) $$ G1
  iapply (wait_send m K c 12 (a := 15) (b := 12) (e := 12) rfl rfl (by decide) rfl) $$ H; iintro ⟨H, G2⟩
  ihave G2 := (got_back m c (k := 12) (by decide)) $$ G2
  iapply wp_done; iapply HQ
  isplitl [H]; · iexact H
  isplitl [G1]; · iexact G1
  iexact G2

theorem part28 {Q} {w2} {w647} :
    iprop(St m K c 15 13 12)
    ⊢ iprop((∀ u, ∀ u1, (St m K c 15 14 14 ∗ gtPts c fullShare (inB c 12) (GF m) ∗ gtPts c (shr 13) (srcB 13 c) (GF m) ∗ gtPts c fullShare (inB c 13) (GF m)) -∗  Q ⟨u, u1⟩)
      -∗ WP c (onBufs (k0_part28 (F := F)) c w2 w647) Q) := by
  simp only [onBufs, k0_part28_eq_skeleton]
  unfold k0_part28_skel
  simp only [semSignalWord, semWaitWord, Prog.lift, Prog.bind_op, Prog.bind_ret, Prog.pure_eq_ret, wp_deviceId]
  iintro H HQ
  iapply (wait_recv m K c 12 (a := 15) (b := 13) (e := 12) rfl rfl (by decide) rfl) $$ H; iintro ⟨H, G1⟩
  ihave G1 := (got_ag m c (k := 12) (by decide)) $$ G1
  iapply (wait_send m K c 13 (a := 15) (b := 13) (e := 13) rfl rfl (by decide) rfl) $$ H; iintro ⟨H, G2⟩
  ihave G2 := (got_back m c (k := 13) (by decide)) $$ G2
  iapply (wait_recv m K c 13 (a := 15) (b := 14) (e := 13) rfl rfl (by decide) rfl) $$ H; iintro ⟨H, G3⟩
  ihave G3 := (got_ag m c (k := 13) (by decide)) $$ G3
  iapply wp_done; iapply HQ
  isplitl [H]; · iexact H
  isplitl [G1]; · iexact G1
  isplitl [G2]; · iexact G2
  iexact G3

theorem part29 {Q} {w659} {w676} {w732} {w733} :
    iprop(St m K c 15 14 14 ∗ gtPts c (shr 11) (srcB 11 c) (GF m) ∗ gtPts c (shr 12) (srcB 12 c) (GF m) ∗ gtPts c (shr 13) (srcB 13 c) (GF m) ∗ gtPts c fullShare (inB c 11) (GF m) ∗ gtPts c fullShare (inB c 12) (GF m) ∗ gtPts c fullShare (inB c 13) (GF m))
    ⊢ iprop(((St m K c 16 15 14 ∗ gtPts c (shr 14) (srcB 14 c) (GF m)) -∗  Q ⟨⟩)
      -∗ WP c (onBufs (k0_part29 (F := F)) c w659 w676 w732 w733) Q) := by
  simp only [onBufs, k0_part29_eq_skeleton]
  unfold k0_part29_skel
  simp only [semSignalWord, semWaitWord, Prog.lift, Prog.bind_op, Prog.bind_ret, Prog.pure_eq_ret, wp_deviceId]
  iintro ⟨H, G1, G2, G3, G4, G5, G6⟩ HQ
  ihave Hg := (give29 m c) $$ [G1 G2 G3 G4 G5 G6]
  · isplitl [G1]; · iexact G1
    isplitl [G2]; · iexact G2
    isplitl [G3]; · iexact G3
    isplitl [G4]; · iexact G4
    isplitl [G5]; · iexact G5
    iexact G6
  iapply (send_ag m K c 15 (a := 15) (b := 14) (e := 14) rfl (by decide) (by revert c; decide) (by revert c; decide) rfl rfl (dev21_eq c) rfl rfl (by decide)) $$ [H Hg]
  · isplitl [H] <;> iassumption
  iintro H
  iapply (wait_send m K c 14 (a := 16) (b := 14) (e := 14) rfl rfl (by decide) rfl) $$ H; iintro ⟨H, G7⟩
  ihave G7 := (got_back m c (k := 14) (by decide)) $$ G7
  iapply wp_done; iapply HQ
  isplitl [H]; · iexact H
  iexact G7

theorem part30 {Q} {w3} {w4} :
    iprop(St m K c 16 15 14 ∗ gtPts c (shr 14) (srcB 14 c) (GF m))
    ⊢ iprop((∀ u, ∀ u1, (St m K c 17 15 15 ∗ gtPts c (shr 17) (srcB 17 c) (GF m) ∗ gtPts c (shr 18) (srcB 18 c) (GF m)) -∗  Q ⟨u, u1⟩)
      -∗ WP c (onBufs (k0_part30 (F := F)) c w3 w4) Q) := by
  simp only [onBufs, k0_part30_eq_skeleton]
  unfold k0_part30_skel
  simp only [semSignalWord, semWaitWord, Prog.lift, Prog.bind_op, Prog.bind_ret, Prog.pure_eq_ret, wp_deviceId]
  iintro ⟨H, G1⟩ HQ
  iapply (wait_recv m K c 14 (a := 16) (b := 15) (e := 14) rfl rfl (by decide) rfl) $$ H; iintro ⟨H, G2⟩
  ihave G2 := (got_ag m c (k := 14) (by decide)) $$ G2
  ihave ⟨G3, G4, G5⟩ := (give30 m c) $$ [G1 G2]
  · isplitl [G1]; · iexact G1
    iexact G2
  iapply (send_ag m K c 16 (a := 16) (b := 15) (e := 15) rfl (by decide) (by revert c; decide) (by revert c; decide) rfl rfl (dev22_eq c) rfl rfl (by decide)) $$ [H G3]
  · isplitl [H] <;> iassumption
  iintro H
  iapply wp_done; iapply HQ
  isplitl [H]; · iexact H
  isplitl [G4]; · iexact G4
  iexact G5

theorem part31 {Q} {w3} {w4} :
    iprop(St m K c 17 15 15 ∗ gtPts c (shr 17) (srcB 17 c) (GF m) ∗ gtPts c (shr 18) (srcB 18 c) (GF m))
    ⊢ iprop((∀ u, (St m K c 19 16 15 ∗ gtPts c (shr 15) (srcB 15 c) (GF m)) -∗  Q u)
      -∗ WP c (onBufs (k0_part31 (F := F)) c w3 w4) Q) := by
  simp only [onBufs, k0_part31_eq_skeleton]
  unfold k0_part31_skel
  simp only [semSignalWord, semWaitWord, Prog.lift, Prog.bind_op, Prog.bind_ret, Prog.pure_eq_ret, wp_deviceId]
  iintro ⟨H, G1, G2⟩ HQ
  iapply (send_ag m K c 17 (a := 17) (b := 15) (e := 15) rfl (by decide) (by revert c; decide) (by revert c; decide) rfl rfl (dev23_eq c) rfl rfl (by decide)) $$ [H G1]
  · isplitl [H] <;> iassumption
  iintro H
  iapply (send_ag m K c 18 (a := 18) (b := 15) (e := 15) rfl (by decide) (by revert c; decide) (by revert c; decide) rfl rfl (dev24_eq c) rfl rfl (by decide)) $$ [H G2]
  · isplitl [H] <;> iassumption
  iintro H
  iapply (wait_send m K c 15 (a := 19) (b := 15) (e := 15) rfl rfl (by decide) rfl) $$ H; iintro ⟨H, G3⟩
  ihave G3 := (got_back m c (k := 15) (by decide)) $$ G3
  iapply wp_done; iapply HQ
  isplitl [H]; · iexact H
  iexact G3

theorem part32 {Q} {w2} {w733} :
    iprop(St m K c 19 16 15 ∗ gtPts c (shr 15) (srcB 15 c) (GF m))
    ⊢ iprop((∀ u, (St m K c 20 16 16) -∗  Q u)
      -∗ WP c (onBufs (k0_part32 (F := F)) c w2 w733) Q) := by
  simp only [onBufs, k0_part32_eq_skeleton]
  unfold k0_part32_skel
  simp only [semSignalWord, semWaitWord, Prog.lift, Prog.bind_op, Prog.bind_ret, Prog.pure_eq_ret, wp_deviceId]
  iintro ⟨H, G1⟩ HQ
  iapply (wait_recv m K c 15 (a := 19) (b := 16) (e := 15) rfl rfl (by decide) rfl) $$ H; iintro ⟨H, G2⟩
  ihave G2 := (got_ag m c (k := 15) (by decide)) $$ G2
  ihave Hg := (give32 m c) $$ [G1 G2]
  · isplitl [G1]; · iexact G1
    iexact G2
  iapply (send_ag m K c 19 (a := 19) (b := 16) (e := 16) rfl (by decide) (by revert c; decide) (by revert c; decide) rfl rfl (dev25_eq c) rfl rfl (by decide)) $$ [H Hg]
  · isplitl [H] <;> iassumption
  iintro H
  iapply wp_done; iapply HQ
  iexact H

theorem part33 {Q} {w762} {w775} :
    iprop(St m K c 20 16 16)
    ⊢ iprop((∀ u, ∀ u1, (St m K c 20 18 17 ∗ gtPts c (shr 16) (srcB 16 c) (GF m) ∗ gtPts c fullShare (inB c 16) (GF m) ∗ gtPts c (shr 17) (srcB 17 c) (GF m)) -∗  Q ⟨u, u1⟩)
      -∗ WP c (onBufs (k0_part33 (F := F)) c w762 w775) Q) := by
  simp only [onBufs, k0_part33_eq_skeleton]
  unfold k0_part33_skel
  simp only [semSignalWord, semWaitWord, Prog.lift, Prog.bind_op, Prog.bind_ret, Prog.pure_eq_ret, wp_deviceId]
  iintro H HQ
  iapply (wait_send m K c 16 (a := 20) (b := 16) (e := 16) rfl rfl (by decide) rfl) $$ H; iintro ⟨H, G1⟩
  ihave G1 := (got_back m c (k := 16) (by decide)) $$ G1
  iapply (wait_recv m K c 16 (a := 20) (b := 17) (e := 16) rfl rfl (by decide) rfl) $$ H; iintro ⟨H, G2⟩
  ihave G2 := (got_ag m c (k := 16) (by decide)) $$ G2
  iapply (wait_send m K c 17 (a := 20) (b := 17) (e := 17) rfl rfl (by decide) rfl) $$ H; iintro ⟨H, G3⟩
  ihave G3 := (got_back m c (k := 17) (by decide)) $$ G3
  iapply wp_done; iapply HQ
  isplitl [H]; · iexact H
  isplitl [G1]; · iexact G1
  isplitl [G2]; · iexact G2
  iexact G3

theorem part34 {Q} {w788} {w844} {w0} :
    iprop(St m K c 20 18 17)
    ⊢ iprop(((St m K c 20 19 19 ∗ gtPts c fullShare (inB c 17) (GF m) ∗ gtPts c (shr 18) (srcB 18 c) (GF m) ∗ gtPts c fullShare (inB c 18) (GF m)) -∗  Q ⟨⟩)
      -∗ WP c (onBufs (k0_part34 (F := F)) c w788 w844 w0) Q) := by
  simp only [onBufs, k0_part34_eq_skeleton]
  unfold k0_part34_skel
  simp only [semSignalWord, semWaitWord, Prog.lift, Prog.bind_op, Prog.bind_ret, Prog.pure_eq_ret, wp_deviceId]
  iintro H HQ
  iapply (wait_recv m K c 17 (a := 20) (b := 18) (e := 17) rfl rfl (by decide) rfl) $$ H; iintro ⟨H, G1⟩
  ihave G1 := (got_ag m c (k := 17) (by decide)) $$ G1
  iapply (wait_send m K c 18 (a := 20) (b := 18) (e := 18) rfl rfl (by decide) rfl) $$ H; iintro ⟨H, G2⟩
  ihave G2 := (got_back m c (k := 18) (by decide)) $$ G2
  iapply (wait_recv m K c 18 (a := 20) (b := 19) (e := 18) rfl rfl (by decide) rfl) $$ H; iintro ⟨H, G3⟩
  ihave G3 := (got_ag m c (k := 18) (by decide)) $$ G3
  iapply wp_done; iapply HQ
  isplitl [H]; · iexact H
  isplitl [G1]; · iexact G1
  isplitl [G2]; · iexact G2
  iexact G3

theorem part35 {Q} {f} {w3} {w4} {w813} :
    iprop(St m K c 20 19 19 ∗ gtPts c (shr 16) (srcB 16 c) (GF m) ∗ gtPts c (shr 17) (srcB 17 c) (GF m) ∗ gtPts c (shr 18) (srcB 18 c) (GF m) ∗ gtPts c fullShare (inB c 16) (GF m) ∗ gtPts c fullShare (inB c 17) (GF m) ∗ gtPts c fullShare (inB c 18) (GF m) ∗ whPts c outM f)
    ⊢ iprop((∀ u, ∀ u1, (St m K c 20 20 20 ∗ gtPts c fullShare (iv 0 (0) 16) (GF m) ∗ gtPts c fullShare (iv 1 (0) 16) (GF m) ∗ whPts c outM (outVal m)) -∗  Q ⟨u, u1⟩)
      -∗ WP c (onBufs (k0_part35 (F := F)) c w3 w4 w813) Q) := by
  simp only [onBufs, k0_part35_eq_skeleton]
  unfold k0_part35_skel
  simp only [semSignalWord, semWaitWord, Prog.lift, Prog.bind_op, Prog.bind_ret, Prog.pure_eq_ret, wp_deviceId]
  iintro ⟨H, G1, G2, G3, G4, G5, G6, Ho⟩ HQ
  ihave Hg := (give35a m c) $$ [G1 G2 G3 G4 G5 G6]
  · isplitl [G1]; · iexact G1
    isplitl [G2]; · iexact G2
    isplitl [G3]; · iexact G3
    isplitl [G4]; · iexact G4
    isplitl [G5]; · iexact G5
    iexact G6
  iapply (wait_send m K c 19 (a := 20) (b := 19) (e := 19) rfl rfl (by decide) rfl) $$ H; iintro ⟨H, G1⟩
  ihave G1 := (got_back m c (k := 19) (by decide)) $$ G1
  iapply (wait_recv m K c 19 (a := 20) (b := 20) (e := 19) rfl rfl (by decide) rfl) $$ H; iintro ⟨H, G2⟩
  ihave G2 := (got_ag m c (k := 19) (by decide)) $$ G2
  ihave Hh := (give35b m c) $$ [G1 G2]
  · isplitl [G1]; · iexact G1
    iexact G2
  iapply (ld_gt_as c (h := 0) (l := 0) (n := 16) (by decide) (by decide) (rfl) rfl (chunkF m 0) rfl (by decide)) $$ Hg; iintro Hg
  iapply (ld_wh c _ rfl) $$ Ho; iintro Ho
  iapply (st_wh c _ rfl) $$ Ho; iintro Ho
  iapply (ld_gt_as c (h := 1) (l := 0) (n := 16) (by decide) (by decide) (rfl) rfl (chunkF m 1) rfl (by decide)) $$ Hh; iintro Hh
  iapply (ld_wh c _ rfl) $$ Ho; iintro Ho
  iapply (st_wh c (outVal m) (out_eq m _ rfl rfl _ _)) $$ Ho; iintro Ho
  iapply wp_done; iapply HQ
  isplitl [H]; · iexact H
  isplitl [Hg]; · iexact Hg
  isplitl [Hh]; · iexact Hh
  iexact Ho

end Cert.Moe
end
-- ==== Proof.Body.lean ====
/- The whole body on one device, from what the launch hands it to what it leaves. -/
module

public import proofs.«01_k».proof.Proof.PartsC

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 74 → ℕ)

variable (c : Dev nD)

theorem wp_seq {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by rw [show WP c (p >>= k) Q = WP c p (fun a => WP c (k a) Q) by unfold WP; rw [wp_bind]]

theorem say_done {Q : PUnit → sProp 𝕄} (p : Fin 5) {s : ℕ} (hp : p.val = s) {n : Dev nD} (hn : n = partner p c) {sem : Sem sig} (hsem : sem = barT) :
    Post m K c s ⊢ iprop((Post m K c (s + 1) -∗ Q ⟨⟩) -∗ WP c (semSignalWord n sem 1#32) Q) := by
  unfold semSignalWord
  iintro H HQ
  iapply (sig_done m K c p hp hn hsem) $$ H; iintro H
  iapply wp_done; iapply HQ; iexact H

theorem hear_done {Q : PUnit → sProp 𝕄} {sem : Sem sig} (hsem : sem = barT) {b e : ℕ} :
    iprop(Post m K c 5 ∗ poss (F := F) c 1 b e ∗ cred (tallyAt (doneCell c) () 5))
      ⊢ iprop(((∃ W, owes (c : Thread nD τ) 0 W) ∗ recs m K ∗ poss (F := F) c 2 b e -∗ Q ⟨⟩) -∗ WP c (semWaitWord sem 5#32) Q) := by
  unfold semWaitWord
  iintro H HQ
  iapply (wait_done m K c hsem) $$ H; iintro H
  iapply wp_done; iapply HQ; iexact H

/-- What is left of the state after the last copy. -/
theorem st_end : iprop(St m K c 20 20 20 ∗ bigSep (Finset.univ : Finset (Fin 5)) fun p => dutyTok ER (doneCell (partner p c)) 0 p)
    ⊢ iprop(Post m K c 0 ∗ bigSep Finset.univ (spent (F := F) c) ∗ poss (F := F) c 1 20 20) := by
  unfold St Post
  rw [rng_univ, rng_univ]
  iintro ⟨⟨#HR, Hd, -, -, -, Hs, Hp⟩, Ht⟩
  isplitl [Hd Ht]
  · isplitr; · iexact HR
    isplitl [Hd] <;> iassumption
  isplitl [Hs] <;> iassumption

/-- What a device's body starts with, its buffers apart. -/
def enter : sProp 𝕄 :=
  iprop(Pre m K c 0 ∗ poss (F := F) c 0 0 0 ∗ cred (tallyAt (barCell c) () 5) ∗ toks (F := F) c ∗ bigSep (Finset.univ : Finset (Fin 20)) (credR (F := F) c)
    ∗ cred (tallyAt (doneCell c) () 5) ∗ bigSep (Finset.univ : Finset (Fin 5)) fun p => dutyTok ER (doneCell (partner p c)) 0 p)
/-- The regions it still has of its own buffers, whatever they hold. -/
def ownRegs : sProp 𝕄 :=
  iprop((∃ f, acPts (F := F) c (iv 0 0 16) f) ∗ (∃ f, acPts (F := F) c (iv 1 0 16) f)
    ∗ (∃ f, gtPts (F := F) c fullShare (iv 0 (lo0 c) 1) f) ∗ (∃ f, gtPts (F := F) c fullShare (iv 1 (lo1 c) 1) f) ∗ (∃ f, whPts (F := F) c pM f))
/-- The inputs, as fetched. -/
def inputs : sProp 𝕄 :=
  iprop(whPts c xM (xin m c) ∗ whPts c rwM (rwin m c) ∗ whPts c ixM (idxin m c) ∗ whPts c ewM (ewin m c) ∗ whPts c swM (swin m c))
/-- The regions it has at the end. -/
def endRegs : sProp 𝕄 :=
  iprop(bigSep Finset.univ (spent (F := F) c) ∗ acPts c (iv 0 (lo0 c) 1) (A3 m c) ∗ acPts c (iv 1 (lo1 c) 1) (B3 m c)
    ∗ (rcPts c (inB c 0) (landVal m 0 c) ∗ rcPts c (inB c 1) (landVal m 1 c) ∗ rcPts c (inB c 2) (landVal m 2 c) ∗ rcPts c (inB c 3) (landVal m 3 c) ∗ rcPts c (inB c 4) (landVal m 4 c)
      ∗ rcPts c (inB c 5) (landVal m 5 c) ∗ rcPts c (inB c 6) (landVal m 6 c) ∗ rcPts c (inB c 7) (landVal m 7 c) ∗ rcPts c (inB c 8) (landVal m 8 c) ∗ rcPts c (inB c 9) (landVal m 9 c))
    ∗ gtPts c fullShare (iv 0 0 16) (GF m) ∗ gtPts c fullShare (iv 1 0 16) (GF m) ∗ whPts c pM (prob m c))
/-- What its body ends with. -/
def leave : sProp 𝕄 :=
  iprop((∃ W, owes (c : Thread nD τ) 0 W) ∗ recs m K ∗ poss (F := F) c 2 20 20 ∗ inputs m c ∗ whPts c outM (outVal m) ∗ endRegs m c)

theorem all_parts {Q} {fo} :
    iprop(enter m K c ∗ ownRegs (F := F) c ∗ inputs m c ∗ whPts c outM fo)
    ⊢ iprop((∀ u, ∀ u1, ∀ u2, (Post m K c 2 ∗ poss (F := F) c 1 20 20 ∗ cred (tallyAt (doneCell c) () 5) ∗ inputs m c ∗ whPts c outM (outVal m) ∗ endRegs m c) -∗ Q ⟨c, u, u1, u2⟩)
      -∗ WP c (onBufs (k0_part36 (F := F))) Q) := by
  simp only [onBufs, k0_part36_eq_skeleton]
  unfold k0_part36_skel enter ownRegs inputs endRegs
  iintro ⟨⟨H, Hpos, Hcb, Ht, HcR, Hcd, Htd⟩, ⟨⟨%fa0, Ha0⟩, ⟨%fa1, Ha1⟩, ⟨%fg0, Hg0⟩, ⟨%fg1, Hg1⟩, ⟨%f9, H9⟩⟩, ⟨Hx, Hrw, Hix, He, Hsw⟩, Ho⟩ HQ
  iapply wp_seq
  iapply (part1 m K c) $$ H
  iintro %w3 %w4 H
  iapply wp_seq
  iapply (part2 m K c) $$ [H Hpos Hcb Ht HcR Hx Hrw Hix H9]
  · skip
    isplitl [H]; · iexact H
    isplitl [Hpos]; · iexact Hpos
    isplitl [Hcb]; · iexact Hcb
    isplitl [Ht]; · iexact Ht
    isplitl [HcR]; · iexact HcR
    isplitl [Hx]; · iexact Hx
    isplitl [Hrw]; · iexact Hrw
    isplitl [Hix]; · iexact Hix
    iexact H9
  iintro %w54 %w55 ⟨H, Hx, Hrw, Hix, H9⟩
  iapply wp_seq
  iapply (part3 m c) $$ [He H9]
  · skip
    isplitl [He]; · iexact He
    iexact H9
  iintro ⟨He, H9⟩
  iapply wp_seq
  iapply (part4 m c) $$ [He H9 Ha0]
  · skip
    isplitl [He]; · iexact He
    isplitl [H9]; · iexact H9
    iexact Ha0
  iintro %w113 %w116 ⟨He, H9, Ha0⟩
  ihave ⟨S0, S1, S2, Ha0⟩ := (cut5 m c) $$ Ha0
  iapply wp_seq
  iapply (part5 m K c) $$ [H S0 S1]
  · skip
    isplitl [H]; · iexact H
    isplitl [S0]; · iexact S0
    iexact S1
  iintro %w136 %w155 %w156 %w159 H
  iapply wp_seq
  iapply (part6 m K c) $$ [H S2 He H9]
  · skip
    isplitl [H]; · iexact H
    isplitl [S2]; · iexact S2
    isplitl [He]; · iexact He
    iexact H9
  iintro ⟨H, He, H9⟩
  iapply wp_seq
  iapply (part7 m c) $$ [He H9]
  · skip
    isplitl [He]; · iexact He
    iexact H9
  iintro ⟨He, H9⟩
  iapply wp_seq
  iapply (part8 m K c) $$ [H Ha1]
  · skip
    isplitl [H]; · iexact H
    iexact Ha1
  iintro %w236 %w237 ⟨H, Ha1⟩
  iapply wp_seq
  iapply (part9 m K c) $$ H
  iintro ⟨H, R0⟩
  iapply wp_seq
  iapply (part10 m K c) $$ H
  iintro ⟨H, R1, R2⟩
  iapply wp_seq
  iapply (part11 m c) $$ [R0 R1 R2 Ha0]
  · skip
    isplitl [R0]; · iexact R0
    isplitl [R1]; · iexact R1
    isplitl [R2]; · iexact R2
    iexact Ha0
  iintro %w312 %w313 ⟨R0, R1, R2, Ha0⟩
  iapply wp_seq
  iapply (part12 m K c) $$ [H Ha0 Ha1]
  · skip
    isplitl [H]; · iexact H
    isplitl [Ha0]; · iexact Ha0
    iexact Ha1
  iintro ⟨H, R3, Ha0, Ha1⟩
  iapply wp_seq
  iapply (part13 m K c) $$ [H R3 Ha1]
  · skip
    isplitl [H]; · iexact H
    isplitl [R3]; · iexact R3
    iexact Ha1
  iintro %w354 %w355 ⟨H, R3, Ha1⟩
  iapply wp_seq
  iapply (part14 m K c) $$ [H Ha0]
  · skip
    isplitl [H]; · iexact H
    iexact Ha0
  iintro %w391 %w392 ⟨H, R4, Ha0⟩
  iapply wp_seq
  iapply (part15 m K c) $$ [H Ha0]
  · skip
    isplitl [H]; · iexact H
    iexact Ha0
  iintro %w396 %w397 ⟨H, Ha0⟩
  iapply wp_seq
  iapply (part16 m K c) $$ [H Ha1]
  · skip
    isplitl [H]; · iexact H
    iexact Ha1
  iintro %w433 %w436 ⟨H, R5, Ha1⟩
  ihave ⟨S7, S8, S9, Ha1⟩ := (cut17 m c) $$ Ha1
  iapply wp_seq
  iapply (part17 m K c) $$ [H S7]
  · skip
    isplitl [H]; · iexact H
    iexact S7
  iintro %w456 H
  iapply wp_seq
  iapply (part18 m K c) $$ [H S8 S9]
  · skip
    isplitl [H]; · iexact H
    isplitl [S8]; · iexact S8
    iexact S9
  iintro %w476 H
  iapply wp_seq
  iapply (part19 m K c) $$ [H Ha0 Hx]
  · skip
    isplitl [H]; · iexact H
    isplitl [Ha0]; · iexact Ha0
    iexact Hx
  iintro ⟨H, R6, Ha0, Hx⟩
  iapply wp_seq
  iapply (part20 m K c) $$ [H Hg0 Hsw]
  · skip
    isplitl [H]; · iexact H
    isplitl [Hg0]; · iexact Hg0
    iexact Hsw
  iintro %w534 %w546 ⟨H, Hsw⟩
  iapply wp_seq
  iapply (part21 m K c) $$ H
  iintro %w1 ⟨H, R7⟩
  iapply wp_seq
  iapply (part22 m K c) $$ [H Ha1]
  · skip
    isplitl [H]; · iexact H
    iexact Ha1
  iintro ⟨H, R8, R9, Ha1⟩
  iapply wp_seq
  iapply (part23 m c) $$ [R7 R8 R9 Ha1 Hx Hsw Hg1]
  · skip
    isplitl [R7]; · iexact R7
    isplitl [R8]; · iexact R8
    isplitl [R9]; · iexact R9
    isplitl [Ha1]; · iexact Ha1
    isplitl [Hx]; · iexact Hx
    isplitl [Hsw]; · iexact Hsw
    iexact Hg1
  iintro %w621 ⟨R7, R8, R9, Ha1, Hx, Hsw, Hg1⟩
  iapply wp_seq
  iapply (part24 m K c) $$ [H Hg1]
  · skip
    isplitl [H]; · iexact H
    iexact Hg1
  iintro %w634 %w647 ⟨H, G13⟩
  iapply wp_seq
  iapply (part25 m K c) $$ [H G13]
  · skip
    isplitl [H]; · iexact H
    iexact G13
  iintro %w659 ⟨H, G10⟩
  iapply wp_seq
  iapply (part26 m K c) $$ [H G10]
  · skip
    isplitl [H]; · iexact H
    iexact G10
  iintro %w676 ⟨H, G11⟩
  iapply wp_seq
  iapply (part27 m K c) $$ H
  iintro ⟨H, I11, G12⟩
  iapply wp_seq
  iapply (part28 m K c) $$ H
  iintro %w732 %w733 ⟨H, I12, G13, I13⟩
  iapply wp_seq
  iapply (part29 m K c) $$ [H G11 G12 G13 I11 I12 I13]
  · skip
    isplitl [H]; · iexact H
    isplitl [G11]; · iexact G11
    isplitl [G12]; · iexact G12
    isplitl [G13]; · iexact G13
    isplitl [I11]; · iexact I11
    isplitl [I12]; · iexact I12
    iexact I13
  iintro ⟨H, G14⟩
  iapply wp_seq
  iapply (part30 m K c) $$ [H G14]
  · skip
    isplitl [H]; · iexact H
    iexact G14
  iintro %w762 %w775 ⟨H, G17, G18⟩
  iapply wp_seq
  iapply (part31 m K c) $$ [H G17 G18]
  · skip
    isplitl [H]; · iexact H
    isplitl [G17]; · iexact G17
    iexact G18
  iintro %w788 ⟨H, G15⟩
  iapply wp_seq
  iapply (part32 m K c) $$ [H G15]
  · skip
    isplitl [H]; · iexact H
    iexact G15
  iintro %w813 H
  iapply wp_seq
  iapply (part33 m K c) $$ H
  iintro %w844 %w0 ⟨H, G16, I16, G17⟩
  iapply wp_seq
  iapply (part34 m K c) $$ H
  iintro ⟨H, I17, G18, I18⟩
  iapply wp_seq
  iapply (part35 m K c) $$ [H G16 G17 G18 I16 I17 I18 Ho]
  · skip
    isplitl [H]; · iexact H
    isplitl [G16]; · iexact G16
    isplitl [G17]; · iexact G17
    isplitl [G18]; · iexact G18
    isplitl [I16]; · iexact I16
    isplitl [I17]; · iexact I17
    isplitl [I18]; · iexact I18
    iexact Ho
  iintro %w889 %w2 ⟨H, Hh0, Hh1, Ho⟩
  ihave ⟨H, Hsp, Hpos⟩ := (st_end m K c) $$ [H Htd]
  · isplitl [H] <;> iassumption
  iapply wp_seq
  iapply (say_done m K c (s := 0) 0 rfl (dev26_eq c) rfl) $$ H; iintro H
  iapply wp_seq
  iapply (say_done m K c (s := 1) 1 rfl (dev27_eq c) rfl) $$ H; iintro H
  iapply wp_done; iapply HQ
  isplitl [H]; · iexact H
  isplitl [Hpos]; · iexact Hpos
  isplitl [Hcd]; · iexact Hcd
  isplitl [Hx Hrw Hix He Hsw]
  · skip
    isplitl [Hx]; · iexact Hx
    isplitl [Hrw]; · iexact Hrw
    isplitl [Hix]; · iexact Hix
    isplitl [He]; · iexact He
    iexact Hsw
  isplitl [Ho]; · iexact Ho
  isplitl [Hsp]; · iexact Hsp
  isplitl [Ha0]; · iexact Ha0
  isplitl [Ha1]; · iexact Ha1
  isplitl [R0 R1 R2 R3 R4 R5 R6 R7 R8 R9]
  · skip
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  isplitl [Hh0]; · iexact Hh0
  isplitl [Hh1]; · iexact Hh1
  iexact H9

/-- The body. -/
theorem whole_body {Q} {fo} :
    iprop(enter m K c ∗ ownRegs (F := F) c ∗ inputs m c ∗ whPts c outM fo) ⊢ iprop((leave m K c -∗ Q ⟨⟩) -∗ WP c (onBufs (cc0_body (F := F))) Q) := by
  simp only [onBufs, cc0_body_eq_skeleton]
  unfold cc0_body_skel leave
  iintro H HQ
  iapply wp_seq
  iapply (all_parts m K c) $$ H
  iintro %u %u1 %u2 ⟨H, Hpos, Hcd, Hin, Ho, Hr⟩
  iapply wp_seq
  iapply (say_done m K c (s := 2) 2 rfl (dev28_eq c) rfl) $$ H; iintro H
  iapply wp_seq
  iapply (say_done m K c (s := 3) 3 rfl (dev29_eq c) rfl) $$ H; iintro H
  iapply wp_seq
  iapply (say_done m K c (s := 4) 4 rfl (dev30_eq c) rfl) $$ H; iintro H
  iapply wp_seq
  iapply (hear_done m K c rfl (b := 20) (e := 20)) $$ [H Hpos Hcd]
  · isplitl [H]; · iexact H
    isplitl [Hpos] <;> iassumption
  iintro ⟨HO, HR, Hpos⟩
  iapply wp_done; iapply HQ
  isplitl [HO]; · iexact HO
  isplitl [HR]; · iexact HR
  isplitl [Hpos]; · iexact Hpos
  isplitl [Hin]; · iexact Hin
  isplitl [Ho] <;> iassumption

end Cert.Moe
end
-- ==== Proof.Rooms.lean ====
/-
  The regions of the scratch buffers at the two ends of the body: how a device's scratch is cut into the landing regions
  it hands out and the regions it keeps, and how they come back together.
-/
module

public import proofs.«01_k».proof.Proof.Body

@[expose] public section
noncomputable section
namespace Cert.Moe
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : Dev nD × Fin 74 → ℕ)

/-! ### The rooms handed out -/

/-- The rooms of a device, sorted by the round of the handshake that hands them out. -/
theorem rooms_by_round (c : Dev nD) :
    (bigSep Finset.univ (room (F := F) c) : sProp 𝕄) = bigSep Finset.univ fun p : Fin 5 => barPay (F := F) (partner p c) p := by
  rw [bigSep_fiberwise Finset.univ (fun k : Fin 20 => back (peerIx k)) (room c),
    show Finset.univ.image (fun k : Fin 20 => back (peerIx k)) = Finset.univ from by decide]
  refine bigSep_congr fun p _ => ?_
  unfold barPay
  refine bigSep_congr fun k hk => ?_
  have h : peer k (partner p c) = c := by rw [← (Finset.mem_filter.mp hk).2]; exact partner_back _ _
  rw [h]

theorem pre_intro (c : Dev nD) :
    iprop(recs m K ∗ debts c 0 0 0 ∗ (bigSep Finset.univ fun p : Fin 5 => dutyTok ER (barCell (partner p c)) 0 p) ∗ bigSep Finset.univ (room (F := F) c))
      ⊢ Pre m K c 0 := by
  unfold Pre
  rw [rng_univ, bigSep_sep', rooms_by_round]

/-! ### Cutting the landing buffers -/

theorem rc_some (c : Dev nD) (B : Finset (Fin 32)) (f : BIx → Elt F .f32) : (rcPts c B f : sProp 𝕄) ⊢ iprop(∃ f, rcPts (F := F) c B f) := by
  iintro H; iexists f; iexact H
theorem gt_some (c : Dev nD) (B : Finset (Fin 32)) (f : BIx → Elt F .f32) : (gtPts c fullShare B f : sProp 𝕄) ⊢ iprop(∃ f, gtPts (F := F) c fullShare B f) := by
  iintro H; iexists f; iexact H
theorem pts_none {ℓ : Loc nD τ sig} (f : Buf (Elt F) ℓ) : (BI.emp : sProp 𝕄) ⊢ iprop(∃ f, ℓ ↦[∅]{fullShare} f) := by
  have h : (BI.emp : sProp 𝕄) ⊢ (ℓ ↦[∅]{fullShare} f : sProp 𝕄) := Entails.of_eq (pointsTo_empty (f := f)).symm
  refine h.trans ?_
  iintro H; iexists f; iexact H

theorem rc_parts (c : Dev nD) : (Finset.univ : Finset (Fin 32)) = (rng 0 10 : Finset (Fin 20)).biUnion (inB c) ∪ {15, 31}
    ∧ Disjoint ((rng 0 10 : Finset (Fin 20)).biUnion (inB c)) {15, 31} := by revert c; decide +kernel
theorem gt_parts (c : Dev nD) : (Finset.univ : Finset (Fin 32)) = (rng 10 20 : Finset (Fin 20)).biUnion (inB c) ∪ (iv 0 (lo0 c) 1 ∪ iv 1 (lo1 c) 1)
    ∧ Disjoint ((rng 10 20 : Finset (Fin 20)).biUnion (inB c)) (iv 0 (lo0 c) 1 ∪ iv 1 (lo1 c) 1) := by revert c; decide +kernel
theorem own_parts (c : Dev nD) : iv 0 (lo0 c) 1 ∪ iv 1 (lo1 c) 1 = iv 0 (lo0 c) 1 ∪ iv 1 (lo1 c) 1 ∧ Disjoint (iv 0 (lo0 c) 1) (iv 1 (lo1 c) 1) := by
  revert c; decide +kernel
theorem rc_apart (c : Dev nD) : ∀ k ∈ (rng 0 10 : Finset (Fin 20)), ∀ k' ∈ (rng 0 10 : Finset (Fin 20)), k ≠ k' → Disjoint (inB c k) (inB c k') := by
  revert c; decide +kernel
theorem gt_apart (c : Dev nD) : ∀ k ∈ (rng 10 20 : Finset (Fin 20)), ∀ k' ∈ (rng 10 20 : Finset (Fin 20)), k ≠ k' → Disjoint (inB c k) (inB c k') := by
  revert c; decide +kernel
theorem halves : (Finset.univ : Finset (Fin 32)) = iv 0 0 16 ∪ iv 1 0 16 ∧ Disjoint (iv 0 0 16) (iv 1 0 16) := by decide +kernel

theorem rc_rooms (c : Dev nD) (f : BIx → Elt F .f32) :
    (rcPts c Finset.univ f : sProp 𝕄) ⊢ iprop((bigSep (rng 0 10) (room (F := F) c)) ∗ ∃ f, rcPts (F := F) c {15, 31} f) := by
  refine (rc_cut c (rc_parts c)).1.trans (BIClass.sep_mono ?_ ?_)
  · unfold rcPts
    rw [blk_biUnion, pointsTo_biUnion (ℓ := ((c : Thread nD τ).loc cc0_scratch1)) (rng 0 10) (fun k => blk (inB c k)) (fun k hk k' hk' hne => blk_disjoint (rc_apart c k hk k' hk' hne))]
    refine bigSep_mono fun k hk => ?_
    exact (rc_some c (inB c k) f).trans (Entails.of_eq (if_pos (by simpa [rng] using hk)).symm)
  · iintro H; iexists f; iexact H

theorem gt_rooms (c : Dev nD) (f : BIx → Elt F .f32) :
    (gtPts c fullShare Finset.univ f : sProp 𝕄)
      ⊢ iprop((bigSep (rng 10 20) (room (F := F) c)) ∗ (∃ f, gtPts (F := F) c fullShare (iv 0 (lo0 c) 1) f) ∗ ∃ f, gtPts (F := F) c fullShare (iv 1 (lo1 c) 1) f) := by
  refine (gt_cut c (gt_parts c)).1.trans (BIClass.sep_mono ?_ ?_)
  · unfold gtPts
    rw [blk_biUnion, pointsTo_biUnion (ℓ := ((c : Thread nD τ).loc cc0_scratch2)) (rng 10 20) (fun k => blk (inB c k)) (fun k hk k' hk' hne => blk_disjoint (gt_apart c k hk k' hk' hne))]
    refine bigSep_mono fun k hk => ?_
    have hk' : 10 ≤ k.val := by
      have := hk; simp [rng] at this; omega
    exact (gt_some c (inB c k) f).trans (Entails.of_eq (if_neg (by omega)).symm)
  · refine (gt_cut c (own_parts c)).1.trans ?_
    iintro ⟨H, H'⟩
    isplitl [H]
    · iexists f; iexact H
    iexists f; iexact H'

theorem all_rooms (c : Dev nD) :
    iprop((bigSep (rng 0 10) (room (F := F) c)) ∗ bigSep (rng 10 20) (room (F := F) c)) ⊢ (bigSep Finset.univ (room (F := F) c) : sProp 𝕄) := by
  refine Entails.of_eq ((bigSep_union (show Disjoint (rng 0 10 : Finset (Fin 20)) (rng 10 20) by decide)).symm.trans ?_)
  rw [show (rng 0 10 : Finset (Fin 20)) ∪ rng 10 20 = Finset.univ by decide]

/-- A device's scratch buffers at the start. -/
theorem regs_in (c : Dev nD) :
    iprop((∃ f, acPts (F := F) c Finset.univ f) ∗ (∃ f, rcPts (F := F) c Finset.univ f) ∗ (∃ f, gtPts (F := F) c fullShare Finset.univ f) ∗ ∃ f, whPts (F := F) c pM f)
      ⊢ iprop(bigSep Finset.univ (room (F := F) c) ∗ ownRegs c ∗ ∃ f, rcPts (F := F) c {15, 31} f) := by
  iintro ⟨⟨%fa, Ha⟩, ⟨%fr, Hr⟩, ⟨%fg, Hg⟩, Hp⟩
  ihave Ha' := (ac_cut c halves).1 $$ Ha
  icases Ha' with ⟨Ha0, Ha1⟩
  ihave Hr' := (rc_rooms c fr) $$ Hr
  icases Hr' with ⟨Hr0, Hr1⟩
  ihave Hg' := (gt_rooms c fg) $$ Hg
  icases Hg' with ⟨Hg0, Hg1, Hg2⟩
  isplitl [Hr0 Hg0]
  · iapply (all_rooms c)
    isplitl [Hr0]; · iexact Hr0
    iexact Hg0
  isplitr [Hr1]
  · unfold ownRegs
    isplitl [Ha0]
    · iexists fa; iexact Ha0
    isplitl [Ha1]
    · iexists fa; iexact Ha1
    isplitl [Hg1]; · iexact Hg1
    isplitl [Hg2]; · iexact Hg2
    iexact Hp
  iexact Hr1

/-! ### Gathering them back -/

theorem ac_apart (c : Dev nD) : ∀ k ∈ (rng 0 10 : Finset (Fin 20)), ∀ k' ∈ (rng 0 10 : Finset (Fin 20)), k ≠ k' → Disjoint (srcB k c) (srcB k' c) := by
  revert c; decide +kernel
theorem ac_parts (c : Dev nD) : (Finset.univ : Finset (Fin 32)) = (rng 0 10 : Finset (Fin 20)).biUnion (fun k => srcB k c) ∪ (iv 0 (lo0 c) 1 ∪ iv 1 (lo1 c) 1)
    ∧ Disjoint ((rng 0 10 : Finset (Fin 20)).biUnion fun k => srcB k c) (iv 0 (lo0 c) 1 ∪ iv 1 (lo1 c) 1) := by revert c; decide +kernel

theorem blk_none : blk ∅ = ∅ := by unfold blk; ext i; simp

theorem ac_gather (c : Dev nD) (S : Finset (Fin 20)) (g : Fin 20 → Finset (Fin 32)) (f₀ : BIx → Elt F .f32)
    (h : ∀ k ∈ S, ∀ k' ∈ S, k ≠ k' → Disjoint (g k) (g k')) :
    (bigSep S fun k => iprop(∃ f, acPts (F := F) c (g k) f) : sProp 𝕄) ⊢ iprop(∃ f, acPts (F := F) c (S.biUnion g) f) := by
  induction S using Finset.induction_on with
  | empty =>
    rw [bigSep_empty, Finset.biUnion_empty]
    unfold acPts
    rw [blk_none]
    exact pts_none (ℓ := ((c : Thread nD τ).loc cc0_scratch0)) f₀
  | insert a s ha ih =>
    rw [bigSep_insert ha, Finset.biUnion_insert]
    refine (sep_mono_right (ih fun k hk k' hk' => h k (Finset.mem_insert_of_mem hk) k' (Finset.mem_insert_of_mem hk'))).trans ?_
    refine ac_glue c ⟨rfl, ?_⟩
    rw [Finset.disjoint_biUnion_right]
    exact fun k hk => h a (Finset.mem_insert_self _ _) k (Finset.mem_insert_of_mem hk) fun e => ha (e ▸ hk)

theorem rc_gather (c : Dev nD) (S : Finset (Fin 20)) (g : Fin 20 → Finset (Fin 32)) (f₀ : BIx → Elt F .f32)
    (h : ∀ k ∈ S, ∀ k' ∈ S, k ≠ k' → Disjoint (g k) (g k')) :
    (bigSep S fun k => iprop(∃ f, rcPts (F := F) c (g k) f) : sProp 𝕄) ⊢ iprop(∃ f, rcPts (F := F) c (S.biUnion g) f) := by
  induction S using Finset.induction_on with
  | empty =>
    rw [bigSep_empty, Finset.biUnion_empty]
    unfold rcPts
    rw [blk_none]
    exact pts_none (ℓ := ((c : Thread nD τ).loc cc0_scratch1)) f₀
  | insert a s ha ih =>
    rw [bigSep_insert ha, Finset.biUnion_insert]
    refine (sep_mono_right (ih fun k hk k' hk' => h k (Finset.mem_insert_of_mem hk) k' (Finset.mem_insert_of_mem hk'))).trans ?_
    refine rc_glue c ⟨rfl, ?_⟩
    rw [Finset.disjoint_biUnion_right]
    exact fun k hk => h a (Finset.mem_insert_self _ _) k (Finset.mem_insert_of_mem hk) fun e => ha (e ▸ hk)

theorem spent_one (c : Dev nD) (k : Fin 20) (hk : k ∈ (rng 0 10 : Finset (Fin 20))) : (spent (F := F) c k : sProp 𝕄) ⊢ iprop(∃ f, acPts (F := F) c (srcB k c) f) := by
  unfold spent
  exact Entails.of_eq (if_pos (by simpa [rng] using hk))
theorem spent_src (c : Dev nD) : (bigSep Finset.univ (spent (F := F) c) : sProp 𝕄) ⊢ bigSep (rng 0 10) fun k => iprop(∃ f, acPts (F := F) c (srcB k c) f) :=
  (bigSep_subset (Finset.subset_univ (rng 0 10))).trans (bigSep_mono fun k hk => spent_one c k hk)

theorem ten (Φ : Fin 20 → sProp 𝕄) :
    bigSep (rng 0 10) Φ = iprop(Φ 0 ∗ Φ 1 ∗ Φ 2 ∗ Φ 3 ∗ Φ 4 ∗ Φ 5 ∗ Φ 6 ∗ Φ 7 ∗ Φ 8 ∗ Φ 9) := by
  rw [bigSep_eq_bigSepL_of_eq [0, 1, 2, 3, 4, 5, 6, 7, 8, 9] (by decide) (by decide)]; rfl

theorem landed_rc (c : Dev nD) :
    iprop(rcPts c (inB c 0) (landVal m 0 c) ∗ rcPts c (inB c 1) (landVal m 1 c) ∗ rcPts c (inB c 2) (landVal m 2 c) ∗ rcPts c (inB c 3) (landVal m 3 c)
        ∗ rcPts c (inB c 4) (landVal m 4 c) ∗ rcPts c (inB c 5) (landVal m 5 c) ∗ rcPts c (inB c 6) (landVal m 6 c) ∗ rcPts c (inB c 7) (landVal m 7 c)
        ∗ rcPts c (inB c 8) (landVal m 8 c) ∗ rcPts c (inB c 9) (landVal m 9 c))
      ⊢ (bigSep (rng 0 10) fun k => iprop(∃ f, rcPts (F := F) c (inB c k) f) : sProp 𝕄) := by
  refine (Entails.of_eq (ten fun k => rcPts c (inB c k) (landVal m k c)).symm).trans (bigSep_mono fun k _ => rc_some c (inB c k) (landVal m k c))

/-- A device's scratch buffers at the end. -/
theorem regs_out (c : Dev nD) :
    iprop(endRegs m c ∗ ∃ f, rcPts (F := F) c {15, 31} f)
      ⊢ iprop((∃ f, acPts (F := F) c Finset.univ f) ∗ (∃ f, rcPts (F := F) c Finset.univ f) ∗ (∃ f, gtPts (F := F) c fullShare Finset.univ f) ∗ ∃ f, whPts (F := F) c pM f) := by
  unfold endRegs
  iintro ⟨⟨Hs, Ha0, Ha1, Hr, Hg0, Hg1, Hp⟩, Hl⟩
  isplitl [Hs Ha0 Ha1]
  · iapply (ac_glue c (ac_parts c))
    isplitl [Hs]
    · iapply (ac_gather c (rng 0 10) (fun k => srcB k c) (A0 m c) (ac_apart c))
      iapply (spent_src c); iexact Hs
    iapply (ac_glue c (own_parts c))
    isplitl [Ha0]
    · iexists _; iexact Ha0
    iexists _; iexact Ha1
  isplitl [Hr Hl]
  · iapply (rc_glue c (rc_parts c))
    isplitl [Hr]
    · iapply (rc_gather c (rng 0 10) (inB c) (A0 m c) (rc_apart c))
      iapply (landed_rc m c); iexact Hr
    iexact Hl
  isplitl [Hg0 Hg1]
  · iexists (GF m)
    iapply (gt_cut c halves).2
    isplitl [Hg0]; · iexact Hg0
    iexact Hg1
  iexists _; iexact Hp

end Cert.Moe
end
-- ==== Proof.Launch.lean ====
/-
  The launch: the body's obligation to the pipeline, the semaphores' duties and credits dealt over the devices, and the run.
-/
module

public import proofs.«01_k».proof.Proof.Rooms
public import proofs.«01_k».proof.Proof.Gen.KernelIdeal.Frame
public import Idealize.ShloMosaic.Lib.Pipeline.CollectiveSegs
public import Idealize.ShloMosaic.Lib.Quiescent

@[expose] public section
noncomputable section
namespace Cert.Moe
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (K : Dev nD × Fin 74 → ℕ)

variable (ρ : Dev nD → PrngReg)

theorem rnd_zero (j : Fin 74) : rnd 0 0 0 j = 0 := by revert j; decide

/-! ### Proof data -/

/-- What a device holds beside what all devices know: its positions and the duties it pays. -/
def linear (c : Dev nD) : sProp 𝕄 :=
  iprop(poss c 0 0 0 ∗ (bigSep Finset.univ fun p : Fin 5 => dutyTok ER (barCell (partner p c)) 0 p)
    ∗ (bigSep Finset.univ fun p : Fin 5 => dutyTok ER (doneCell (partner p c)) 0 p) ∗ toks c)
def records : sProp 𝕄 :=
  iprop((bigSep Finset.univ fun ck : Dev nD × Fin 74 => cellInv ER (sched m) (K ck) (kcell ck))
    ∗ bigSep Finset.univ fun ck : Dev nD × Fin 74 => reached ER (kcell ck) 0)
instance records_persistent : BI.Persistent (records m K) := by unfold records; infer_instance

/-- What the global step gives a device. -/
def G' (c : Dev nD) : sProp 𝕄 := iprop(∃ K, records m K ∗ linear c)
/-- What a device's body starts from. -/
def start (c : Dev nD) : sProp 𝕄 :=
  iprop(G' m c ∗ levAts L lv ∗ cred (tallyAt (barCell c) () 5) ∗ cred (tallyAt (doneCell c) () 5) ∗ bigSep Finset.univ (credR (F := F) c))
/-- The four scratch buffers at some contents. -/
def scr (c : Dev nD) : sProp 𝕄 :=
  iprop((∃ f, acPts (F := F) c Finset.univ f) ∗ (∃ f, rcPts (F := F) c Finset.univ f) ∗ (∃ f, gtPts (F := F) c fullShare Finset.univ f) ∗ ∃ f, whPts (F := F) c pM f)
def Φ₀ (c : Dev nD) : sProp 𝕄 := iprop(start m c ∗ scr c)
def Φ₁ (c : Dev nD) : sProp 𝕄 := iprop(scr c ∗ bigSep Finset.univ fun j : Fin 74 => semVal ((c : Thread nD τ), csem j) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => rwin m c
    | ⟨2, _⟩ => idxin m c
    | ⟨3, _⟩ => ewin m c
    | ⟨4, _⟩ => swin m c
    | ⟨5, _⟩ => outVal m
  Φ t := match t with
    | ⟨0, _⟩ => Φ₀ m c
    | ⟨_ + 1, _⟩ => Φ₁ c
  q _ := fullShare
  owed t := match t with
    | ⟨0, _⟩ => debt c 0 0 0
    | ⟨_ + 1, _⟩ => 0

/-! ### The body's obligation -/

section Body

/-- A whole staging buffer at given contents. -/
abbrev stg (c : Dev nD) (b : Ref sig .tc) (X : b.ty.Contents (Elt F)) : sProp 𝕄 :=
  owns (Ix := Unit) (Name := ℕ) (U := UU) (Lvl := ℕ) (c : Thread nD τ) (Memref.whole b) fullShare X

theorem stg_eq (c : Dev nD) (b : Ref sig .tc) (X : b.ty.Contents (Elt F)) :
    (stg c b X : sProp 𝕄) = iprop(∃ f : Buf (Elt F) (((c : Dev nD) : Thread nD τ).loc b), ⌜f = X⌝ ∗ (((c : Thread nD τ).loc b) ↦{fullShare} f)) := by
  unfold stg owns; simp only [Memref.view_whole, View.read_whole, View.set_whole]
theorem stg_open (c : Dev nD) (b : Ref sig .tc) (X : b.ty.Contents (Elt F)) :
    (stg c b X : sProp 𝕄) ⊢ (((c : Thread nD τ).loc b) ↦{fullShare} X : sProp 𝕄) := by
  rw [stg_eq]
  iintro ⟨%f, %h, H⟩
  subst h; iexact H
theorem stg_close (c : Dev nD) (b : Ref sig .tc) (X : b.ty.Contents (Elt F)) :
    (((c : Thread nD τ).loc b) ↦{fullShare} X : sProp 𝕄) ⊢ (stg c b X : sProp 𝕄) := by
  rw [stg_eq]
  iintro H
  iexists X; isplitr; · (ipureintro; rfl)
  iexact H

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bodyPost (c : Dev nD) : sProp 𝕄 :=
  iprop(Φ₁ c ∗ (dats m ρ 0 c).owesAt () t0_0.succ
    ∗ stg c cc0_stg0_0 (xin m c) ∗ stg c cc0_stg1_0 (rwin m c) ∗ stg c cc0_stg2_0 (idxin m c)
    ∗ stg c cc0_stg3_0 (ewin m c) ∗ stg c cc0_stg4_0 (swin m c) ∗ stg c cc0_stg5_0 (outVal m))

theorem before0 (c : Dev nD) (d) : (dats m ρ 0 c).before (0 : Fin 6) t0_0 d = xin m c := by unfold Dat.before; rw [if_pos (fetch0_0 t0_0)]; rfl
theorem before1 (c : Dev nD) (d) : (dats m ρ 0 c).before (1 : Fin 6) t0_0 d = rwin m c := by unfold Dat.before; rw [if_pos (fetch0_1 t0_0)]; rfl
theorem before2 (c : Dev nD) (d) : (dats m ρ 0 c).before (2 : Fin 6) t0_0 d = idxin m c := by unfold Dat.before; rw [if_pos (fetch0_2 t0_0)]; rfl
theorem before3 (c : Dev nD) (d) : (dats m ρ 0 c).before (3 : Fin 6) t0_0 d = ewin m c := by unfold Dat.before; rw [if_pos (fetch0_3 t0_0)]; rfl
theorem before4 (c : Dev nD) (d) : (dats m ρ 0 c).before (4 : Fin 6) t0_0 d = swin m c := by unfold Dat.before; rw [if_pos (fetch0_4 t0_0)]; rfl

theorem stg_in (c : Dev nD) (b : Ref sig .tc) (X : b.ty.Contents (Elt F)) (Y : b.ty.Contents (Elt F) → b.ty.Contents (Elt F)) (h : ∀ d, Y d = X) :
    iprop(∃ d, stg c b (Y d)) ⊢ (((c : Thread nD τ).loc b) ↦{fullShare} X : sProp 𝕄) := by
  iintro ⟨%d, H⟩
  iapply (stg_open c b X); rw [h]; iexact H

theorem owes_in (c : Dev nD) : (dats m ρ 0 c).owesAt () t0_0.castSucc ⊢ debts (F := F) c 0 0 0 := by
  unfold Dat.owesAt Pipeline.owesWithin debts
  rw [show (dats m ρ 0 c).owed t0_0.castSucc = debt c 0 0 0 from rfl]
  iintro ⟨%W, -, H⟩
  iexists W; iexact H
theorem owes_out (c : Dev nD) : iprop(∃ W, owes (c : Thread nD τ) 0 W) ⊢ ((dats m ρ 0 c).owesAt () t0_0.succ : sProp 𝕄) := by
  unfold Dat.owesAt Pipeline.owesWithin
  rw [show (dats m ρ 0 c).owed t0_0.succ = 0 from rfl]
  iintro ⟨%W, H⟩
  iexists W
  isplitr; · ipureintro; exact fun _ _ => Or.inl trivial
  iexact H

theorem recs_of (c : Dev nD) : iprop(records m K ∗ levAts L lv) ⊢ recs m K := by
  unfold records recs
  iintro ⟨⟨H1, H2⟩, H3⟩
  isplitl [H1]; · iexact H1
  isplitl [H2]; · iexact H2
  iexact H3

/-- From the start of a device's body to what the body asks for. -/
theorem open_start (c : Dev nD) :
    iprop(Φ₀ m c ∗ debts c 0 0 0) ⊢ iprop(∃ K, enter m K c ∗ ownRegs c ∗ ∃ f, rcPts (F := F) c {15, 31} f) := by
  unfold Φ₀ start G' linear scr enter
  iintro ⟨⟨⟨⟨%K, HR, Hp, Hb, Ht, Hk⟩, Hl, Hcb, Hcd, Hcr⟩, Hs⟩, Hd⟩
  iexists K
  ihave HR' := (recs_of m K c) $$ [HR Hl]
  · isplitl [HR] <;> iassumption
  ihave Hs' := (regs_in c) $$ Hs
  icases Hs' with ⟨Hr, Ho, Hx⟩
  isplitr [Ho Hx]
  · isplitl [HR' Hd Hb Hr]
    · iapply (pre_intro m K c)
      isplitl [HR']; · iexact HR'
      isplitl [Hd]; · iexact Hd
      isplitl [Hb]; · iexact Hb
      iexact Hr
    isplitl [Hp]; · iexact Hp
    isplitl [Hcb]; · iexact Hcb
    isplitl [Hk]; · iexact Hk
    isplitl [Hcr]; · iexact Hcr
    isplitl [Hcd]; · iexact Hcd
    iexact Ht
  isplitl [Ho]; · iexact Ho
  iexact Hx

theorem end_body (c : Dev nD) :
    iprop(leave m K c ∗ ∃ f, rcPts (F := F) c {15, 31} f) ⊢ |={Set.univ}=> bodyPost m ρ c := by
  unfold leave bodyPost Φ₁ inputs scr
  iintro ⟨⟨Ho, HR, Hp, ⟨H0, H1, H2, H3, H4⟩, H5, He⟩, Hx⟩
  imod (poss_close m K c) $$ [HR Hp] with Hz
  · isplitl [HR] <;> iassumption
  ihave Hs := (regs_out m c) $$ [He Hx]
  · isplitl [He] <;> iassumption
  imodintro
  isplitl [Hs Hz]
  · isplitl [Hs]; · iexact Hs
    iexact Hz
  isplitl [Ho]; · iapply (owes_out m ρ c); iexact Ho
  isplitl [H0]; · iapply (stg_close c cc0_stg0_0 (xin m c)); iexact H0
  isplitl [H1]; · iapply (stg_close c cc0_stg1_0 (rwin m c)); iexact H1
  isplitl [H2]; · iapply (stg_close c cc0_stg2_0 (idxin m c)); iexact H2
  isplitl [H3]; · iapply (stg_close c cc0_stg3_0 (ewin m c)); iexact H3
  isplitl [H4]; · iapply (stg_close c cc0_stg4_0 (swin m c)); iexact H4
  iapply (stg_close c cc0_stg5_0 (outVal m)); iexact H5

theorem sound_body (c : Dev nD) : bodyPre m ρ c ⊢ WP c (onBufs (cc0_body (F := F))) (fun _ => bodyPost m ρ c) := by
  unfold bodyPre
  iintro ⟨HΦ, Ho, H0, H1, H2, H3, H4, ⟨%d5, H5⟩⟩
  ihave Hd := (owes_in m ρ c) $$ Ho
  ihave Hs := (open_start m c) $$ [HΦ Hd]
  · isplitl [HΦ] <;> iassumption
  icases Hs with ⟨%K, He, Hown, Hx⟩
  ihave H0' := (stg_in c cc0_stg0_0 (xin m c) _ (before0 m ρ c)) $$ H0
  ihave H1' := (stg_in c cc0_stg1_0 (rwin m c) _ (before1 m ρ c)) $$ H1
  ihave H2' := (stg_in c cc0_stg2_0 (idxin m c) _ (before2 m ρ c)) $$ H2
  ihave H3' := (stg_in c cc0_stg3_0 (ewin m c) _ (before3 m ρ c)) $$ H3
  ihave H4' := (stg_in c cc0_stg4_0 (swin m c) _ (before4 m ρ c)) $$ H4
  ihave H5' := (stg_open c cc0_stg5_0 _) $$ H5
  iapply (wp_fupd frame (wpE (defs₀ (F := F)) 𝒱₀ (c : Thread nD τ) none) (E := Set.univ) (onBufs (cc0_body (F := F))) fun _ => bodyPost m ρ c)
  iapply (whole_body m K c) $$ [He Hown H0' H1' H2' H3' H4' H5']
  · isplitl [He]; · iexact He
    isplitl [Hown]; · iexact Hown
    isplitr [H5']
    · unfold inputs
      isplitl [H0']; · iexact H0'
      isplitl [H1']; · iexact H1'
      isplitl [H2']; · iexact H2'
      isplitl [H3']; · iexact H3'
      iexact H4'
    iexact H5'
  iintro H
  iapply (end_body m K ρ c)
  isplitl [H] <;> iassumption

set_option maxRecDepth 8000 in
/-- The library's obligation on a device's core. -/
theorem body_obligation (c : Dev nD) : BodyObligation (dats (F := F) m ρ 0 c) (defs₀ (F := F)) 𝒱₀ () Set.univ := fun t => by
  rw [show t = t0_0 from fin_N0 t]
  rw [bigSep_W0, bigSep_W0]
  exact sound_body m ρ c

end Body

/-! ### The tokens -/

set_option maxRecDepth 8000 in
theorem ownSemFacts : Pipeline.OwnSemFacts cfg0.spec osem := by decide +kernel

theorem share_eq (c : Dev nD) (w : Fin cfg0.W) : (dats m ρ 0 c).share w = fullShare := by unfold Dat.share; split <;> rfl

theorem kcell_injective : Function.Injective (kcell : Dev nD × Fin 74 → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl
def ringCells : Finset (GSem nD τ sig) := Finset.univ.map ⟨kcell, kcell_injective⟩

/-- Every cell's five tokens of the first round, those of no duty among them. -/
abbrev tokOf (x : Dev nD × Fin 74 × Fin 5) : GSem nD τ sig × ℕ × Fin 5 := (kcell (x.1, x.2.1), 0, x.2.2)
theorem tokOf_injective : Function.Injective (tokOf : Dev nD × Fin 74 × Fin 5 → GSem nD τ sig × ℕ × Fin 5) := by
  rintro ⟨c, k, d⟩ ⟨c', k', d'⟩ h
  have h1 := kcell_injective (congrArg (fun x : GSem nD τ sig × ℕ × Fin 5 => x.1) h)
  have h2 : d = d' := congrArg (fun x : GSem nD τ sig × ℕ × Fin 5 => x.2.2) h
  cases h1; subst h2; rfl
def ringToks : Finset (GSem nD τ sig × ℕ × Fin 5) := Finset.univ.map ⟨tokOf, tokOf_injective⟩

def u₀ : UU :=
  (initOf (Pipeline.cells cfgs cellOf_inj) (Pipeline.launchToks cfgs cellOf_inj), initOf ringCells ringToks)

/-- The tokens of the duties of a device's own cells. -/
def ownToks (c : Dev nD) : sProp 𝕄 :=
  iprop((bigSep Finset.univ fun p : Fin 5 => dutyTok ER (barCell c) 0 p) ∗ (bigSep Finset.univ fun p : Fin 5 => dutyTok ER (doneCell c) 0 p)
    ∗ (bigSep Finset.univ fun k : Fin 20 => dutyTok ER (sendCell c k) 0 (0 : Fin 5)) ∗ bigSep Finset.univ fun k : Fin 20 => dutyTok ER (recvCell c k) 0 (0 : Fin 5))
/-- The tokens of the duties a device pays. -/
def payToks (c : Dev nD) : sProp 𝕄 :=
  iprop((bigSep Finset.univ fun p : Fin 5 => dutyTok ER (barCell (partner p c)) 0 p) ∗ (bigSep Finset.univ fun p : Fin 5 => dutyTok ER (doneCell (partner p c)) 0 p)
    ∗ (bigSep Finset.univ fun k : Fin 20 => dutyTok ER (sendCell c k) 0 (0 : Fin 5)) ∗ bigSep Finset.univ fun k : Fin 20 => dutyTok ER (recvCell (peer k c) k) 0 (0 : Fin 5))

/-- The places of the cells with duties, picked from all. -/
theorem pick (Ψ : Fin 74 → sProp 𝕄) :
    bigSep Finset.univ Ψ ⊢ iprop(Ψ bIx ∗ Ψ dIx ∗ (bigSep Finset.univ fun k : Fin 20 => Ψ (sIx k)) ∗ bigSep Finset.univ fun k : Fin 20 => Ψ (rIx k)) := by
  refine BIBase.Entails.trans (bigSep_subset (Finset.subset_univ ({bIx} ∪ ({dIx} ∪
    ((Finset.univ : Finset (Fin 20)).map ⟨sIx, fun _ _ => sIx_inj⟩ ∪ (Finset.univ : Finset (Fin 20)).map ⟨rIx, fun _ _ => rIx_inj⟩))))) (Entails.of_eq ?_)
  rw [bigSep_union (by decide), bigSep_union (by decide), bigSep_union (by decide), bigSep_map, bigSep_map, bigSep_singleton, bigSep_singleton]
  rfl

theorem pick_toks (c : Dev nD) :
    (bigSep Finset.univ fun x : Fin 74 × Fin 5 => dutyTok ER (kcell (c, x.1)) 0 x.2 : sProp 𝕄) ⊢ ownToks c := by
  rw [bigSep_univ_prod]
  refine (pick fun j => bigSep Finset.univ fun d : Fin 5 => dutyTok ER (kcell (c, j)) 0 d).trans ?_
  unfold ownToks
  refine BIClass.sep_mono ?_ (BIClass.sep_mono ?_ (BIClass.sep_mono ?_ ?_))
  · exact Entails.of_eq (by dsimp only [kcell]; rw [csem_b])
  · exact Entails.of_eq (by dsimp only [kcell]; rw [csem_d])
  · exact bigSep_mono fun k _ => (bigSep_elim (Finset.mem_univ (0 : Fin 5))).trans (Entails.of_eq (congrArg (fun s => (dutyTok ER ((c : Thread nD τ), s) 0 (0 : Fin 5) : sProp 𝕄)) (csem_s k)))
  · exact bigSep_mono fun k _ => (bigSep_elim (Finset.mem_univ (0 : Fin 5))).trans (Entails.of_eq (congrArg (fun s => (dutyTok ER ((c : Thread nD τ), s) 0 (0 : Fin 5) : sProp 𝕄)) (csem_r k)))

/-- A device's partners over a table of offsets, as one renumbering. -/
def dealEquiv {T : Type} (g : T → Fin 5) : Dev nD × T ≃ Dev nD × T where
  toFun x := (partner (g x.2) x.1, x.2)
  invFun x := (partner (back (g x.2)) x.1, x.2)
  left_inv x := Prod.ext (back_partner _ _) rfl
  right_inv x := Prod.ext (partner_back _ _) rfl

theorem deal {T : Type} [Fintype T] (g : T → Fin 5) (Φ : Dev nD → T → sProp 𝕄) :
    (bigSep Finset.univ fun c : Dev nD => bigSep Finset.univ fun t : T => Φ c t)
      = bigSep Finset.univ fun c : Dev nD => bigSep Finset.univ fun t : T => Φ (partner (g t) c) t := by
  rw [← bigSep_univ_prod (fun x : Dev nD × T => Φ x.1 x.2), ← bigSep_univ_prod (fun x : Dev nD × T => Φ (partner (g x.2) x.1) x.2),
    bigSep_univ_equiv (dealEquiv g) (fun x : Dev nD × T => Φ x.1 x.2)]
  rfl

theorem toks_around : (bigSep Finset.univ fun c : Dev nD => (ownToks c : sProp 𝕄)) ⊢ bigSep Finset.univ fun c : Dev nD => payToks c := by
  unfold ownToks payToks
  rw [bigSep_sep', bigSep_sep', bigSep_sep', bigSep_sep', bigSep_sep', bigSep_sep',
    deal (fun p => p) (fun c (p : Fin 5) => (dutyTok ER (barCell c) 0 p : sProp 𝕄)),
    deal (fun p => p) (fun c (p : Fin 5) => (dutyTok ER (doneCell c) 0 p : sProp 𝕄)),
    deal peerIx (fun c (k : Fin 20) => (dutyTok ER (recvCell c k) 0 (0 : Fin 5) : sProp 𝕄))]
  exact BI.Entails.refl _

/-! ### The funding and the cells' invariants -/

def G (c : Dev nD) : sProp 𝕄 :=
  iprop((bigSep Finset.univ fun k : Fin 74 => roundState ER (sched m) (kcell (c, k)) 0)
    ∗ (bigSep Finset.univ fun k : Fin 74 => iprop(atPos ER (kcell (c, k)) 0 ∅ 0 ∗ reached ER (kcell (c, k)) 0)) ∗ ownToks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 74 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => ownToks c := by
    unfold ringToks; rw [bigSep_map, bigSep_univ_prod]
    exact bigSep_mono fun c _ => pick_toks c
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    (bigSep Finset.univ fun k : Fin 74 => semVal (kcell (c, k)) 0 : sProp 𝕄)
      = iprop(Pipeline.ownSems0 (Ix := Unit) (Name := ℕ) (U := UU) (Lvl := ℕ) (Val := Elt F) (τ := τ) osem c ∗ unscopedSems0 c) := by
  have hE : (Finset.univ : Finset (Fin 74)) = {bIx} ∪ (Finset.univ : Finset (Fin 73)).map Fin.castSuccEmb := by decide +kernel
  rw [unscopedSems0_eq, hE, bigSep_union (by decide +kernel), bigSep_singleton, bigSep_map]
  unfold Pipeline.ownSems0
  have h1 : kcell (c, bIx) = barCell c := by dsimp only [kcell]; rw [csem_b]
  have h2 : ∀ k : Fin 73, kcell (c, Fin.castSuccEmb k) = ((c : Thread nD τ), osem k) := fun k => by
    show ((c : Thread nD τ), csem k.castSucc) = _
    unfold csem; rw [dif_pos (show k.castSucc.val < 73 from k.isLt)]; rfl
  rw [h1]; simp only [h2]
  exact equiv_iff.mp ⟨BI.sep_comm, BI.sep_comm⟩

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (Entails.of_eq (sems0_eq (F := F) c).symm) $$ [Hos Hus]
  · isplitl [Hos] <;> iassumption
  imod (show iprop((bigSep Finset.univ fun k : Fin 74 => semVal (kcell (c, k)) 0) ∗ bigSep Finset.univ fun k : Fin 74 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem linear_intro (c : Dev nD) :
    iprop((bigSep Finset.univ fun k : Fin 74 => atPos ER (kcell (c, k)) 0 ∅ 0) ∗ payToks c) ⊢ (linear c : sProp 𝕄) := by
  unfold linear payToks poss toks
  rw [bigSep_sep']
  simp only [rnd_zero]
  iintro ⟨Hp, H1, H2, H3, H4⟩
  isplitl [Hp]; · iexact Hp
  isplitl [H1]; · iexact H1
  isplitl [H2]; · iexact H2
  isplitl [H3]; · iexact H3
  iexact H4

theorem with_records (c : Dev nD) : iprop(records m K ∗ linear c) ⊢ G' m c := by
  unfold G'
  iintro ⟨H1, H2⟩
  iexists K
  isplitl [H1] <;> iassumption

theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m) := by
  rw [bigSep_sep', bigSep_sep', ← bigSep_univ_prod (fun ck : Dev nD × Fin 74 => iprop(∃ κ : ℕ, cellInv ER (sched m) κ (kcell ck))),
    bigSep_congr (s := Finset.univ) (fun (c : Dev nD) _ => bigSep_sep' Finset.univ (fun k : Fin 74 => (atPos ER (kcell (c, k)) 0 ∅ 0 : sProp 𝕄)) (fun k => reached ER (kcell (c, k)) 0)),
    bigSep_sep', ← bigSep_univ_prod (fun ck : Dev nD × Fin 74 => (reached ER (kcell ck) 0 : sProp 𝕄))]
  iintro ⟨HI, ⟨Hat, #HR⟩, Htok⟩
  ihave HK := (BI.bigSep_exists_pi Finset.univ (fun (ck : Dev nD × Fin 74) (κ : ℕ) => (cellInv ER (sched m) κ (kcell ck) : sProp 𝕄))) $$ HI
  icases HK with ⟨%K, #HI⟩
  ihave Htk := (toks_around (F := F)) $$ Htok
  iapply (each_with (R := records m K) fun c _ => with_records m K c)
  isplitr
  · unfold records; isplitl; · iexact HI
    iexact HR
  · iapply ((Entails.of_eq (bigSep_sep' Finset.univ (fun c : Dev nD => bigSep Finset.univ fun k : Fin 74 => (atPos ER (kcell (c, k)) 0 ∅ 0 : sProp 𝕄)) payToks).symm).trans
      (bigSep_mono fun c _ => linear_intro c))
    isplitl [Hat]; · iexact Hat
    iexact Htk

/-- The global step: all devices' semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem sum_at {T : Type} (S : Finset T) (f : T → GSem nD τ sig) (w : T → ℕ) (g : GSem nD τ sig) :
    (∑ t ∈ S, tallyAt (f t) () (w t) : CellTallies nD τ sig Unit) g () = ∑ t ∈ S, if g = f t then w t else 0 := by
  rw [Finset.sum_apply, Finsupp.finsetSum_apply]
  refine Finset.sum_congr rfl fun t _ => ?_
  rw [tallyAt_apply]
  by_cases h : g = f t
  · rw [if_pos ⟨h, rfl⟩, if_pos h]
  · rw [if_neg fun h' => h h'.1, if_neg h]

/-- Summing over all devices what each owes at a cell addressed to a partner is summing over all devices' cells. -/
theorem sum_moved {T : Type} (S : Finset T) (q : T → Fin 5) (f : T → Dev nD → GSem nD τ sig) (w : T → ℕ) (g : GSem nD τ sig) :
    (∑ d : Dev nD, ∑ t ∈ S, if g = f t (partner (q t) d) then w t else 0) = ∑ t ∈ S, ∑ d : Dev nD, if g = f t d then w t else 0 := by
  rw [Finset.sum_comm]
  refine Finset.sum_congr rfl fun t _ => ?_
  exact Equiv.sum_comp (partnerEquiv (q t)) fun d => if g = f t d then w t else 0

theorem owed_at (g : GSem nD τ sig) : (∑ d : Dev nD, debt d 0 0 0 g ())
    = (∑ k : Fin 20, ∑ d : Dev nD, if g = recvCell d k then amt k else 0) + (∑ p : Fin 5, ∑ d : Dev nD, if g = doneCell d then 1 else 0)
      + ∑ p : Fin 5, ∑ d : Dev nD, if g = barCell d then 1 else 0 := by
  rw [← sum_moved Finset.univ peerIx (fun k d => recvCell d k) amt g, ← sum_moved Finset.univ (fun p : Fin 5 => p) (fun _ d => doneCell d) (fun _ => 1) g,
    ← sum_moved Finset.univ (fun p : Fin 5 => p) (fun _ d => barCell d) (fun _ => 1) g, ← Finset.sum_add_distrib, ← Finset.sum_add_distrib]
  refine Finset.sum_congr rfl fun d _ => ?_
  unfold debt
  rw [Pi.add_apply, Finsupp.add_apply, Pi.add_apply, Finsupp.add_apply, rng_univ, rng_univ, sum_at, sum_at, sum_at]
  rfl

theorem cell_ne {c d : Dev nD} {s t : SemLoc sig} (h : roleOf s ≠ roleOf t) : ¬ (((c : Thread nD τ), s) : GSem nD τ sig) = ((d : Thread nD τ), t) :=
  fun e => h (congrArg (fun g : GSem nD τ sig => roleOf g.2) e)
theorem cell_dev {c d : Dev nD} {s t : SemLoc sig} (h : (((c : Thread nD τ), s) : GSem nD τ sig) = ((d : Thread nD τ), t)) : d = c :=
  (congrArg (fun g : GSem nD τ sig => g.1.1) h).symm
theorem sum_here (c : Dev nD) (s : SemLoc sig) (n : ℕ) : (∑ d : Dev nD, if (((c : Thread nD τ), s) : GSem nD τ sig) = ((d : Thread nD τ), s) then n else 0) = n := by
  rw [Finset.sum_eq_single c (fun d _ hd => if_neg fun h => hd (cell_dev h)) (fun h => absurd (Finset.mem_univ _) h), if_pos rfl]
theorem sum_not (c : Dev nD) (s t : SemLoc sig) (n : ℕ) (h : roleOf s ≠ roleOf t) :
    (∑ d : Dev nD, if (((c : Thread nD τ), s) : GSem nD τ sig) = ((d : Thread nD τ), t) then n else 0) = 0 :=
  Finset.sum_eq_zero fun d _ => if_neg (cell_ne h)

theorem owed_bar (c : Dev nD) : (∑ d : Dev nD, debt d 0 0 0 (barCell c) ()) = 5 := by
  rw [owed_at, Finset.sum_eq_zero fun k _ => sum_not c _ _ _ (by rw [role_bar, role_recv]; exact fun h => by cases h),
    Finset.sum_eq_zero fun k _ => sum_not c _ _ _ (by rw [role_bar, role_done]; exact fun h => by cases h), Finset.sum_congr rfl fun p _ => sum_here c _ 1]
  rfl
theorem owed_done (c : Dev nD) : (∑ d : Dev nD, debt d 0 0 0 (doneCell c) ()) = 5 := by
  rw [owed_at, Finset.sum_eq_zero fun k _ => sum_not c _ _ _ (by rw [role_done, role_recv]; exact fun h => by cases h),
    Finset.sum_eq_zero (f := fun p : Fin 5 => ∑ d : Dev nD, if doneCell c = barCell d then 1 else 0)
      fun k _ => sum_not c _ _ _ (by rw [role_bar, role_done]; exact fun h => by cases h), Finset.sum_congr rfl fun p _ => sum_here c _ 1]
  rfl
theorem owed_recv (c : Dev nD) (k : Fin 20) : (∑ d : Dev nD, debt d 0 0 0 (recvCell c k) ()) = amt k := by
  rw [owed_at, Finset.sum_eq_zero (f := fun p : Fin 5 => ∑ d : Dev nD, if recvCell c k = barCell d then 1 else 0)
      fun _ _ => sum_not c _ _ _ (by rw [role_bar, role_recv]; exact fun h => by cases h),
    Finset.sum_eq_zero (f := fun p : Fin 5 => ∑ d : Dev nD, if recvCell c k = doneCell d then 1 else 0)
      fun _ _ => sum_not c _ _ _ (by rw [role_done, role_recv]; exact fun h => by cases h),
    Finset.sum_eq_single k (fun k' _ hk => sum_not c _ _ _ (by rw [role_recv, role_recv]; exact fun h => hk (by cases h; rfl)))
      (fun h => absurd (Finset.mem_univ _) h), sum_here]
  rfl

abbrev O₀ (c : Dev nD) : CellTallies nD τ sig Unit := debt c 0 0 0

theorem launch_cell (g : GSem nD τ sig) (n : ℕ) (h : (∑ d : Dev nD, debt d 0 0 0 g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same]; exact h

theorem creds (c : Dev nD) :
    (Pipeline.launchCred O₀ c : sProp 𝕄) ⊢ iprop(cred (tallyAt (barCell c) () 5) ∗ cred (tallyAt (doneCell c) () 5) ∗ bigSep Finset.univ (credR (F := F) c)) := by
  unfold Pipeline.launchCred
  refine BIBase.Entails.trans (bigSep_subset (Finset.subset_univ ({SemLoc.reg barS} ∪ ({SemLoc.reg barT} ∪
    (Finset.univ : Finset (Fin 20)).map ⟨fun k => SemLoc.dma (recvS k), fun a b h => by
      have := congrArg roleOf h; dsimp only at this; rw [role_recv, role_recv] at this; cases this; rfl⟩)))) (Entails.of_eq ?_)
  rw [bigSep_union (by decide), bigSep_union (by decide), bigSep_map, bigSep_singleton, bigSep_singleton, launch_cell _ _ (owed_bar c), launch_cell _ _ (owed_done c)]
  have h : ∀ k : Fin 20, cred (tallyOn (recvCell c k) (launchCredit (Pipeline.owing O₀) 0 (recvCell c k))) = (credR (F := F) c k : sProp 𝕄) := fun k => by
    rw [launch_cell _ _ (owed_recv c k)]; rfl
  exact congrArg _ (congrArg _ (bigSep_congr fun k _ => h k))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, H2, H3⟩
  imodintro
  unfold start
  isplitl
  · isplitl [HG]; · iexact HG
    isplitl [Hlev]; · iexact Hlev
    isplitl [H1]; · iexact H1
    isplitl [H2]; · iexact H2
    iexact H3
  · iempintro

theorem whole_ac (c : Dev nD) (f) : ((((c : Thread nD τ).loc cc0_scratch0) ↦{fullShare} f : sProp 𝕄)) = acPts c Finset.univ f := by unfold acPts; rw [blk_univ]
theorem whole_rc (c : Dev nD) (f) : ((((c : Thread nD τ).loc cc0_scratch1) ↦{fullShare} f : sProp 𝕄)) = rcPts c Finset.univ f := by unfold rcPts; rw [blk_univ]
theorem whole_gt (c : Dev nD) (f) : ((((c : Thread nD τ).loc cc0_scratch2) ↦{fullShare} f : sProp 𝕄)) = gtPts c fullShare Finset.univ f := by unfold gtPts; rw [blk_univ]

theorem scr_eq (c : Dev nD) : (Pipeline.scopedRest cfg0.spec c : sProp 𝕄) = scr c := by
  rw [scopedRest0_eq]; unfold scr; simp only [whole_ac, whole_rc, whole_gt]; rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_eq]
  unfold Φ₁
  iintro ⟨Hr, Hz⟩
  ihave Hz' := (Entails.of_eq (sems0_eq (F := F) c)) $$ Hz
  icases Hz' with ⟨H1, H2⟩
  isplitl [H2]; · iexact H2
  isplitl [H1]; · iexact H1
  iexact Hr

theorem waits (c : Dev nD) : (levAts L lv : sProp 𝕄) ⊢ Pipeline.cellsWaits cfgs (dats m ρ) () 0 c :=
  Pipeline.cellsWaits_intro cfgs (dats m ρ) () 0 c fun w s t => by
    have hr : ∀ (w : Fin 6) (s : Fin (spec0 w).nbuf), roleLev (roleOf (.dma ((spec0 w).sem s))) ≤ 0 := by decide
    rcases t with ⟨_ | _, ht⟩
    · exact mayWait_of c _ 0 0 0 0 (hr w s) (by omega) (by omega) (by omega)
    · have := mayWait_of (F := F) c (.dma ((spec0 w).sem s)) 0 5 20 5 (hr w s) (by omega) (by omega) (by omega)
      rw [debt_zero] at this; exact this

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution ends, with each window's array at its contents after the body and all counters zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe
end
-- ==== Proof.Run.lean ====
/-
  The run read at the kernel's arrays: the result on every device, the arguments unchanged, every counter zero.
-/
module

public import proofs.«01_k».proof.Proof.Launch
public import proofs.«01_k».proof.Defs

@[expose] public section
noncomputable section
namespace Cert.Moe
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (K : Dev nD × Fin 74 → ℕ)

variable (ρ : Dev nD → PrngReg)

/-! ### Blocks that are whole arrays -/

theorem read_arg0 (f : (main_arg0 : Ref sig .tc).ty.Contents (Elt F)) : (win0_0.blk (0 : Fin 1)).view.read (Elt F) f = f :=
  Memref.read_access_unit_zero (Elt F) main_arg0 (funext fun _ => Nat.zero_mul _) _ f
theorem read_arg1 (f : (main_arg1 : Ref sig .tc).ty.Contents (Elt F)) : (win0_1.blk (0 : Fin 1)).view.read (Elt F) f = f :=
  Memref.read_access_unit_zero (Elt F) main_arg1 (funext fun _ => Nat.zero_mul _) _ f
theorem read_arg2 (f : (main_arg2 : Ref sig .tc).ty.Contents (Elt F)) : (win0_2.blk (0 : Fin 1)).view.read (Elt F) f = f :=
  Memref.read_access_unit_zero (Elt F) main_arg2 (funext fun _ => Nat.zero_mul _) _ f
theorem read_arg3 (f : (main_arg3 : Ref sig .tc).ty.Contents (Elt F)) : (win0_3.blk (0 : Fin 1)).view.read (Elt F) f = f :=
  Memref.read_access_unit_zero (Elt F) main_arg3 (funext fun _ => Nat.zero_mul _) _ f
theorem read_arg4 (f : (main_arg4 : Ref sig .tc).ty.Contents (Elt F)) : (win0_4.blk (0 : Fin 1)).view.read (Elt F) f = f :=
  Memref.read_access_unit_zero (Elt F) main_arg4 (funext fun _ => Nat.zero_mul _) _ f
theorem read_res (f : (main_v1 : Ref sig .tc).ty.Contents (Elt F)) : (win0_5.blk (0 : Fin 1)).view.read (Elt F) f = f :=
  Memref.read_access_unit_zero (Elt F) main_v1 (funext fun _ => Nat.zero_mul _) _ f

theorem flushed_res (c : Dev nD) : (dats m ρ 0 c).flushed (5 : Fin 6) t0_0 = outVal m := by
  unfold Dat.flushed
  exact funext fun _ => rfl

theorem final_res (c : Dev nD) : finalA m ρ c (5 : Fin 6) = outVal m := by
  have hw : ((cfg0.win (5 : Fin 6)).blk t0_0).view.read (Elt F) ((dats m ρ 0 c).arrAt (5 : Fin 6) cfg0.N) = (dats m ρ 0 c).flushed (5 : Fin 6) t0_0 := by
    rw [show cfg0.N = t0_0.val + 1 from rfl, (dats m ρ 0 c).arrAt_succ (5 : Fin 6) t0_0, flush0_5, if_pos rfl]
    exact View.read_write_univ _ _
  rw [flushed_res] at hw
  exact (read_res _).symm.trans hw

/-! ### The run, read at the arrays -/

theorem run_full : θ_run defs (onTc (τ := τ) (main (F := F))) ⟨m, fun _ => 0, ρ⟩ (fun r => (∀ c : Dev nD,
      r.2.mem ((c.tc : Thread nD τ).loc main_v1) = outVal m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c 5).trans (final_res m ρ c),
      (h.1 c 0).trans ((dats m ρ 0 c).arrAt_in (0 : Fin 6) rfl _), (h.1 c 1).trans ((dats m ρ 0 c).arrAt_in (1 : Fin 6) rfl _),
      (h.1 c 2).trans ((dats m ρ 0 c).arrAt_in (2 : Fin 6) rfl _), (h.1 c 3).trans ((dats m ρ 0 c).arrAt_in (3 : Fin 6) rfl _),
      (h.1 c 4).trans ((dats m ρ 0 c).arrAt_in (4 : Fin 6) rfl _)⟩, h.2⟩) (run_main m ρ)

theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h.1 c).2, h.2⟩) (run_full m ρ)

theorem frame_ideal [Cert.KernelIdeal.Facts] : Cert.quiescent_KernelIdeal := fun m ρ _ => frame_any (F := Ideal) m ρ

/-- The two printed programs have one table of bodies. -/
theorem bodies_eq [Cert.Kernel.Facts] : Cert.Kernel.defs₀ (F := Bits) = Cert.KernelIdeal.defs₀ (F := Bits) := by
  unfold Cert.Kernel.defs₀ Cert.KernelIdeal.defs₀
  refine congrArg _ (funext fun l => funext fun x => ?_)
  match l, x with
  | 0, (t, s) => rfl
  | ⟨_ + 1, h⟩, _ => exact absurd h (Nat.not_lt.2 (Nat.le_add_left _ _))
theorem defs_eq [Cert.Kernel.Facts] : Cert.Kernel.defs (F := Bits) = Cert.KernelIdeal.defs (F := Bits) := by
  unfold Cert.Kernel.defs Cert.KernelIdeal.defs
  rw [bodies_eq]
  rfl

theorem frame_bits [Cert.Kernel.Facts] : Cert.quiescent_Kernel := fun m ρ _ => by
  have h := frame_any (F := Bits) m ρ
  rw [← defs_eq] at h
  exact h

end Cert.Moe
end
-- ==== Proof.RefFrame.lean ====
/-
  The reference's frame: its run leaves the arguments as they were, and it has no semaphore.
-/
module

public import proofs.«01_k».proof.Defs
public import proofs.«01_k».proof.Proof.Gen.ReferenceIdeal.Run
public import Idealize.ShloMosaic.Lib.Quiescent

@[expose] public section
noncomputable section
namespace Cert.Moe
open Idealize.ShloMosaic Idealize.ShloMosaic.TcCoe Idealize.SL.Sem

/-- The reference has no semaphore, so its counters read zero. -/
theorem ref_quiet (s : MemSt Cert.ReferenceIdeal.nD Cert.ReferenceIdeal.τ Cert.ReferenceIdeal.sig (Elt Ideal)) : s.sem = fun _ => 0 :=
  sem_eq_zero_of_no_sems (by decide) s

theorem frame_reference [Cert.ReferenceIdeal.Facts] : Cert.quiescent_ReferenceIdeal := fun m ρ _ =>
  (θ_run Cert.ReferenceIdeal.defs _ _).mono (fun _ h => ⟨fun c => (h c).2, ref_quiet _⟩) (Cert.ReferenceIdeal.Value.run (F := Ideal) m ρ)

end Cert.Moe
end
-- ==== Proof.Softmax.lean ====
/- The row softmax over the extended reals: the kernel's and the reference's are one function of the scores, and on
   finite scores its values are nonnegative reals. -/
module

public import proofs.«01_k».proof.Proof.Contents
public import proofs.«01_k».proof.Proof.Gen.ReferenceIdeal.Run
public import Idealize.ShloMosaic.Lib.KernelVsHost
public import Idealize.ShloMosaic.Lib.IdealHost
public import Idealize.ShloMosaic.Lib.MatmulPlain
public import Idealize.ShloMosaic.Lib.ValueLayout
public import Idealize.ShloMosaic.Lib.ValueLayoutCasts

@[expose] public section

noncomputable section

namespace Cert.Moe

open Idealize.ShloMosaic Idealize.ShloMosaic.ValueIdx
open scoped BigOperators

/-- Scores, by row and expert. -/
abbrev Scores := Fin 1024 → Fin 64 → EReal

/-- A row's largest score. -/
def rowMax (s : Scores) (n : Fin 1024) : EReal := (Finset.univ : Finset (Fin 64)).fold max ⊥ (s n)

/-- A row's weight of an expert, before it is divided by the row's sum. -/
def weight (s : Scores) (n : Fin 1024) (e : Fin 64) : EReal := Ideal.exp (s n e - rowMax s n)

/-- The probabilities. -/
def soft (s : Scores) (n : Fin 1024) (e : Fin 64) : EReal := Ideal.div (weight s n e) (∑ e', weight s n e')

/-- An extended real that is a nonnegative real. -/
def Tame (v : EReal) : Prop := ∃ r : ℝ, 0 ≤ r ∧ v = r

/-! ## On finite scores -/

theorem rowMax_real {s : Scores} {n : Fin 1024} (h : ∀ e, ∃ r : ℝ, s n e = r) : ∃ M : ℝ, rowMax s n = M := by
  have h1 : rowMax s n ≠ ⊤ := by
    refine ne_of_lt ((Finset.fold_max_lt _).mpr ⟨bot_lt_top, fun e _ => ?_⟩)
    obtain ⟨r, hr⟩ := h e
    rw [hr]; exact EReal.coe_lt_top r
  have h2 : rowMax s n ≠ ⊥ := by
    obtain ⟨r, hr⟩ := h 0
    have : s n 0 ≤ rowMax s n := (Finset.le_fold_max _).mpr (.inr ⟨0, Finset.mem_univ _, le_rfl⟩)
    intro hb
    rw [hb, hr] at this
    exact absurd this (not_le.mpr (EReal.bot_lt_coe r))
  exact ⟨(rowMax s n).toReal, (EReal.coe_toReal h1 h2).symm⟩

theorem sum_coe {n : ℕ} (f : Fin n → ℝ) : (∑ e, ((f e : ℝ) : EReal)) = ((∑ e, f e : ℝ) : EReal) := by
  induction n with
  | zero => simp
  | succ n ih => rw [Fin.sum_univ_succ, Fin.sum_univ_succ, ih, EReal.coe_add]

theorem soft_tame {s : Scores} {n : Fin 1024} (h : ∀ e, ∃ r : ℝ, s n e = r) (e : Fin 64) : Tame (soft s n e) := by
  obtain ⟨M, hM⟩ := rowMax_real h
  choose r hr using h
  have hw : ∀ e, weight s n e = ((Real.exp (r e - M) : ℝ) : EReal) := fun e => by
    unfold weight
    rw [hr e, hM, ← EReal.coe_sub]; rfl
  have hpos : 0 < ∑ e, Real.exp (r e - M) := Finset.sum_pos (fun _ _ => Real.exp_pos _) ⟨0, Finset.mem_univ _⟩
  refine ⟨Real.exp (r e - M) * (1 / ∑ e, Real.exp (r e - M)), by positivity, ?_⟩
  unfold soft
  simp only [hw]
  rw [sum_coe, Ideal.div_coe hpos.ne', ← EReal.coe_mul]

theorem tame_zero : Tame 0 := ⟨0, le_rfl, by simp⟩

/-- A nonnegative real goes through a sum. -/
theorem tame_mul_sum {c : EReal} (hc : Tame c) {n : ℕ} (f : Fin n → EReal) : c * ∑ k, f k = ∑ k, c * f k := by
  obtain ⟨r, hr, rfl⟩ := hc
  induction n with
  | zero => simp
  | succ n ih => rw [Fin.sum_univ_succ, Fin.sum_univ_succ, EReal.left_distrib_of_nonneg_of_ne_top (EReal.coe_nonneg.mpr hr) (EReal.coe_ne_top r), ih]

/-! ## The kernel's softmax and the reference's -/

theorem neg_inf : Ideal.ofBits .f32 0xFF800000#32 = ⊥ := by simp [Ideal.ofBits, Ideal.ieee]

abbrev T64 : Shape := ⟨2, ![1024, 64]⟩
abbrev T1 : Shape := ⟨1, ![1024]⟩
abbrev TC : Shape := ⟨2, ![1024, 1]⟩

theorem lift_row (h : T64.Reduces [1] T1) (n : Fin 1024) (e : Fin 64) : h.lift (ix1 n) e = ix2 n e := by
  funext a; match a with | ⟨0, _⟩ => exact Fin.ext rfl | ⟨1, _⟩ => exact Fin.ext rfl

theorem column_bcast {α : Type} (v : T1.Idx → α) (h : T1.ShapeCasts TC) (hb : TC.Broadcasts T64) (n : Fin 1024) (e : Fin 64) :
    broadcastTo T64 (shapeCast TC v h) hb (ix2 n e) = v (ix1 n) := by
  rw [broadcastTo_apply _ hb (ix2 n e) (ix2 n (0 : Fin 1)) (fun a => by match a with | ⟨0, _⟩ => rfl | ⟨1, _⟩ => rfl)]
  exact shapeCast_a_a1_apply v h n 0

theorem softK (s : FVec Ideal T64 .f32) (h : T64.Reduces [1] T1) (hf) (hm) (ha) (hc : T1.ShapeCasts TC) (hb : TC.Broadcasts T64)
    (n : Fin 1024) (e : Fin 64) :
    divf (exp (subf s (broadcastTo T64 (shapeCast TC (multiReduction .maximumf [1] T1 s 0xFF800000#32 h hf hm) hc) hb)))
      (broadcastTo T64 (shapeCast TC (multiReduction .add [1] T1 (exp (subf s (broadcastTo T64 (shapeCast TC
        (multiReduction .maximumf [1] T1 s 0xFF800000#32 h hf hm) hc) hb))) 0x00000000#32 h hf ha) hc) hb) (ix2 n e)
      = soft (fun n e => s (ix2 n e)) n e := by
  have hmax : ∀ n, multiReduction .maximumf [1] T1 s 0xFF800000#32 h hf hm (ix1 n) = rowMax (fun n e => s (ix2 n e)) n := fun n => by
    rw [Ideal.multiReduction_maximumf_single]
    show Finset.fold max (Ideal.ofBits .f32 0xFF800000#32) _ _ = _
    rw [neg_inf]
    exact congrArg (Finset.fold max ⊥ · Finset.univ) (funext fun e => congrArg s (lift_row h n e))
  have hw : ∀ n e, exp (subf s (broadcastTo T64 (shapeCast TC (multiReduction .maximumf [1] T1 s 0xFF800000#32 h hf hm) hc) hb)) (ix2 n e)
      = weight (fun n e => s (ix2 n e)) n e := fun n e => by
    show Ideal.exp (s (ix2 n e) - broadcastTo T64 _ hb (ix2 n e)) = _
    rw [column_bcast, hmax]; rfl
  rw [divf_apply, hw, column_bcast, Ideal.multiReduction_add_single]
  refine congrArg (Ideal.div _) (Finset.sum_congr rfl fun e' _ => ?_)
  exact (congrArg _ (lift_row h n e')).trans (hw n e')

theorem column_bcast_host {α : Type} (v : T1.Idx → α) (h : T1.BroadcastsInDim TC ![0]) (hb : TC.BroadcastsInDim T64 ![0, 1])
    (n : Fin 1024) (e : Fin 64) : broadcastInDim T64 ![0, 1] hb (broadcastInDim TC ![0] h v) (ix2 n e) = v (ix1 n) := by
  rw [broadcastInDim_apply _ hb _ (ix2 n e) (ix2 n (0 : Fin 1)) (fun a => by match a with | ⟨0, _⟩ => rfl | ⟨1, _⟩ => rfl)]
  exact broadcastInDim_apply _ h v _ (ix1 n) (fun a => by match a with | ⟨0, _⟩ => rfl)

abbrev T0 : Shape := ⟨0, ![]⟩

theorem softH (s : FVec Ideal T64 .f32) (h : T64.ReducesTo [1] T1) (hu : 0 < T0.numel) (hc : T1.BroadcastsInDim TC ![0])
    (hb : TC.BroadcastsInDim T64 ![0, 1]) (n : Fin 1024) (e : Fin 64) :
    Host.divf (Host.exp (subf s (broadcastInDim T64 ![0, 1] hb (broadcastInDim TC ![0] hc
        (Host.reduce FloatOps.maximumf s (constant T0 .f32 0xFF800000#32) h hu)))))
      (broadcastInDim T64 ![0, 1] hb (broadcastInDim TC ![0] hc (Host.reduceAdd (Host.exp (subf s (broadcastInDim T64 ![0, 1] hb
        (broadcastInDim TC ![0] hc (Host.reduce FloatOps.maximumf s (constant T0 .f32 0xFF800000#32) h hu)))))
        (constant T0 .f32 0x00000000#32) h hu))) (ix2 n e)
      = soft (fun n e => s (ix2 n e)) n e := by
  have h' : T64.Reduces [1] T1 := by decide
  have hmax : ∀ n, Host.reduce FloatOps.maximumf s (constant T0 .f32 0xFF800000#32) h hu (ix1 n) = rowMax (fun n e => s (ix2 n e)) n := fun n => by
    refine (congrFun (hostReduce_maximumf_eq_multiReduction s 0xFF800000#32 h hu h' (.inl rfl) rfl) (ix1 n)).trans
      ((Ideal.multiReduction_maximumf_single s _ h' _ _ (ix1 n)).trans ?_)
    show Finset.fold max (Ideal.ofBits .f32 0xFF800000#32) _ _ = _
    rw [neg_inf]
    exact congrArg (Finset.fold max ⊥ · Finset.univ) (funext fun e => congrArg s (lift_row h' n e))
  have hw : ∀ n e, Host.exp (subf s (broadcastInDim T64 ![0, 1] hb (broadcastInDim TC ![0] hc
        (Host.reduce FloatOps.maximumf s (constant T0 .f32 0xFF800000#32) h hu)))) (ix2 n e)
      = weight (fun n e => s (ix2 n e)) n e := fun n e => by
    exact congrArg (fun z => Ideal.exp (s (ix2 n e) - z)) ((column_bcast_host _ hc hb n e).trans (hmax n))
  refine congrArg₂ Ideal.div (hw n e) ((column_bcast_host _ hc hb n e).trans ?_)
  refine (Ideal.hostReduceAdd_single h h' _ (Ideal.ofBits .f32 0x00000000#32) (ix1 n)).trans ?_
  rw [Ideal.ofBits_zero_f32, zero_add]
  exact Finset.sum_congr rfl fun e' _ => (congrArg _ (lift_row h' n e')).trans (hw n e')

/-! ## The kernel's probability of the expert a row is sent to -/

/-- The scores of a memory's rows. -/
def score (x : (⟨2, ![1024, 256]⟩ : Shape).Idx → EReal) (w : (⟨2, ![256, 64]⟩ : Shape).Idx → EReal) : Scores :=
  fun n e => ∑ k : Fin 256, x (ix2 n k) * w (ix2 k e)

theorem score_real {x : (⟨2, ![1024, 256]⟩ : Shape).Idx → EReal} {w : (⟨2, ![256, 64]⟩ : Shape).Idx → EReal}
    (hx : ∀ i, ∃ r : ℝ, x i = r) (hw : ∀ i, ∃ r : ℝ, w i = r) (n : Fin 1024) (e : Fin 64) : ∃ r : ℝ, score x w n e = r := by
  choose f hf using hx
  choose g hg using hw
  refine ⟨∑ k : Fin 256, f (ix2 n k) * g (ix2 k e), ?_⟩
  rw [← sum_coe]
  exact Finset.sum_congr rfl fun k _ => by rw [hf, hg, EReal.coe_mul]

/-- Whether a row is sent to an expert, as a number. -/
def hot (i : BitVec 32) (e : Fin 64) : EReal := if i = BitVec.ofNat 32 e.val then 1 else 0

theorem hot_eq (i : BitVec 32) (e : Fin 64) :
    (FloatOps.sitofp (F := Ideal) .f32 ((IntOp.cmpi .eq i (BitVec.ofNat 32 e.val)).setWidth 32) : EReal) = hot i e := by
  show (((((IntOp.cmpi .eq i (BitVec.ofNat 32 e.val)).setWidth 32).toInt : ℤ) : ℝ) : EReal) = _
  unfold hot
  by_cases h : i = BitVec.ofNat 32 e.val
  · rw [if_pos h, h]; simp [IntOp.cmpi]
  · rw [if_neg h]; have hb : (i == BitVec.ofNat 32 e.val) = false := by simpa using h
    simp [IntOp.cmpi, hb]

theorem hotK (idx : TC.Idx → BitVec 32) (hb : TC.Broadcasts T64) (hi) (hl) (n : Fin 1024) (e : Fin 64) :
    (sitofp (F := Ideal) .f32 (extui 32 (cmpi .eq (broadcastTo T64 idx hb) (iota .tc T64 32 [1] hi)) hl) (ix2 n e) : EReal)
      = hot (idx (ix2 n 0)) e := by
  rw [← hot_eq]
  show FloatOps.sitofp (F := Ideal) .f32 ((IntOp.cmpi .eq (broadcastTo T64 idx hb (ix2 n e)) (iota .tc T64 32 [1] hi (ix2 n e))).setWidth 32) = _
  rw [iota_single_apply, broadcastTo_apply _ _ (ix2 n e) (ix2 n (0 : Fin 1)) (fun a => by match a with | ⟨0, _⟩ => rfl | ⟨1, _⟩ => rfl)]

open Cert.KernelIdeal Cert.KernelIdeal.Gen in
theorem pay3_at (x : Vec Ideal S1024x256 .f32) (w : Vec Ideal S256x64 .f32) (idx : Vec Ideal S1024x1 .i32) (n : Fin 1024) (u : Fin 1) :
    k0_pay3 x w idx (ix2 n u) = ∑ e : Fin 64, soft (score x w) n e * hot (idx (ix2 n 0)) e := by
  unfold k0_pay3 k0_pay1 k0_pay2
  simp only [shapeCast_self]
  rw [shapeCast_a_a1_apply]
  refine (Ideal.multiReduction_add_single _ _ _ _ _ _).trans ?_
  refine Finset.sum_congr rfl fun e _ => ?_
  refine (congrArg _ (lift_row _ n e)).trans ?_
  refine congrArg₂ (· * ·) ((softK _ _ _ _ _ _ _ n e).trans ?_) ?_
  · refine congrArg (fun s => soft s n e) (funext fun n => funext fun e => ?_)
    refine (Ideal.matmul_plain_apply none _ _ _ n e).trans ?_
    rw [constant_apply, Ideal.ofBits_zero_f32, zero_add]; rfl
  · exact hotK idx _ _ _ n e

end Cert.Moe
end
-- ==== Proof.Experts.lean ====
/- What a device's experts give, over the extended reals: for each row and column the sum, over the device's four experts,
   of the rows' products scaled by the row's gate. -/
module

public import proofs.«01_k».proof.Proof.Softmax

@[expose] public section

noncomputable section

namespace Cert.Moe

open Cert.KernelIdeal Cert.KernelIdeal.Gen
open Idealize.ShloMosaic Idealize.ShloMosaic.TcCoe Idealize.ShloMosaic.ValueIdx
open scoped BigOperators

/-- The number that scales a row for the expert of number `wd`. -/
def coef (i : BitVec 32) (p : EReal) (wd : BitVec 32) : EReal := if i = wd then p else 0

theorem select_coef (i wd : BitVec 32) (p z : EReal) (hz : z = 0) : Scalar.select (IntOp.cmpi .eq i wd) p z = coef i p wd := by
  unfold coef
  by_cases h : i = wd
  · rw [if_pos h, h]; simp [IntOp.cmpi, Scalar.select]
  · have hb : (i == wd) = false := by simpa using h
    rw [if_neg h]; simp [IntOp.cmpi, Scalar.select, hb, hz]

/-- One expert's share of a row and column. -/
def term (x : S1024x256.Idx → EReal) (idx : S1024x1.Idx → BitVec 32) (p : S1024x1.Idx → EReal) (wd : BitVec 32) (W : S1x256x256.Idx → EReal)
    (n : Fin 1024) (j : Fin 256) : EReal :=
  ∑ k : Fin 256, x (ix2 n k) * coef (idx (ix2 n 0)) (p (ix2 n 0)) wd * W (ix3 0 k j)

theorem scaled_at (x : FVec Ideal S1024x256 .f32) (idx : IVec S1024x1 32) (p : FVec Ideal S1024x1 .f32) (wd : BitVec 32) (n : Fin 1024) (k : Fin 256) :
    mulf x (broadcastTo S1024x256 (select (cmpi .eq idx (broadcast S1024x1 wd)) p (broadcast S1024x1 (Scalar.ofBits .f32 0x00000000#32)))
      broadcasts_S1024x1_S1024x256) (ix2 n k) = x (ix2 n k) * coef (idx (ix2 n 0)) (p (ix2 n 0)) wd := by
  refine congrArg (x (ix2 n k) * ·) ?_
  refine (broadcastTo_apply _ _ (ix2 n k) (ix2 n (0 : Fin 1)) (fun a => by match a with | ⟨0, _⟩ => rfl | ⟨1, _⟩ => rfl)).trans ?_
  exact select_coef _ _ _ _ Ideal.ofBits_zero_f32

theorem term_at (x : FVec Ideal S1024x256 .f32) (idx : IVec S1024x1 32) (p : FVec Ideal S1024x1 .f32) (wd : BitVec 32) (W : FVec Ideal S1x256x256 .f32)
    (n : Fin 1024) (j : Fin 256) :
    matmul dot_S1024x256_S256x256_S1024x256_1_0_0_1_n_n none
      (mulf x (broadcastTo S1024x256 (select (cmpi .eq idx (broadcast S1024x1 wd)) p (broadcast S1024x1 (Scalar.ofBits .f32 0x00000000#32)))
        broadcasts_S1024x1_S1024x256)) (shapeCast S256x256 W shapeCasts_S1x256x256_S256x256) (constant S1024x256 .f32 0x00000000#32) (ix2 n j)
      = term x idx p wd W n j := by
  refine (Ideal.matmul_plain_apply none _ _ _ n j).trans ?_
  rw [constant_apply, Ideal.ofBits_zero_f32, zero_add]
  refine Finset.sum_congr rfl fun k _ => ?_
  rw [scaled_at, shapeCast_1ab_ab_apply]

/-- The four experts' shares, for one half of the columns. -/
def four (x : S1024x256.Idx → EReal) (idx : S1024x1.Idx → BitVec 32) (p : S1024x1.Idx → EReal) (wd : Fin 4 → BitVec 32)
    (W : Fin 4 → S1x256x256.Idx → EReal) (n : Fin 1024) (j : Fin 256) : EReal := ∑ e, term x idx p (wd e) (W e) n j

/-- The numbers of a device's experts, as the kernel computes them. -/
def wordOf (c : Dev nD) (e : Fin 4) : BitVec 32 := BitVec.ofNat 32 (4 * c.val + e.val)

theorem wordOf_0 (c : Dev nD) : Scalar.addi (Scalar.muli (meW c) 4#32) 0#32 = wordOf c 0 := by revert c; decide
theorem wordOf_1 (c : Dev nD) : Scalar.addi (Scalar.muli (meW c) 4#32) 1#32 = wordOf c 1 := by revert c; decide
theorem wordOf_2 (c : Dev nD) : Scalar.addi (Scalar.muli (meW c) 4#32) 2#32 = wordOf c 2 := by revert c; decide
theorem wordOf_3 (c : Dev nD) : Scalar.addi (Scalar.muli (meW c) 4#32) 3#32 = wordOf c 3 := by revert c; decide

theorem sum_four (f : Fin 4 → EReal) : Ideal.ofBits .f32 0x00000000#32 + f 0 + f 1 + f 2 + f 3 = ∑ e, f e := by
  rw [Ideal.ofBits_zero_f32, zero_add, Fin.sum_univ_four]

section Devices
variable (m : (ℓ : Loc nD τ sig) → Buf (Elt Ideal) ℓ)

theorem give0_at (c : Dev nD) (n : Fin 1024) (j : Fin 256) :
    prod0 m c (ix3 0 n j) = four (xin m c) (idxin m c) (prob m c) (wordOf c) (fun e => ewCut m c e 0) n j := by
  unfold prod0 k0_pay8 k0_pay7 k0_pay6 k0_pay5 k0_pay4 k0_pay2 k0_pay1
  simp only [shapeCast_self, wordOf_0, wordOf_1, wordOf_2, wordOf_3]
  rw [shapeCast_ab_1ab_apply]
  simp only [addf_apply, term_at]
  exact sum_four fun e => term (xin m c) (idxin m c) (prob m c) (wordOf c e) (ewCut m c e 0) n j

theorem give1_at (c : Dev nD) (n : Fin 1024) (j : Fin 256) :
    prod1 m c (ix3 0 n j) = four (xin m c) (idxin m c) (prob m c) (wordOf c) (fun e => ewCut m c e 1) n j := by
  unfold prod1 k0_pay13 k0_pay12 k0_pay11 k0_pay10 k0_pay9 k0_pay2 k0_pay1
  simp only [shapeCast_self, wordOf_0, wordOf_1, wordOf_2, wordOf_3]
  rw [shapeCast_ab_1ab_apply]
  simp only [addf_apply, term_at]
  exact sum_four fun e => term (xin m c) (idxin m c) (prob m c) (wordOf c e) (ewCut m c e 1) n j

end Devices

end Cert.Moe
end
-- ==== Proof.Sums.lean ====
/- The devices' products summed: every device's sum is the sum over all devices, hence over all experts. -/
module

public import proofs.«01_k».proof.Proof.Experts

@[expose] public section

noncomputable section

namespace Cert.Moe

open Cert.KernelIdeal Cert.KernelIdeal.Gen
open Idealize.ShloMosaic Idealize.ShloMosaic.TcCoe Idealize.ShloMosaic.ValueIdx
open scoped BigOperators

/-! ## The model -/

/-- What scales an expert's product of a row: the row's probability of its expert, for that expert alone. -/
def gate (x : S1024x256.Idx → EReal) (w : S256x64.Idx → EReal) (idx : S1024x1.Idx → BitVec 32) (n : Fin 1024) (e : Fin 64) : EReal :=
  if idx (ix2 n 0) = BitVec.ofNat 32 e.val then soft (score x w) n e else 0

/-- One expert's share of a row and a column of the result. -/
def share (x : S1024x256.Idx → EReal) (w : S256x64.Idx → EReal) (idx : S1024x1.Idx → BitVec 32)
    (E : (⟨3, ![64, 256, 512]⟩ : Shape).Idx → EReal) (n : Fin 1024) (j : Fin 512) (e : Fin 64) : EReal :=
  gate x w idx n e * ∑ k : Fin 256, E (ix3 e k j) * x (ix2 n k)

theorem gate_tame {x : S1024x256.Idx → EReal} {w : S256x64.Idx → EReal} (hx : ∀ i, ∃ r : ℝ, x i = r) (hw : ∀ i, ∃ r : ℝ, w i = r)
    (idx : S1024x1.Idx → BitVec 32) (n : Fin 1024) (e : Fin 64) : Tame (gate x w idx n e) := by
  unfold gate
  split
  · exact soft_tame (fun e => score_real hx hw n e) e
  · exact tame_zero

theorem word_inj {e e' : Fin 64} (h : BitVec.ofNat 32 e.val = BitVec.ofNat 32 e'.val) : e = e' := by
  have := congrArg BitVec.toNat h
  rw [BitVec.toNat_ofNat, BitVec.toNat_ofNat, Nat.mod_eq_of_lt (by omega), Nat.mod_eq_of_lt (by omega)] at this
  exact Fin.ext this

theorem coef_gate (x : S1024x256.Idx → EReal) (w : S256x64.Idx → EReal) (idx : S1024x1.Idx → BitVec 32) (n : Fin 1024) (e : Fin 64) :
    coef (idx (ix2 n 0)) (∑ e : Fin 64, soft (score x w) n e * hot (idx (ix2 n 0)) e) (BitVec.ofNat 32 e.val) = gate x w idx n e := by
  unfold coef gate
  by_cases h : idx (ix2 n 0) = BitVec.ofNat 32 e.val
  · rw [if_pos h, if_pos h, Finset.sum_eq_single e]
    · unfold hot; rw [if_pos h, mul_one]
    · intro e' _ hne
      unfold hot
      rw [if_neg (fun h' => hne (word_inj (h'.symm.trans h))), mul_zero]
    · exact fun h => absurd (Finset.mem_univ _) h
  · rw [if_neg h, if_neg h]

theorem term_share {x : S1024x256.Idx → EReal} {w : S256x64.Idx → EReal} (hx : ∀ i, ∃ r : ℝ, x i = r) (hw : ∀ i, ∃ r : ℝ, w i = r)
    (idx : S1024x1.Idx → BitVec 32) (E : (⟨3, ![64, 256, 512]⟩ : Shape).Idx → EReal) (p : S1024x1.Idx → EReal) (W : S1x256x256.Idx → EReal)
    (n : Fin 1024) (j : Fin 256) (J : Fin 512) (e : Fin 64)
    (hp : p (ix2 n 0) = ∑ e : Fin 64, soft (score x w) n e * hot (idx (ix2 n 0)) e)
    (hW : ∀ k : Fin 256, W (ix3 0 k j) = E (ix3 e k J)) :
    term x idx p (BitVec.ofNat 32 e.val) W n j = share x w idx E n J e := by
  unfold term share
  rw [hp, coef_gate, tame_mul_sum (gate_tame hx hw idx n e)]
  refine Finset.sum_congr rfl fun k _ => ?_
  rw [hW k]
  ac_rfl

/-! ## One device -/

/-- The expert `e` of device `c`, among all. -/
def expertOf (c : Dev nD) (e : Fin 4) : Fin 64 := ⟨4 * c.val + e.val, by have : c.val < 16 := c.isLt; omega⟩

/-- A column of a half, among all. -/
def colOf (h : Fin 2) (j : Fin 256) : Fin 512 := ⟨h.val * 256 + j.val, by omega⟩

/-- The devices hold the arrays: the experts split over the devices, the rest on every device. -/
structure Held (m : (ℓ : Loc nD τ sig) → Buf (Elt Ideal) ℓ) (x : S1024x256.Idx → EReal) (w : S256x64.Idx → EReal)
    (idx : S1024x1.Idx → BitVec 32) (E : (⟨3, ![64, 256, 512]⟩ : Shape).Idx → EReal) (s : S256x512.Idx → EReal) : Prop where
  x_eq : ∀ c, xin m c = x
  w_eq : ∀ c, rwin m c = w
  idx_eq : ∀ c, idxin m c = idx
  e_eq : ∀ c (e : Fin 4) (k : Fin 256) (j : Fin 512), ewin m c (ix3 e k j) = E (ix3 (expertOf c e) k j)
  s_eq : ∀ c, swin m c = s
  x_real : ∀ i, ∃ r : ℝ, x i = r
  w_real : ∀ i, ∃ r : ℝ, w i = r

section Devices
variable {m : (ℓ : Loc nD τ sig) → Buf (Elt Ideal) ℓ} {x : S1024x256.Idx → EReal} {w : S256x64.Idx → EReal}
  {idx : S1024x1.Idx → BitVec 32} {E : (⟨3, ![64, 256, 512]⟩ : Shape).Idx → EReal} {s : S256x512.Idx → EReal}

theorem ewCut_at (c : Dev nD) (e : Fin 4) (h : Fin 2) (k j : Fin 256) : ewCut m c e h (ix3 0 k j) = ewin m c (ix3 e k (colOf h j)) := by
  unfold ewCut
  refine congrArg (ewin m c) ?_
  funext a; match a with | ⟨0, _⟩ => rfl | ⟨1, _⟩ => rfl | ⟨2, _⟩ => rfl

theorem four_at (hm : Held m x w idx E s) (c : Dev nD) (h : Fin 2) (n : Fin 1024) (j : Fin 256) :
    four (xin m c) (idxin m c) (prob m c) (wordOf c) (fun e => ewCut m c e h) n j = ∑ e : Fin 4, share x w idx E n (colOf h j) (expertOf c e) := by
  unfold four
  refine Finset.sum_congr rfl fun e _ => ?_
  rw [hm.x_eq, hm.idx_eq]
  refine term_share hm.x_real hm.w_real idx E _ _ n j (colOf h j) (expertOf c e) ?_ fun k => ?_
  · unfold prob; rw [hm.x_eq, hm.w_eq, hm.idx_eq]; exact pay3_at x w idx n 0
  · exact (ewCut_at c e h k j).trans (hm.e_eq c e k _)

/-- A device's products. -/
theorem A0_at (hm : Held m x w idx E s) (c : Dev nD) (h : Fin 2) (n : Fin 1024) (j : Fin 256) :
    A0 m c (pos h n j) = ∑ e : Fin 4, share x w idx E n (colOf h j) (expertOf c e) := by
  have hr : row3 (pos h n j) = ix3 0 n j := by funext a; match a with | ⟨0, _⟩ => rfl | ⟨1, _⟩ => rfl | ⟨2, _⟩ => rfl
  unfold A0
  rw [hr, give0_at, give1_at, four_at hm, four_at hm]
  match h with
  | ⟨0, _⟩ => exact if_pos rfl
  | ⟨1, _⟩ => exact if_neg (by decide : ¬ ((1 : Fin 2).val = 0))

/-! ## All devices -/

/-- The devices a reduction step adds: itself and its partners. -/
def ringOf (r : Fin 4) (c : Dev nD) : Dev nD := match r with | 0 => c | 1 => partner 0 c | 2 => partner 1 c | 3 => partner 2 c
def hop (p : Fin 5) (a : Fin 2) (c : Dev nD) : Dev nD := match a with | 0 => c | 1 => partner p c

theorem order_A (c : Dev nD) : Function.Bijective fun p : Fin 2 × Fin 2 × Fin 4 => ringOf p.2.2 (hop 3 p.2.1 (hop 4 p.1 c)) := by
  rw [Fintype.bijective_iff_injective_and_card]
  exact ⟨by revert c; decide +kernel, rfl⟩
theorem order_B (c : Dev nD) : Function.Bijective fun p : Fin 4 × Fin 2 × Fin 2 => hop 3 p.2.2 (hop 4 p.2.1 (ringOf p.1 c)) := by
  rw [Fintype.bijective_iff_injective_and_card]
  exact ⟨by revert c; decide +kernel, rfl⟩

theorem A3_sum (c : Dev nD) (i : BIx) : A3 m c i = ∑ d : Dev nD, (A0 m d i : EReal) := by
  have h1 : ∀ c, (A1 m c i : EReal) = ∑ r : Fin 4, (A0 m (ringOf r c) i : EReal) := fun c => by
    rw [Fin.sum_univ_four]; rfl
  have h2 : ∀ c, (A2 m c i : EReal) = ∑ a : Fin 2, ∑ r : Fin 4, (A0 m (ringOf r (hop 3 a c)) i : EReal) := fun c => by
    rw [Fin.sum_univ_two, ← h1, ← h1]; rfl
  have h3 : (A3 m c i : EReal) = ∑ b : Fin 2, ∑ a : Fin 2, ∑ r : Fin 4, (A0 m (ringOf r (hop 3 a (hop 4 b c))) i : EReal) := by
    rw [Fin.sum_univ_two, ← h2, ← h2]; rfl
  refine h3.trans (Eq.trans ?_ ((order_A c).sum_comp fun d => (A0 m d i : EReal)))
  rw [Fintype.sum_prod_type]
  refine Finset.sum_congr rfl fun b _ => ?_
  rw [Fintype.sum_prod_type]

theorem B3_sum (c : Dev nD) (i : BIx) : B3 m c i = ∑ d : Dev nD, (A0 m d i : EReal) := by
  have h1 : ∀ c, (B1 m c i : EReal) = ∑ a : Fin 2, (A0 m (hop 3 a c) i : EReal) := fun c => by
    rw [Fin.sum_univ_two]; rfl
  have h2 : ∀ c, (B2 m c i : EReal) = ∑ b : Fin 2, ∑ a : Fin 2, (A0 m (hop 3 a (hop 4 b c)) i : EReal) := fun c => by
    rw [Fin.sum_univ_two, ← h1, ← h1]; rfl
  have h3 : (B3 m c i : EReal) = ∑ r : Fin 4, ∑ b : Fin 2, ∑ a : Fin 2, (A0 m (hop 3 a (hop 4 b (ringOf r c))) i : EReal) := by
    rw [Fin.sum_univ_four, ← h2, ← h2, ← h2, ← h2]; rfl
  refine h3.trans (Eq.trans ?_ ((order_B c).sum_comp fun d => (A0 m d i : EReal)))
  rw [Fintype.sum_prod_type]
  refine Finset.sum_congr rfl fun b _ => ?_
  rw [Fintype.sum_prod_type]

theorem experts_sum (f : Fin 64 → EReal) : ∑ d : Dev nD, ∑ e : Fin 4, f (expertOf d e) = ∑ e : Fin 64, f e := by
  have hb : Function.Bijective fun p : Dev nD × Fin 4 => expertOf p.1 p.2 := by
    rw [Fintype.bijective_iff_injective_and_card]
    refine ⟨fun p q h => ?_, rfl⟩
    have h' : 4 * p.1.val + p.2.val = 4 * q.1.val + q.2.val := congrArg Fin.val h
    exact Prod.ext (Fin.ext (by omega)) (Fin.ext (by omega))
  rw [← hb.sum_comp f, Fintype.sum_prod_type]

theorem A0_sum (hm : Held m x w idx E s) (h : Fin 2) (n : Fin 1024) (j : Fin 256) :
    ∑ d : Dev nD, (A0 m d (pos h n j) : EReal) = ∑ e : Fin 64, share x w idx E n (colOf h j) e := by
  rw [← experts_sum]
  exact Finset.sum_congr rfl fun d _ => A0_at hm d h n j

/-! ## The finished rows -/

/-- A row and column of the result: the shared expert's product, and every expert's share. -/
def total (x : S1024x256.Idx → EReal) (w : S256x64.Idx → EReal) (idx : S1024x1.Idx → BitVec 32)
    (E : (⟨3, ![64, 256, 512]⟩ : Shape).Idx → EReal) (s : S256x512.Idx → EReal) (n : Fin 1024) (J : Fin 512) : EReal :=
  (∑ k : Fin 256, x (ix2 n k) * s (ix2 k J)) + ∑ e : Fin 64, share x w idx E n J e

theorem finished_at (a : Vec Ideal S1x64x256 .f32) (b : Vec Ideal S64x256 .f32) (s : Vec Ideal S256x256 .f32) (r : Fin 64) (j : Fin 256) :
    k0_pay25 a b s (ix3 0 r j) = a (ix3 0 r j) + ∑ k : Fin 256, b (ix2 r k) * s (ix2 k j) := by
  unfold k0_pay25
  simp only [shapeCast_self]
  rw [shapeCast_ab_1ab_apply]
  refine congrArg₂ (fun a b : EReal => a + b) (shapeCast_1ab_ab_apply a _ r j) ?_
  refine (Ideal.matmul_plain_apply none _ _ _ r j).trans ?_
  rw [constant_apply, Ideal.ofBits_zero_f32, zero_add]

theorem lo0_own0 : ∀ b : Fin 16, lo0 (own0 b.val) = b.val := by decide
theorem lo1_own1 : ∀ b : Fin 16, lo1 (own1 b.val) = b.val := by decide

theorem seg_row (h : Fin 2) (n : Fin 1024) (j : Fin 256) : seg h.val (n.val / 64) (n.val % 64) j.val = pos h n j := by
  refine Shape.idx3_ext ?_ ?_ ?_
  · show h.val % 2 = h.val; omega
  · show (n.val / 64 * 64 + n.val % 64) % 1024 = n.val; omega
  · show j.val % 256 = j.val; omega

theorem shared_at (hm : Held m x w idx E s) (c : Dev nD) (h : Fin 2) (n : Fin 1024) (j : Fin 256) :
    (∑ k : Fin 256, (xCut m c (n.val / 64) (ix2 (⟨n.val % 64, Nat.mod_lt _ (by decide)⟩ : Fin 64) k) : EReal) * swCut m c h (ix2 k j))
      = ∑ k : Fin 256, x (ix2 n k) * s (ix2 k (colOf h j)) := by
  refine Finset.sum_congr rfl fun k _ => ?_
  unfold xCut swCut
  rw [hm.x_eq, hm.s_eq]
  refine congrArg₂ (fun a b : EReal => a * b) (congrArg x ?_) (congrArg s ?_)
  · funext a
    match a with
    | ⟨0, _⟩ => exact Fin.ext (by show (n.val / 64 * 64 + n.val % 64) % 1024 = n.val; omega)
    | ⟨1, _⟩ => rfl
  · funext a; match a with | ⟨0, _⟩ => rfl | ⟨1, _⟩ => rfl

/-- A finished row, once its block's sums and the shared expert's product are read. -/
theorem block_at (hm : Held m x w idx E s) (c : Dev nD) (h : Fin 2) (l : ℕ) (f : BIx → EReal) (n : Fin 1024) (j : Fin 256) (hl : l = n.val / 64)
    (hf : ∀ i, f i = ∑ d : Dev nD, (A0 m d i : EReal)) :
    k0_pay25 (F := Ideal) (cut64 (F := Ideal) h.val l f) (xCut m c l) (swCut m c h) (row64 (pos h n j)) = total x w idx E s n (colOf h j) := by
  subst hl
  have hr : row64 (pos h n j) = ix3 0 (⟨n.val % 64, Nat.mod_lt _ (by decide)⟩ : Fin 64) j := by
    funext a; match a with | ⟨0, _⟩ => rfl | ⟨1, _⟩ => rfl | ⟨2, _⟩ => rfl
  rw [hr, finished_at, shared_at hm]
  refine (add_comm _ _).trans (congrArg (fun a : EReal => (∑ k : Fin 256, x (ix2 n k) * s (ix2 k (colOf h j))) + a) ?_)
  refine Eq.trans ?_ (A0_sum hm h n j)
  exact (congrArg f (seg_row h n j)).trans (hf _)

theorem GF_at (hm : Held m x w idx E s) (h : Fin 2) (n : Fin 1024) (j : Fin 256) :
    GF m (pos h n j) = total x w idx E s n (colOf h j) := by
  have hb : n.val / 64 < 16 := by omega
  match h with
  | ⟨0, _⟩ =>
    refine (if_pos rfl).trans ?_
    exact block_at hm (own0 (n.val / 64)) 0 _ (A3 m _) n j (lo0_own0 ⟨n.val / 64, hb⟩) (A3_sum _)
  | ⟨1, _⟩ =>
    refine (if_neg (by decide : ¬ ((1 : Fin 2).val = 0))).trans ?_
    exact block_at hm (own1 (n.val / 64)) 1 _ (B3 m _) n j (lo1_own1 ⟨n.val / 64, hb⟩) (B3_sum _)

/-- The kernel's result at a row and a column. -/
theorem outVal_at (hm : Held m x w idx E s) (n : Fin 1024) (J : Fin 512) : outVal m (ix2 n J) = total x w idx E s n J := by
  unfold outVal
  split
  · rename_i h
    refine (GF_at hm 0 n ⟨J.val, h⟩).trans (congrArg (total x w idx E s n) (Fin.ext ?_))
    show 0 * 256 + J.val = J.val; omega
  · rename_i h
    have h' : ¬ J.val < 256 := h
    refine (GF_at hm 1 n ⟨J.val - 256, by omega⟩).trans (congrArg (total x w idx E s n) (Fin.ext ?_))
    show 1 * 256 + (J.val - 256) = J.val; omega

end Devices

end Cert.Moe
end
-- ==== Proof.RefValue.lean ====
/- The reference's result at a row and a column, over the extended reals. -/
module

public import proofs.«01_k».proof.Proof.Sums
public import Idealize.ShloMosaic.Lib.StackMember

@[expose] public section

noncomputable section

namespace Cert.Moe.Ref

open Cert.ReferenceIdeal Cert.ReferenceIdeal.Facts₀ Cert.ReferenceIdeal.Facts
open Idealize.ShloMosaic Idealize.ShloMosaic.TcCoe Idealize.ShloMosaic.ValueIdx
open scoped BigOperators

variable [Cert.ReferenceIdeal.Facts]

/-! ## The three products -/

theorem scores_at (x : FVec Ideal S1024x256 .f32) (w : FVec Ideal S256x64 .f32) (n : Fin 1024) (e : Fin 64) :
    Host.dotGeneral dot_S1024x256_S256x64_S1024x64_1_0_0_1_n_n none x w (ix2 n e) = score x w n e :=
  StackMember.dotGeneral_plain_apply none x w n e

theorem shared_at (x : FVec Ideal S1024x256 .f32) (s : FVec Ideal S256x512 .f32) (n : Fin 1024) (j : Fin 512) :
    Host.dotGeneral dot_S1024x256_S256x512_S1024x512_1_0_0_1_n_n none x s (ix2 n j) = ∑ k : Fin 256, x (ix2 n k) * s (ix2 k j) :=
  StackMember.dotGeneral_plain_apply none x s n j

theorem experts_at (E : FVec Ideal S64x256x512 .f32) (x : FVec Ideal S1024x256 .f32) (e : Fin 64) (j : Fin 512) (n : Fin 1024) :
    Host.dotGeneral dot_S64x256x512_S1024x256_S64x512x1024_1_1_02_0_n_n none E x (ix3 e j n) = ∑ k : Fin 256, E (ix3 e k j) * x (ix2 n k) := by
  show FloatOps.dotGeneral _ none _ E x (ix3 e j n) = _
  rw [Ideal.dotGeneral_apply,
    ← Equiv.sum_comp (contrEquiv1 dot_S64x256x512_S1024x256_S64x512x1024_1_1_02_0_n_n 256 rfl rfl).symm]
  refine Finset.sum_congr rfl fun k _ => ?_
  have hk := contrEquiv1_symm_val dot_S64x256x512_S1024x256_S64x512x1024_1_1_02_0_n_n 256 rfl rfl k
  refine congrArg₂ (fun a b : EReal => a * b) (congrArg E ?_) (congrArg x ?_)
  · funext a; apply Fin.ext
    match a with
    | ⟨0, _⟩ => rfl
    | ⟨1, _⟩ => exact hk
    | ⟨2, _⟩ => rfl
  · funext a; apply Fin.ext
    match a with
    | ⟨0, _⟩ => rfl
    | ⟨1, _⟩ => exact hk

theorem gated_at (g : FVec Ideal S1024x64 .f32) (T : FVec Ideal S64x1024x512 .f32) (n : Fin 1024) (j : Fin 512) :
    Host.dotGeneral dot_S1024x64_S64x1024x512_S1024x512_1_0_n_2_0_1 none g T (ix2 n j) = ∑ e : Fin 64, g (ix2 n e) * T (ix3 e n j) := by
  show FloatOps.dotGeneral _ none _ g T (ix2 n j) = _
  rw [Ideal.dotGeneral_apply,
    ← Equiv.sum_comp (contrEquiv1 dot_S1024x64_S64x1024x512_S1024x512_1_0_n_2_0_1 64 rfl rfl).symm]
  refine Finset.sum_congr rfl fun e _ => ?_
  have hk := contrEquiv1_symm_val dot_S1024x64_S64x1024x512_S1024x512_1_0_n_2_0_1 64 rfl rfl e
  refine congrArg₂ (fun a b : EReal => a * b) (congrArg g ?_) (congrArg T ?_)
  · funext a; apply Fin.ext
    match a with
    | ⟨0, _⟩ => rfl
    | ⟨1, _⟩ => exact hk
  · funext a; apply Fin.ext
    match a with
    | ⟨0, _⟩ => exact hk
    | ⟨1, _⟩ => rfl
    | ⟨2, _⟩ => rfl

/-! ## The gate -/

/-- The gates of every row and expert, from the probabilities. -/
def gates (p : FVec Ideal S1024x64 .f32) (idx : IVec S1024x1 32) : FVec Ideal S1024x64 .f32 :=
  select (cmpi .eq (broadcastInDim S1024x64 ![0, 1] bcast_S1024x1_S1024x64_0_1 idx)
    (broadcastInDim S1024x64 ![0, 1] bcast_S1x64_S1024x64_0_1 (broadcastInDim S1x64 ![1] bcast_S64_S1x64_1 (iotaInDim S64 32 0))))
    p (broadcastInDim S1024x64 ![] bcast_S_S1024x64 (id (constant S_ .f32 0x00000000#32)))

theorem gates_at (p : FVec Ideal S1024x64 .f32) (idx : IVec S1024x1 32) (n : Fin 1024) (e : Fin 64) :
    gates p idx (ix2 n e) = if idx (ix2 n 0) = BitVec.ofNat 32 e.val then p (ix2 n e) else 0 := by
  have h1 : broadcastInDim S1024x64 ![0, 1] bcast_S1024x1_S1024x64_0_1 idx (ix2 n e) = idx (ix2 n 0) :=
    broadcastInDim_apply _ _ _ (ix2 n e) (ix2 n (0 : Fin 1)) (fun a => by match a with | ⟨0, _⟩ => rfl | ⟨1, _⟩ => rfl)
  have h2 : broadcastInDim S1024x64 ![0, 1] bcast_S1x64_S1024x64_0_1 (broadcastInDim S1x64 ![1] bcast_S64_S1x64_1 (iotaInDim S64 32 0)) (ix2 n e)
      = BitVec.ofNat 32 e.val :=
    (broadcastInDim_apply _ _ _ (ix2 n e) (ix2 (0 : Fin 1) e) (fun a => by match a with | ⟨0, _⟩ => rfl | ⟨1, _⟩ => rfl)).trans
      (broadcastInDim_apply _ _ _ (ix2 (0 : Fin 1) e) (ix1 e) (fun a => by match a with | ⟨0, _⟩ => rfl))
  have h3 : broadcastInDim S1024x64 ![] bcast_S_S1024x64 (id (constant (F := Ideal) S_ .f32 0x00000000#32)) (ix2 n e) = (0 : EReal) :=
    (broadcastInDim_scalar_apply _ _ _).trans Ideal.ofBits_zero_f32
  refine Eq.trans ?_ (select_coef (idx (ix2 n 0)) (BitVec.ofNat 32 e.val) (p (ix2 n e)) _ h3)
  exact congrArg₂ (fun a b => Scalar.select (IntOp.cmpi .eq a b) (p (ix2 n e)) _) h1 h2

/-! ## The result -/

/-- The probabilities of every row and expert. -/
def probs (x : FVec Ideal S1024x256 .f32) (w : FVec Ideal S256x64 .f32) : FVec Ideal S1024x64 .f32 :=
  let sc := Host.dotGeneral dot_S1024x256_S256x64_S1024x64_1_0_0_1_n_n none x w
  let ex := Host.exp (subf sc (broadcastInDim S1024x64 ![0, 1] bcast_S1024x1_S1024x64_0_1 (broadcastInDim S1024x1 ![0] bcast_S1024_S1024x1_0
    (Host.reduce FloatOps.maximumf sc (constant S_ .f32 0xFF800000#32) reducesTo_S1024x64_S1024_d1 h_S_))))
  Host.divf ex (broadcastInDim S1024x64 ![0, 1] bcast_S1024x1_S1024x64_0_1 (broadcastInDim S1024x1 ![0] bcast_S1024_S1024x1_0
    (Host.reduceAdd ex (constant S_ .f32 0x00000000#32) reducesTo_S1024x64_S1024_d1 h_S_)))

theorem probs_at (x : FVec Ideal S1024x256 .f32) (w : FVec Ideal S256x64 .f32) (n : Fin 1024) (e : Fin 64) :
    probs x w (ix2 n e) = soft (score x w) n e := by
  refine (softH _ _ _ _ _ n e).trans (congrArg (fun s => soft s n e) ?_)
  funext n e
  exact scores_at x w n e

/-- The reference's result, of its five arrays. -/
def out (x : FVec Ideal S1024x256 .f32) (w : FVec Ideal S256x64 .f32) (idx : IVec S1024x1 32) (E : FVec Ideal S64x256x512 .f32)
    (s : FVec Ideal S256x512 .f32) : FVec Ideal S1024x512 .f32 :=
  addf (Host.dotGeneral dot_S1024x256_S256x512_S1024x512_1_0_0_1_n_n none x s)
    (Host.dotGeneral dot_S1024x64_S64x1024x512_S1024x512_1_0_n_2_0_1 none (gates (probs x w) idx)
      (transpose S64x1024x512 [0, 2, 1] (Host.dotGeneral dot_S64x256x512_S1024x256_S64x512x1024_1_1_02_0_n_n none E x)
        transposes_S64x512x1024_S64x1024x512_0_2_1))

theorem out_at (x : FVec Ideal S1024x256 .f32) (w : FVec Ideal S256x64 .f32) (idx : IVec S1024x1 32) (E : FVec Ideal S64x256x512 .f32)
    (s : FVec Ideal S256x512 .f32) (n : Fin 1024) (j : Fin 512) : out x w idx E s (ix2 n j) = total x w idx E s n j := by
  refine congrArg₂ (fun a b : EReal => a + b) (shared_at x s n j) ((gated_at _ _ n j).trans (Finset.sum_congr rfl fun e _ => ?_))
  refine congrArg₂ (fun a b : EReal => a * b) ?_ ?_
  · rw [gates_at, probs_at]; rfl
  · exact (transpose_ix3_021_apply _ _ e n j).trans (experts_at E x e j n)

end Cert.Moe.Ref
end
-- ==== Proof.Value.lean ====
/- The value claim: on finite rows and routing weights, every device's result is the reference's. -/
module

public import proofs.«01_k».proof.Proof.Run
public import proofs.«01_k».proof.Proof.RefFrame
public import proofs.«01_k».proof.Proof.RefValue

@[expose] public section

noncomputable section

namespace Cert.Moe

open Idealize.ShloMosaic Idealize.ShloMosaic.TcCoe Idealize.ShloMosaic.ValueIdx Idealize.SL.Sem

/-! ## The precondition -/

theorem pre_facts : Cert.Pre_finite_KernelIdeal.Facts := ⟨by decide, by decide⟩
theorem pre_facts_ref : Cert.Pre_finite_ReferenceIdeal.Facts := ⟨by decide, by decide⟩

/-- A number below infinity in absolute value is a real. -/
theorem real_of_finite {v z : EReal} (hz : z = ⊤) (h : Ideal.cmp .olt (max v (-v)) z = 1#1) : ∃ r : ℝ, v = r := by
  subst hz
  have hlt : max v (-v) < ⊤ := by
    by_contra hn
    have : Ideal.cmp .olt (max v (-v)) ⊤ = 0#1 := by simp [Ideal.cmp, hn]
    rw [this] at h
    exact absurd h (by decide)
  rw [max_lt_iff] at hlt
  have ht : v ≠ ⊤ := hlt.1.ne
  have hb : v ≠ ⊥ := fun h => absurd hlt.2 (by rw [h]; simp)
  exact ⟨v.toReal, (EReal.coe_toReal ht hb).symm⟩

theorem inf_top : Ideal.ofBits .f32 0x7F800000#32 = ⊤ := by simp [Ideal.ofBits, Ideal.ieee]

/-- Where the test of an array gives ones, the array's numbers are real. -/
theorem reals_of_ones {S : Shape} (v : FVec Ideal S .f32) (hb : (⟨0, ![]⟩ : Shape).BroadcastsInDim S ![])
    (h : cmpf .olt (Host.absf v) (broadcastInDim S ![] hb (constant (F := Ideal) ⟨0, ![]⟩ .f32 0x7F800000#32)) = fun _ => 1#1) (i : S.Idx) :
    ∃ r : ℝ, v i = r :=
  real_of_finite ((broadcastInDim_scalar_apply hb _ i).trans inf_top) (congrFun h i)

section
variable [Cert.ReferenceIdeal.Facts] [Cert.Pre_finite_KernelIdeal.Facts]

/-- The kernel's block of the experts is the reference's run of four. -/
theorem block_at_expert (E : (⟨3, ![64, 256, 512]⟩ : Shape).Idx → EReal) (c : Dev Cert.KernelIdeal.nD) (e : Fin 4) (k : Fin 256) (j : Fin 512) :
    Layout.block ⟨3, ![4, 256, 512]⟩ ⟨3, ![64, 256, 512]⟩ 0 16 c E (by decide) (ix3 e k j) = E (ix3 (expertOf c e) k j) := by
  refine congrArg E ?_
  funext a; apply Fin.ext
  match a with
  | ⟨0, _⟩ => exact congrArg (· + e.val) (Nat.mul_comm c.val 4)
  | ⟨1, _⟩ => rfl
  | ⟨2, _⟩ => rfl

theorem value [Cert.KernelIdeal.Facts] : Cert.algebraic_KernelIdeal_ReferenceIdeal_pre_finite_KernelIdeal := by
  intro m g m' g' hpre hin
  let x := m' (((0 : Dev Cert.ReferenceIdeal.nD).tc : Thread Cert.ReferenceIdeal.nD Cert.ReferenceIdeal.τ).loc Cert.ReferenceIdeal.main_arg0)
  let w := m' (((0 : Dev Cert.ReferenceIdeal.nD).tc : Thread Cert.ReferenceIdeal.nD Cert.ReferenceIdeal.τ).loc Cert.ReferenceIdeal.main_arg1)
  let idx := m' (((0 : Dev Cert.ReferenceIdeal.nD).tc : Thread Cert.ReferenceIdeal.nD Cert.ReferenceIdeal.τ).loc Cert.ReferenceIdeal.main_arg2)
  let E := m' (((0 : Dev Cert.ReferenceIdeal.nD).tc : Thread Cert.ReferenceIdeal.nD Cert.ReferenceIdeal.τ).loc Cert.ReferenceIdeal.main_arg3)
  let s := m' (((0 : Dev Cert.ReferenceIdeal.nD).tc : Thread Cert.ReferenceIdeal.nD Cert.ReferenceIdeal.τ).loc Cert.ReferenceIdeal.main_arg4)
  have held : Held m x w idx E s := {
    x_eq := fun c => (read_arg0 _).trans (hin c).1
    w_eq := fun c => (read_arg1 _).trans (hin c).2.1
    idx_eq := fun c => (read_arg2 _).trans (hin c).2.2.1
    e_eq := fun c e k j => (congrFun ((read_arg3 _).trans (hin c).2.2.2.1) (ix3 e k j)).trans (block_at_expert E c e k j)
    s_eq := fun c => (read_arg4 _).trans (hin c).2.2.2.2
    x_real := fun i => by
      obtain ⟨r, hr⟩ := reals_of_ones _ _ (hpre 0).1 i
      exact ⟨r, (congrFun (hin 0).1 i).symm.trans hr⟩
    w_real := fun i => by
      obtain ⟨r, hr⟩ := reals_of_ones _ _ (hpre 0).2 i
      exact ⟨r, (congrFun (hin 0).2.1 i).symm.trans hr⟩ }
  have hout : outVal m = Ref.out x w idx E s := funext fun i => by
    rw [eq_ix2 i]
    exact (outVal_at held (i 0) (i 1)).trans (Ref.out_at x w idx E s (i 0) (i 1)).symm
  refine ⟨Ref.out x w idx E s, ?_, ?_⟩
  · exact (θ_run Cert.KernelIdeal.defs _ _).mono (fun _ h c => ⟨(h.1 c).1.trans hout, (h.1 c).2⟩) (run_full (F := Ideal) m g)
  · exact (θ_run Cert.ReferenceIdeal.defs _ _).mono (fun _ h => h 0) (Cert.ReferenceIdeal.Value.run (F := Ideal) m' g')

end

/-! ## The frames on the inputs the value claim takes -/

theorem frame_ideal_finite [Cert.KernelIdeal.Facts] [Cert.Pre_finite_KernelIdeal.Facts] : Cert.quiescent_KernelIdeal_pre_finite_KernelIdeal :=
  fun m ρ _ => frame_ideal m ρ trivial

theorem frame_reference_finite [Cert.ReferenceIdeal.Facts] [Cert.Pre_finite_ReferenceIdeal.Facts] :
    Cert.quiescent_ReferenceIdeal_pre_finite_ReferenceIdeal := fun m ρ _ => frame_reference m ρ trivial

end Cert.Moe
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.RefFrame
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  have := Cert.Moe.pre_facts
  have := Cert.Moe.pre_facts_ref
  ⟨Cert.Kernel.Gen.facts, Cert.KernelIdeal.Gen.facts, Cert.ReferenceIdeal.Gen.facts, Cert.Moe.pre_facts, Cert.Moe.pre_facts_ref,
    Cert.Moe.frame_bits, Cert.Moe.frame_ideal, Cert.Moe.frame_ideal_finite, Cert.Moe.frame_reference, Cert.Moe.frame_reference_finite,
    trivial, Cert.Moe.value⟩

end Cert.Proof

end
